-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)) (v2 : (c : Dev Cert.KernelIdeal.nD) → Buf (Elt Ideal) ((c.tc : Thread Cert.KernelIdeal.nD Cert.KernelIdeal.τ).loc Cert.KernelIdeal.main_v55_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_v55_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v175) = v1 c
          ∧ r.2.mem ((c.tc : Thread Cert.ReferenceIdeal.nD Cert.ReferenceIdeal.τ).loc Cert.ReferenceIdeal.main_v177) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v31_1)) (v1 : (c : Dev Cert.Kernel4Ideal.nD) → Buf (Elt Ideal) ((c.tc : Thread Cert.Kernel4Ideal.nD Cert.Kernel4Ideal.τ).loc Cert.Kernel4Ideal.main_v31_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v31_1) = v0 c
          ∧ r.2.mem ((c.tc : Thread Cert.Kernel4Ideal.nD Cert.Kernel4Ideal.τ).loc Cert.Kernel4Ideal.main_v31_2) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v90) = v0 c
          ∧ r.2.mem ((c.tc : Thread Cert.Reference4Ideal.nD Cert.Reference4Ideal.τ).loc Cert.Reference4Ideal.main_v91) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S32768x9728 : Shape := ⟨2, ![32768, 9728]⟩
abbrev S1x64 : Shape := ⟨2, ![1, 64]⟩
abbrev S1x16 : Shape := ⟨2, ![1, 16]⟩
abbrev S_ : Shape := ⟨0, ![]⟩

class Facts : Prop where
  bitsLt_bf16_f32 : FTy.bits .bf16 < FTy.bits .f32
  bcast_S_S32768x9728 : S_.BroadcastsInDim S32768x9728 (![] : Fin 0 → Fin S32768x9728.rank)
  bcast_S_S1x64 : S_.BroadcastsInDim S1x64 (![] : Fin 0 → Fin S1x64.rank)
  bcast_S_S1x16 : S_.BroadcastsInDim S1x16 (![] : Fin 0 → Fin S1x16.rank)

variable [Facts]

def fn {F : FTy → Type} [FloatOps F] (main_arg0 : FVec F S32768x9728 .bf16) (main_arg1 : FVec F S1x64 .f32) (main_arg2 : FVec F S1x64 .f32) (main_arg3 : FVec F S1x16 .f32) : IVec S32768x9728 1 × IVec S1x64 1 × IVec S1x64 1 × IVec S1x16 1 :=
  let main_v0 : FVec F S32768x9728 .f32 := (extf .f32 · bitsLt_bf16_f32) main_arg0
  let main_v1 : FVec F S32768x9728 .f32 := Host.absf main_v0
  let main_cst : FVec F S_ .f32 := constant S_ .f32 0x7F800000#32
  let main_v2 : FVec F S32768x9728 .f32 := broadcastInDim S32768x9728 ![] bcast_S_S32768x9728 main_cst
  let main_v3 : IVec S32768x9728 1 := cmpf .olt main_v1 main_v2
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_v7 : FVec F S1x64 .f32 := Host.absf main_arg2
  let main_cst_1 : FVec F S_ .f32 := constant S_ .f32 0x7F800000#32
  let main_v8 : FVec F S1x64 .f32 := broadcastInDim S1x64 ![] bcast_S_S1x64 main_cst_1
  let main_v9 : IVec S1x64 1 := cmpf .olt main_v7 main_v8
  let main_v10 : FVec F S1x16 .f32 := Host.absf main_arg3
  let main_cst_2 : FVec F S_ .f32 := constant S_ .f32 0x7F800000#32
  let main_v11 : FVec F S1x16 .f32 := broadcastInDim S1x16 ![] bcast_S_S1x16 main_cst_2
  let main_v12 : IVec S1x16 1 := cmpf .olt main_v10 main_v11
  (main_v3, main_v6, main_v9, main_v12)
-- ==== Pre_finite4.lean ====
abbrev S32768x9728 : Shape := ⟨2, ![32768, 9728]⟩
abbrev S32768x128 : Shape := ⟨2, ![32768, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S32768x32 : Shape := ⟨2, ![32768, 32]⟩
abbrev S_ : Shape := ⟨0, ![]⟩

class Facts : Prop where
  slices_S32768x128_S32768x32_0_0 : S32768x128.Slices ![0, 0] S32768x32
  bcast_S_S32768x32 : S_.BroadcastsInDim S32768x32 (![] : Fin 0 → Fin S32768x32.rank)
  bcast_S_S1x32 : S_.BroadcastsInDim S1x32 (![] : Fin 0 → Fin S1x32.rank)

variable [Facts]

def fn {F : FTy → Type} [FloatOps F] (main_arg0 : FVec F S32768x9728 .bf16) (main_arg1 : FVec F S32768x128 .f32) (main_arg2 : FVec F S1x4x3072 .f32) (main_arg3 : FVec F S1x3072 .f32) (main_arg4 : FVec F S1x32 .f32) (main_arg5 : FVec F S1x32 .f32) (main_arg6 : FVec F S1x32 .f32) (main_arg7 : FVec F S1x2048 .f32) : IVec S32768x32 1 × IVec S1x32 1 × IVec S1x32 1 :=
  let main_v0 : FVec F S32768x32 .f32 := (extractStridedSlice S32768x32 ![0, 0] · slices_S32768x128_S32768x32_0_0) main_arg1
  let main_v1 : FVec F S32768x32 .f32 := Host.absf main_v0
  let main_cst : FVec F S_ .f32 := constant S_ .f32 0x7F800000#32
  let main_v2 : FVec F S32768x32 .f32 := broadcastInDim S32768x32 ![] bcast_S_S32768x32 main_cst
  let main_v3 : IVec S32768x32 1 := cmpf .olt main_v1 main_v2
  let main_v4 : FVec F S1x32 .f32 := Host.absf main_arg4
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_v7 : FVec F S1x32 .f32 := Host.absf main_arg5
  let main_cst_1 : FVec F S_ .f32 := constant S_ .f32 0x7F800000#32
  let main_v8 : FVec F S1x32 .f32 := broadcastInDim S1x32 ![] bcast_S_S1x32 main_cst_1
  let main_v9 : IVec S1x32 1 := cmpf .olt main_v7 main_v8
  (main_v3, main_v6, main_v9)
-- ==== Kernel.lean ====
abbrev S32768x9728 : Shape := ⟨2, ![32768, 9728]⟩
abbrev S1x64 : Shape := ⟨2, ![1, 64]⟩
abbrev S1x16 : Shape := ⟨2, ![1, 16]⟩
abbrev S128 : Shape := ⟨1, ![128]⟩
abbrev S128x1 : Shape := ⟨2, ![128, 1]⟩
abbrev S_ : Shape := ⟨0, ![]⟩
abbrev S1x128 : Shape := ⟨2, ![1, 128]⟩
abbrev S128x128 : Shape := ⟨2, ![128, 128]⟩
abbrev S256x128 : Shape := ⟨2, ![256, 128]⟩
abbrev S64 : Shape := ⟨1, ![64]⟩
abbrev S1x1x1x64 : Shape := ⟨4, ![1, 1, 1, 64]⟩
abbrev S1x1x2x64 : Shape := ⟨4, ![1, 1, 2, 64]⟩
abbrev S16 : Shape := ⟨1, ![16]⟩
abbrev S2048 : Shape := ⟨1, ![2048]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S32768x1024 : Shape := ⟨2, ![32768, 1024]⟩
abbrev S16x128x256 : Shape := ⟨3, ![16, 128, 256]⟩
abbrev S128x1024 : Shape := ⟨2, ![128, 1024]⟩
abbrev S128x512 : Shape := ⟨2, ![128, 512]⟩
abbrev S1x128x256 : Shape := ⟨3, ![1, 128, 256]⟩
abbrev S1x4x256x128 : Shape := ⟨4, ![1, 4, 256, 128]⟩
abbrev S128x256 : Shape := ⟨2, ![128, 256]⟩
abbrev S1x4x128x128 : Shape := ⟨4, ![1, 4, 128, 128]⟩
abbrev S1x1x128x128 : Shape := ⟨4, ![1, 1, 128, 128]⟩
abbrev S512x128 : Shape := ⟨2, ![512, 128]⟩
abbrev S1x1x256x128 : Shape := ⟨4, ![1, 1, 256, 128]⟩
abbrev S512x256 : Shape := ⟨2, ![512, 256]⟩
abbrev S1 : Shape := ⟨1, ![1]⟩
abbrev S512x1 : Shape := ⟨2, ![512, 1]⟩

abbrev nBuf : Space → Nat
  | .hbm => 102
  | .vmem => 24
  | .smem => 1
  | _ => 0

abbrev bufTy : (tb : Table) → Fin (tcTables nBuf tb) → BufTy
  | .hbm, ⟨0, _⟩ => ⟨S32768x9728, .bf16⟩
  | .hbm, ⟨1, _⟩ => ⟨S1x64, .f32⟩
  | .hbm, ⟨2, _⟩ => ⟨S1x64, .f32⟩
  | .hbm, ⟨3, _⟩ => ⟨S1x16, .f32⟩
  | .hbm, ⟨4, _⟩ => ⟨S128, .i32⟩
  | .hbm, ⟨5, _⟩ => ⟨S128x1, .i32⟩
  | .hbm, ⟨6, _⟩ => ⟨S_, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x1, .i32⟩
  | .hbm, ⟨11, _⟩ => ⟨S_, .i32⟩
  | .hbm, ⟨12, _⟩ => ⟨S128x1, .i32⟩
  | .hbm, ⟨13, _⟩ => ⟨S128x1, .i1⟩
  | .hbm, ⟨14, _⟩ => ⟨S128x1, .i32⟩
  | .hbm, ⟨15, _⟩ => ⟨S128x1, .i32⟩
  | .hbm, ⟨16, _⟩ => ⟨S_, .i32⟩
  | .hbm, ⟨17, _⟩ => ⟨S128x1, .i32⟩
  | .hbm, ⟨18, _⟩ => ⟨S128x1, .i1⟩
  | .hbm, ⟨19, _⟩ => ⟨S128x1, .i1⟩
  | .hbm, ⟨20, _⟩ => ⟨S_, .i32⟩
  | .hbm, ⟨21, _⟩ => ⟨S128x1, .i32⟩
  | .hbm, ⟨22, _⟩ => ⟨S128x1, .i32⟩
  | .hbm, ⟨23, _⟩ => ⟨S128x1, .i32⟩
  | .hbm, ⟨24, _⟩ => ⟨S1x128, .i32⟩
  | .hbm, ⟨25, _⟩ => ⟨S_, .i32⟩
  | .hbm, ⟨26, _⟩ => ⟨S_, .i32⟩
  | .hbm, ⟨27, _⟩ => ⟨S1x128, .i32⟩
  | .hbm, ⟨28, _⟩ => ⟨S1x128, .i32⟩
  | .hbm, ⟨29, _⟩ => ⟨S1x128, .i32⟩
  | .hbm, ⟨30, _⟩ => ⟨S_, .i32⟩
  | .hbm, ⟨31, _⟩ => ⟨S1x128, .i32⟩
  | .hbm, ⟨32, _⟩ => ⟨S1x128, .i1⟩
  | .hbm, ⟨33, _⟩ => ⟨S1x128, .i32⟩
  | .hbm, ⟨34, _⟩ => ⟨S1x128, .i32⟩
  | .hbm, ⟨35, _⟩ => ⟨S_, .i32⟩
  | .hbm, ⟨36, _⟩ => ⟨S1x128, .i32⟩
  | .hbm, ⟨37, _⟩ => ⟨S1x128, .i1⟩
  | .hbm, ⟨38, _⟩ => ⟨S1x128, .i1⟩
  | .hbm, ⟨39, _⟩ => ⟨S_, .i32⟩
  | .hbm, ⟨40, _⟩ => ⟨S1x128, .i32⟩
  | .hbm, ⟨41, _⟩ => ⟨S1x128, .i32⟩
  | .hbm, ⟨42, _⟩ => ⟨S1x128, .i32⟩
  | .hbm, ⟨43, _⟩ => ⟨S128x128, .i32⟩
  | .hbm, ⟨44, _⟩ => ⟨S128x128, .i32⟩
  | .hbm, ⟨45, _⟩ => ⟨S128x128, .i1⟩
  | .hbm, ⟨46, _⟩ => ⟨S128x128, .f32⟩
  | .hbm, ⟨47, _⟩ => ⟨S_, .f32⟩
  | .hbm, ⟨48, _⟩ => ⟨S128x128, .f32⟩
  | .hbm, ⟨49, _⟩ => ⟨S128x128, .f32⟩
  | .hbm, ⟨50, _⟩ => ⟨S256x128, .f32⟩
  | .hbm, ⟨51, _⟩ => ⟨S256x128, .bf16⟩
  | .hbm, ⟨52, _⟩ => ⟨S64, .f32⟩
  | .hbm, ⟨53, _⟩ => ⟨S1x64, .f32⟩
  | .hbm, ⟨54, _⟩ => ⟨S1x1x1x64, .f32⟩
  | .hbm, ⟨55, _⟩ => ⟨S1x1x2x64, .f32⟩
  | .hbm, ⟨56, _⟩ => ⟨S1x128, .f32⟩
  | .hbm, ⟨57, _⟩ => ⟨S64, .f32⟩
  | .hbm, ⟨58, _⟩ => ⟨S1x64, .f32⟩
  | .hbm, ⟨59, _⟩ => ⟨S1x1x1x64, .f32⟩
  | .hbm, ⟨60, _⟩ => ⟨S1x1x2x64, .f32⟩
  | .hbm, ⟨61, _⟩ => ⟨S1x128, .f32⟩
  | .hbm, ⟨62, _⟩ => ⟨S16, .f32⟩
  | .hbm, ⟨63, _⟩ => ⟨S2048, .i32⟩
  | .hbm, ⟨64, _⟩ => ⟨S8, .f32⟩
  | .hbm, ⟨65, _⟩ => ⟨S8, .f32⟩
  | .hbm, ⟨66, _⟩ => ⟨S_, .f32⟩
  | .hbm, ⟨67, _⟩ => ⟨S8, .f32⟩
  | .hbm, ⟨68, _⟩ => ⟨S8, .f32⟩
  | .hbm, ⟨69, _⟩ => ⟨S_, .f32⟩
  | .hbm, ⟨70, _⟩ => ⟨S8, .f32⟩
  | .hbm, ⟨71, _⟩ => ⟨S8, .f32⟩
  | .hbm, ⟨72, _⟩ => ⟨S2048, .f32⟩
  | .hbm, ⟨73, _⟩ => ⟨S2048x1, .f32⟩
  | .hbm, ⟨74, _⟩ => ⟨S1x8, .f32⟩
  | .hbm, ⟨75, _⟩ => ⟨S2048x8, .f32⟩
  | .hbm, ⟨76, _⟩ => ⟨S2048x8, .f32⟩
  | .hbm, ⟨77, _⟩ => ⟨S2048x8, .f32⟩
  | .hbm, ⟨78, _⟩ => ⟨S2048x8, .f32⟩
  | .hbm, ⟨79, _⟩ => ⟨S2048x8, .f32⟩
  | .hbm, ⟨80, _⟩ => ⟨S_, .f32⟩
  | .hbm, ⟨81, _⟩ => ⟨S2048x8, .f32⟩
  | .hbm, ⟨82, _⟩ => ⟨S_, .f32⟩
  | .hbm, ⟨83, _⟩ => ⟨S2048x48, .f32⟩
  | .hbm, ⟨84, _⟩ => ⟨S_, .f32⟩
  | .hbm, ⟨85, _⟩ => ⟨S2048x48, .f32⟩
  | .hbm, ⟨86, _⟩ => ⟨S2048x64, .f32⟩
  | .hbm, ⟨87, _⟩ => ⟨S2048x8, .f32⟩
  | .hbm, ⟨88, _⟩ => ⟨S2048x64, .f32⟩
  | .hbm, ⟨89, _⟩ => ⟨S2048x64, .f32⟩
  | .hbm, ⟨90, _⟩ => ⟨S1x2048x1x64, .f32⟩
  | .hbm, ⟨91, _⟩ => ⟨S1x2048x2x64, .f32⟩
  | .hbm, ⟨92, _⟩ => ⟨S2048x128, .f32⟩
  | .hbm, ⟨93, _⟩ => ⟨S1x2048x1x64, .f32⟩
  | .hbm, ⟨94, _⟩ => ⟨S1x2048x2x64, .f32⟩
  | .hbm, ⟨95, _⟩ => ⟨S2048x128, .f32⟩
  | .hbm, ⟨96, _⟩ => ⟨S1x2048x1x64, .f32⟩
  | .hbm, ⟨97, _⟩ => ⟨S1x2048x2x64, .f32⟩
  | .hbm, ⟨98, _⟩ => ⟨S2048x128, .f32⟩
  | .hbm, ⟨99, _⟩ => ⟨S32768x1024, .bf16⟩
  | .hbm, ⟨100, _⟩ => ⟨S16x128x256, .f32⟩
  | .hbm, ⟨101, _⟩ => ⟨S16x128x256, .f32⟩
  | .local _ .vmem, ⟨0, _⟩ => ⟨S128x1024, .bf16⟩
  | .local _ .vmem, ⟨1, _⟩ => ⟨S128x1024, .bf16⟩
  | .local _ .vmem, ⟨2, _⟩ => ⟨S128x512, .bf16⟩
  | .local _ .vmem, ⟨3, _⟩ => ⟨S128x512, .bf16⟩
  | .local _ .vmem, ⟨4, _⟩ => ⟨S128x1024, .bf16⟩
  | .local _ .vmem, ⟨5, _⟩ => ⟨S128x1024, .bf16⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S256x128, .bf16⟩
  | .local _ .vmem, ⟨15, _⟩ => ⟨S128x1024, .bf16⟩
  | .local _ .vmem, ⟨16, _⟩ => ⟨S128x1024, .bf16⟩
  | .local _ .vmem, ⟨17, _⟩ => ⟨S1x128x256, .f32⟩
  | .local _ .vmem, ⟨18, _⟩ => ⟨S1x128x256, .f32⟩
  | .local _ .vmem, ⟨19, _⟩ => ⟨S1x128x256, .f32⟩
  | .local _ .vmem, ⟨20, _⟩ => ⟨S1x128x256, .f32⟩
  | .local _ .vmem, ⟨21, _⟩ => ⟨S1x4x256x128, .bf16⟩
  | .local _ .vmem, ⟨22, _⟩ => ⟨S1x4x256x128, .bf16⟩
  | .local _ .vmem, ⟨23, _⟩ => ⟨S128x1024, .f32⟩
  | .local _ .smem, ⟨0, _⟩ => ⟨S16, .f32⟩
  | _, _ => ⟨S32768x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_cst : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_1 : Ref sig .tc := ⟨.hbm, 66, rfl⟩
abbrev main_v27 : Ref sig .tc := ⟨.hbm, 67, rfl⟩
abbrev main_v28 : Ref sig .tc := ⟨.hbm, 68, rfl⟩
abbrev main_cst_2 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_3 : Ref sig .tc := ⟨.hbm, 80, rfl⟩
abbrev main_v39 : Ref sig .tc := ⟨.hbm, 81, rfl⟩
abbrev main_cst_4 : Ref sig .tc := ⟨.hbm, 82, rfl⟩
abbrev main_v40 : Ref sig .tc := ⟨.hbm, 83, rfl⟩
abbrev main_cst_5 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55_0 : Ref sig .tc := ⟨.hbm, 99, rfl⟩
abbrev main_v55_1 : Ref sig .tc := ⟨.hbm, 100, rfl⟩
abbrev main_v55_2 : Ref sig .tc := ⟨.hbm, 101, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v819 : BitVec 1 := Scalar.cmpi .eq arg1 c15_i32
  let v820 : BitVec 32 := Scalar.extui v819
  let c0_i32_250 : BitVec 32 := 0#32
  let v821 : BitVec 1 := Scalar.cmpi .ne v820 c0_i32_250
  v821

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c18_i32 : BitVec 32 := 18#32
  let c0_i32 : BitVec 32 := 0#32
  ![v1.toNat, c18_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S32768x9728 : Shape := ⟨2, ![32768, 9728]⟩
abbrev S1x64 : Shape := ⟨2, ![1, 64]⟩
abbrev S1x16 : Shape := ⟨2, ![1, 16]⟩
abbrev S32768x1024 : Shape := ⟨2, ![32768, 1024]⟩
abbrev S16x2048x16x64 : Shape := ⟨4, ![16, 2048, 16, 64]⟩
abbrev S16x2048x1024 : Shape := ⟨3, ![16, 2048, 1024]⟩
abbrev S32768x256 : Shape := ⟨2, ![32768, 256]⟩
abbrev S16x2048x4x64 : Shape := ⟨4, ![16, 2048, 4, 64]⟩
abbrev S2048 : Shape := ⟨1, ![2048]⟩
abbrev S64 : Shape := ⟨1, ![64]⟩
abbrev S_ : Shape := ⟨0, ![]⟩
abbrev S16x2048x16 : Shape := ⟨3, ![16, 2048, 16]⟩
abbrev S16x2048x16x1 : Shape := ⟨4, ![16, 2048, 16, 1]⟩
abbrev S1x1x1x64 : Shape := ⟨4, ![1, 1, 1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S16x2048x16x8 : Shape := ⟨4, ![16, 2048, 16, 8]⟩
abbrev S16x2048x16x48 : Shape := ⟨4, ![16, 2048, 16, 48]⟩
abbrev S16x2048x4 : Shape := ⟨3, ![16, 2048, 4]⟩
abbrev S16x2048x4x1 : Shape := ⟨4, ![16, 2048, 4, 1]⟩
abbrev S16x2048x4x8 : Shape := ⟨4, ![16, 2048, 4, 8]⟩
abbrev S16x2048x4x48 : Shape := ⟨4, ![16, 2048, 4, 48]⟩
abbrev S16 : Shape := ⟨1, ![16]⟩
abbrev S16x16x128x4x4x64 : Shape := ⟨6, ![16, 16, 128, 4, 4, 64]⟩
abbrev S16x1 : Shape := ⟨2, ![16, 1]⟩
abbrev S128 : Shape := ⟨1, ![128]⟩
abbrev S1x128 : Shape := ⟨2, ![1, 128]⟩
abbrev S16x128 : Shape := ⟨2, ![16, 128]⟩
abbrev S256 : Shape := ⟨1, ![256]⟩
abbrev S1x256 : Shape := ⟨2, ![1, 256]⟩
abbrev S16x256 : Shape := ⟨2, ![16, 256]⟩
abbrev S16x128x1 : Shape := ⟨3, ![16, 128, 1]⟩
abbrev S16x1x256 : Shape := ⟨3, ![16, 1, 256]⟩
abbrev S16x128x256 : Shape := ⟨3, ![16, 128, 256]⟩
abbrev S16x16x128x4x64 : Shape := ⟨5, ![16, 16, 128, 4, 64]⟩
abbrev S16x17x128x4x64 : Shape := ⟨5, ![16, 17, 128, 4, 64]⟩
abbrev S16x16x256x4x64 : Shape := ⟨5, ![16, 16, 256, 4, 64]⟩
abbrev S16x16x4x256x128x4 : Shape := ⟨6, ![16, 16, 4, 256, 128, 4]⟩
abbrev S16x16x4x4x128x256 : Shape := ⟨6, ![16, 16, 4, 4, 128, 256]⟩
abbrev S1x16x1x1x128x256 : Shape := ⟨6, ![1, 16, 1, 1, 128, 256]⟩
abbrev S4x4 : Shape := ⟨2, ![4, 4]⟩
abbrev S4x4x1x1 : Shape := ⟨4, ![4, 4, 1, 1]⟩
abbrev S16x16x4x4x128 : Shape := ⟨5, ![16, 16, 4, 4, 128]⟩
abbrev S16x16x4x4x128x1 : Shape := ⟨6, ![16, 16, 4, 4, 128, 1]⟩
abbrev S1x1x4x4x1x1 : Shape := ⟨6, ![1, 1, 4, 4, 1, 1]⟩
abbrev S16x16x4x64x4x128 : Shape := ⟨6, ![16, 16, 4, 64, 4, 128]⟩
abbrev S16x128x4x64 : Shape := ⟨4, ![16, 128, 4, 64]⟩

abbrev nBuf : Space → Nat
  | .hbm => 216
  | .vmem => 0
  | .smem => 0
  | _ => 0

abbrev hbmTy0_0 (i : Nat) : BufTy := match i % 128 with
  | 0 => ⟨S32768x9728, .bf16⟩
  | 1 => ⟨S1x64, .f32⟩
  | 2 => ⟨S1x64, .f32⟩
  | 3 => ⟨S1x16, .f32⟩
  | 4 => ⟨S32768x1024, .bf16⟩
  | 5 => ⟨S32768x1024, .f32⟩
  | 6 => ⟨S16x2048x16x64, .f32⟩
  | 7 => ⟨S32768x1024, .bf16⟩
  | 8 => ⟨S32768x1024, .f32⟩
  | 9 => ⟨S16x2048x1024, .f32⟩
  | 10 => ⟨S32768x256, .bf16⟩
  | 11 => ⟨S32768x256, .f32⟩
  | 12 => ⟨S16x2048x4x64, .f32⟩
  | 13 => ⟨S32768x256, .bf16⟩
  | 14 => ⟨S32768x256, .f32⟩
  | 15 => ⟨S16x2048x4x64, .f32⟩
  | 16 => ⟨S2048, .i32⟩
  | 17 => ⟨S64, .f32⟩
  | 18 => ⟨S16x2048x16x64, .f32⟩
  | 19 => ⟨S_, .f32⟩
  | 20 => ⟨S16x2048x16, .f32⟩
  | 21 => ⟨S16x2048x16x1, .f32⟩
  | 22 => ⟨S_, .f32⟩
  | 23 => ⟨S16x2048x16x1, .f32⟩
  | 24 => ⟨S16x2048x16x1, .f32⟩
  | 25 => ⟨S_, .f32⟩
  | 26 => ⟨S16x2048x16x1, .f32⟩
  | 27 => ⟨S16x2048x16x1, .f32⟩
  | 28 => ⟨S16x2048x16x1, .f32⟩
  | 29 => ⟨S16x2048x16x64, .f32⟩
  | 30 => ⟨S16x2048x16x64, .f32⟩
  | 31 => ⟨S1x1x1x64, .f32⟩
  | 32 => ⟨S16x2048x16x64, .f32⟩
  | 33 => ⟨S16x2048x16x64, .f32⟩
  | 34 => ⟨S8, .f32⟩
  | 35 => ⟨S8, .f32⟩
  | 36 => ⟨S_, .f32⟩
  | 37 => ⟨S8, .f32⟩
  | 38 => ⟨S8, .f32⟩
  | 39 => ⟨S_, .f32⟩
  | 40 => ⟨S8, .f32⟩
  | 41 => ⟨S8, .f32⟩
  | 42 => ⟨S2048, .f32⟩
  | 43 => ⟨S2048x1, .f32⟩
  | 44 => ⟨S1x8, .f32⟩
  | 45 => ⟨S2048x8, .f32⟩
  | 46 => ⟨S2048x8, .f32⟩
  | 47 => ⟨S2048x8, .f32⟩
  | 48 => ⟨S2048x8, .f32⟩
  | 49 => ⟨S1x2048x1x8, .f32⟩
  | 50 => ⟨S2048x8, .f32⟩
  | 51 => ⟨S1x2048x1x8, .f32⟩
  | 52 => ⟨S16x2048x16x8, .f32⟩
  | 53 => ⟨S16x2048x16x8, .f32⟩
  | 54 => ⟨S16x2048x16x8, .f32⟩
  | 55 => ⟨S16x2048x16x8, .f32⟩
  | 56 => ⟨S16x2048x16x8, .f32⟩
  | 57 => ⟨S16x2048x16x8, .f32⟩
  | 58 => ⟨S16x2048x16x8, .f32⟩
  | 59 => ⟨S16x2048x16x8, .f32⟩
  | 60 => ⟨S16x2048x16x8, .f32⟩
  | 61 => ⟨S16x2048x16x8, .f32⟩
  | 62 => ⟨S16x2048x16x8, .f32⟩
  | 63 => ⟨S16x2048x16x8, .f32⟩
  | 64 => ⟨S16x2048x16x48, .f32⟩
  | 65 => ⟨S16x2048x16x64, .f32⟩
  | 66 => ⟨S64, .f32⟩
  | 67 => ⟨S16x2048x4x64, .f32⟩
  | 68 => ⟨S_, .f32⟩
  | 69 => ⟨S16x2048x4, .f32⟩
  | 70 => ⟨S16x2048x4x1, .f32⟩
  | 71 => ⟨S_, .f32⟩
  | 72 => ⟨S16x2048x4x1, .f32⟩
  | 73 => ⟨S16x2048x4x1, .f32⟩
  | 74 => ⟨S_, .f32⟩
  | 75 => ⟨S16x2048x4x1, .f32⟩
  | 76 => ⟨S16x2048x4x1, .f32⟩
  | 77 => ⟨S16x2048x4x1, .f32⟩
  | 78 => ⟨S16x2048x4x64, .f32⟩
  | 79 => ⟨S16x2048x4x64, .f32⟩
  | 80 => ⟨S1x1x1x64, .f32⟩
  | 81 => ⟨S16x2048x4x64, .f32⟩
  | 82 => ⟨S16x2048x4x64, .f32⟩
  | 83 => ⟨S8, .f32⟩
  | 84 => ⟨S8, .f32⟩
  | 85 => ⟨S_, .f32⟩
  | 86 => ⟨S8, .f32⟩
  | 87 => ⟨S8, .f32⟩
  | 88 => ⟨S_, .f32⟩
  | 89 => ⟨S8, .f32⟩
  | 90 => ⟨S8, .f32⟩
  | 91 => ⟨S2048, .f32⟩
  | 92 => ⟨S2048x1, .f32⟩
  | 93 => ⟨S1x8, .f32⟩
  | 94 => ⟨S2048x8, .f32⟩
  | 95 => ⟨S2048x8, .f32⟩
  | 96 => ⟨S2048x8, .f32⟩
  | 97 => ⟨S2048x8, .f32⟩
  | 98 => ⟨S1x2048x1x8, .f32⟩
  | 99 => ⟨S2048x8, .f32⟩
  | 100 => ⟨S1x2048x1x8, .f32⟩
  | 101 => ⟨S16x2048x4x8, .f32⟩
  | 102 => ⟨S16x2048x4x8, .f32⟩
  | 103 => ⟨S16x2048x4x8, .f32⟩
  | 104 => ⟨S16x2048x4x8, .f32⟩
  | 105 => ⟨S16x2048x4x8, .f32⟩
  | 106 => ⟨S16x2048x4x8, .f32⟩
  | 107 => ⟨S16x2048x4x8, .f32⟩
  | 108 => ⟨S16x2048x4x8, .f32⟩
  | 109 => ⟨S16x2048x4x8, .f32⟩
  | 110 => ⟨S16x2048x4x8, .f32⟩
  | 111 => ⟨S16x2048x4x8, .f32⟩
  | 112 => ⟨S16x2048x4x8, .f32⟩
  | 113 => ⟨S16x2048x4x48, .f32⟩
  | 114 => ⟨S16x2048x4x64, .f32⟩
  | 115 => ⟨S16, .f32⟩
  | 116 => ⟨S16x16x128x4x4x64, .f32⟩
  | 117 => ⟨S16, .i32⟩
  | 118 => ⟨S16x1, .i32⟩
  | 119 => ⟨S_, .i32⟩
  | 120 => ⟨S16x1, .i32⟩
  | 121 => ⟨S16x1, .i32⟩
  | 122 => ⟨S128, .i32⟩
  | 123 => ⟨S1x128, .i32⟩
  | 124 => ⟨S16x128, .i32⟩
  | 125 => ⟨S16x128, .i32⟩
  | 126 => ⟨S16x128, .i32⟩
  | 127 => ⟨S_, .i32⟩
  | _ => ⟨S32768x9728, .bf16⟩

abbrev hbmTy0_1 (i : Nat) : BufTy := match i % 128 with
  | 0 => ⟨S16x1, .i32⟩
  | 1 => ⟨S16x1, .i32⟩
  | 2 => ⟨S256, .i32⟩
  | 3 => ⟨S1x256, .i32⟩
  | 4 => ⟨S16x256, .i32⟩
  | 5 => ⟨S16x256, .i32⟩
  | 6 => ⟨S16x256, .i32⟩
  | 7 => ⟨S16x128x1, .i32⟩
  | 8 => ⟨S16x1x256, .i32⟩
  | 9 => ⟨S16x128x256, .i32⟩
  | 10 => ⟨S16x128x256, .i32⟩
  | 11 => ⟨S16x128x256, .i32⟩
  | 12 => ⟨S_, .i32⟩
  | 13 => ⟨S16x128x256, .i32⟩
  | 14 => ⟨S16x128x256, .i1⟩
  | 15 => ⟨S_, .i32⟩
  | 16 => ⟨S16x128x256, .i32⟩
  | 17 => ⟨S16x128x256, .i1⟩
  | 18 => ⟨S16x128x256, .i1⟩
  | 19 => ⟨S16x1x256, .i32⟩
  | 20 => ⟨S_, .i32⟩
  | 21 => ⟨S16x1x256, .i32⟩
  | 22 => ⟨S16x1x256, .i1⟩
  | 23 => ⟨S16x128x256, .i1⟩
  | 24 => ⟨S16x128x256, .i1⟩
  | 25 => ⟨S16x16x128x4x64, .f32⟩
  | 26 => ⟨S_, .i32⟩
  | 27 => ⟨S_, .f32⟩
  | 28 => ⟨S16x17x128x4x64, .f32⟩
  | 29 => ⟨S16x16x128x4x64, .f32⟩
  | 30 => ⟨S16x16x256x4x64, .f32⟩
  | 31 => ⟨S16x16x128x4x64, .f32⟩
  | 32 => ⟨S_, .i32⟩
  | 33 => ⟨S_, .f32⟩
  | 34 => ⟨S16x17x128x4x64, .f32⟩
  | 35 => ⟨S16x16x128x4x64, .f32⟩
  | 36 => ⟨S16x16x256x4x64, .f32⟩
  | 37 => ⟨S16x16x4x256x128x4, .f32⟩
  | 38 => ⟨S16x16x4x4x128x256, .f32⟩
  | 39 => ⟨S_, .f32⟩
  | 40 => ⟨S16x16x4x4x128x256, .f32⟩
  | 41 => ⟨S16x16x4x4x128x256, .f32⟩
  | 42 => ⟨S1x16x1x1x128x256, .i1⟩
  | 43 => ⟨S_, .f32⟩
  | 44 => ⟨S_, .f32⟩
  | 45 => ⟨S16x16x4x4x128x256, .i1⟩
  | 46 => ⟨S16x16x4x4x128x256, .f32⟩
  | 47 => ⟨S16x16x4x4x128x256, .f32⟩
  | 48 => ⟨S4x4, .f32⟩
  | 49 => ⟨S4x4x1x1, .f32⟩
  | 50 => ⟨S_, .f32⟩
  | 51 => ⟨S16x16x4x4x128, .f32⟩
  | 52 => ⟨S16x16x4x4x128x1, .f32⟩
  | 53 => ⟨S1x1x4x4x1x1, .f32⟩
  | 54 => ⟨S16x16x4x4x128x1, .f32⟩
  | 55 => ⟨S16x16x4x4x128x1, .f32⟩
  | 56 => ⟨S16x16x4x4x128x256, .f32⟩
  | 57 => ⟨S16x16x4x4x128x256, .f32⟩
  | 58 => ⟨S16x16x4x4x128x256, .f32⟩
  | 59 => ⟨S_, .f32⟩
  | 60 => ⟨S16x16x4x4x128, .f32⟩
  | 61 => ⟨S16x16x4x4x128x1, .f32⟩
  | 62 => ⟨S1x1x4x4x1x1, .f32⟩
  | 63 => ⟨S16x16x4x4x128x1, .f32⟩
  | 64 => ⟨S16x16x4x4x128x1, .f32⟩
  | 65 => ⟨S16x16x4x4x128x1, .f32⟩
  | 66 => ⟨S16x16x4x4x128x1, .f32⟩
  | 67 => ⟨S16x16x4x4x128x256, .f32⟩
  | 68 => ⟨S16x16x4x4x128x256, .f32⟩
  | 69 => ⟨S16x16x4x64x4x128, .f32⟩
  | 70 => ⟨S16x16x128x4x4x64, .f32⟩
  | 71 => ⟨S16x2048x1024, .f32⟩
  | 72 => ⟨S16x2048x1024, .f32⟩
  | 73 => ⟨S16x2048x1024, .f32⟩
  | 74 => ⟨S_, .f32⟩
  | 75 => ⟨S16x2048x1024, .f32⟩
  | 76 => ⟨S16x2048x1024, .f32⟩
  | 77 => ⟨S_, .f32⟩
  | 78 => ⟨S16x2048x1024, .f32⟩
  | 79 => ⟨S16x2048x1024, .f32⟩
  | 80 => ⟨S16x2048x1024, .f32⟩
  | 81 => ⟨S16x2048x1024, .f32⟩
  | 82 => ⟨S32768x1024, .f32⟩
  | 83 => ⟨S32768x1024, .bf16⟩
  | 84 => ⟨S16x128x4x64, .f32⟩
  | 85 => ⟨S16x128x256, .f32⟩
  | 86 => ⟨S16x128x4x64, .f32⟩
  | 87 => ⟨S16x128x256, .f32⟩
  | _ => ⟨S32768x9728, .bf16⟩

abbrev hbmTy (i : Nat) : BufTy := match i / 128 with
  | 0 => hbmTy0_0 i
  | 1 => hbmTy0_1 i
  | _ => ⟨S32768x9728, .bf16⟩

abbrev bufTy : (tb : Table) → Fin (tcTables nBuf tb) → BufTy
  | .hbm, ⟨i, _⟩ => hbmTy i
  | _, _ => ⟨S32768x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_cst_4 : Ref sig .tc := ⟨.hbm, 68, rfl⟩
abbrev main_v59 : Ref sig .tc := ⟨.hbm, 69, rfl⟩
abbrev main_v60 : Ref sig .tc := ⟨.hbm, 70, rfl⟩
abbrev main_cst_5 : Ref sig .tc := ⟨.hbm, 71, rfl⟩
abbrev main_v61 : Ref sig .tc := ⟨.hbm, 72, rfl⟩
abbrev main_v62 : Ref sig .tc := ⟨.hbm, 73, rfl⟩
abbrev main_cst_6 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_7 : Ref sig .tc := ⟨.hbm, 85, rfl⟩
abbrev main_v73 : Ref sig .tc := ⟨.hbm, 86, rfl⟩
abbrev main_v74 : Ref sig .tc := ⟨.hbm, 87, rfl⟩
abbrev main_cst_8 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_c : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_c_9 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_c_10 : Ref sig .tc := ⟨.hbm, 140, rfl⟩
abbrev main_v124 : Ref sig .tc := ⟨.hbm, 141, rfl⟩
abbrev main_v125 : Ref sig .tc := ⟨.hbm, 142, rfl⟩
abbrev main_c_11 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_c_12 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_c_13 : Ref sig .tc := ⟨.hbm, 154, rfl⟩
abbrev main_call0_v0 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_c_14 : Ref sig .tc := ⟨.hbm, 160, rfl⟩
abbrev main_call1_v0 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_cst_15 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_cst_16 : Ref sig .tc := ⟨.hbm, 171, rfl⟩
abbrev main_call2_v0 : Ref sig .tc := ⟨.hbm, 172, rfl⟩
abbrev main_call2_v1 : Ref sig .tc := ⟨.hbm, 173, rfl⟩
abbrev main_call2_v2 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_cst_17 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_cst_18 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_call3_v0 : Ref sig .tc := ⟨.hbm, 200, rfl⟩
abbrev main_call3_v1 : Ref sig .tc := ⟨.hbm, 201, rfl⟩
abbrev main_call3_cst : Ref sig .tc := ⟨.hbm, 202, rfl⟩
abbrev main_call3_v2 : Ref sig .tc := ⟨.hbm, 203, rfl⟩
abbrev main_call3_v3 : Ref sig .tc := ⟨.hbm, 204, rfl⟩
abbrev main_call3_cst_0 : Ref sig .tc := ⟨.hbm, 205, rfl⟩
abbrev main_call3_v4 : Ref sig .tc := ⟨.hbm, 206, rfl⟩
abbrev main_call3_v5 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩

abbrev nD : Nat := 1
abbrev τ : Topo := Topo.v7x

variable {F : FTy → Type} [FloatOps F]
-- ==== Kernel2.lean ====
abbrev S32768x1024 : Shape := ⟨2, ![32768, 1024]⟩
abbrev S1x1024 : Shape := ⟨2, ![1, 1024]⟩
abbrev S1024x9728 : Shape := ⟨2, ![1024, 9728]⟩
abbrev S1024x128 : Shape := ⟨2, ![1024, 128]⟩
abbrev S1024 : Shape := ⟨1, ![1024]⟩
abbrev S32768x9728 : Shape := ⟨2, ![32768, 9728]⟩
abbrev S32768x128 : Shape := ⟨2, ![32768, 128]⟩
abbrev S512x1024 : Shape := ⟨2, ![512, 1024]⟩
abbrev S512x9728 : Shape := ⟨2, ![512, 9728]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x9728, .bf16⟩
  | .hbm, ⟨3, _⟩ => ⟨S1024x128, .bf16⟩
  | .hbm, ⟨4, _⟩ => ⟨S1024, .f32⟩
  | .hbm, ⟨5, _⟩ => ⟨S1x1024, .f32⟩
  | .hbm, ⟨6, _⟩ => ⟨S32768x9728, .bf16⟩
  | .hbm, ⟨7, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x9728, .bf16⟩
  | .local _ .vmem, ⟨4, _⟩ => ⟨S1024x128, .bf16⟩
  | .local _ .vmem, ⟨5, _⟩ => ⟨S512x9728, .bf16⟩
  | .local _ .vmem, ⟨6, _⟩ => ⟨S512x9728, .bf16⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x9728 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x9728 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x1024 : Shape := ⟨2, ![32768, 1024]⟩
abbrev S1x1024 : Shape := ⟨2, ![1, 1024]⟩
abbrev S1024x9728 : Shape := ⟨2, ![1024, 9728]⟩
abbrev S1024x128 : Shape := ⟨2, ![1024, 128]⟩
abbrev S1024 : Shape := ⟨1, ![1024]⟩
abbrev S_ : Shape := ⟨0, ![]⟩
abbrev S32768 : Shape := ⟨1, ![32768]⟩
abbrev S32768x1 : Shape := ⟨2, ![32768, 1]⟩
abbrev S32768x9728 : Shape := ⟨2, ![32768, 9728]⟩
abbrev S32768x128 : Shape := ⟨2, ![32768, 128]⟩

abbrev nBuf : Space → Nat
  | .hbm => 26
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x9728, .bf16⟩
  | .hbm, ⟨3, _⟩ => ⟨S1024x128, .bf16⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1024x9728, .f32⟩
  | .hbm, ⟨22, _⟩ => ⟨S32768x9728, .f32⟩
  | .hbm, ⟨23, _⟩ => ⟨S32768x9728, .bf16⟩
  | .hbm, ⟨24, _⟩ => ⟨S1024x128, .f32⟩
  | .hbm, ⟨25, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel3.lean ====
abbrev S32768x1024 : Shape := ⟨2, ![32768, 1024]⟩
abbrev S32768x9728 : Shape := ⟨2, ![32768, 9728]⟩
abbrev S32768x2048 : Shape := ⟨2, ![32768, 2048]⟩
abbrev S1x1024x1024 : Shape := ⟨3, ![1, 1024, 1024]⟩
abbrev S1x2048x1024 : Shape := ⟨3, ![1, 2048, 1024]⟩
abbrev S1024x1024 : Shape := ⟨2, ![1024, 1024]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 14
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x9728, .bf16⟩
  | .hbm, ⟨2, _⟩ => ⟨S32768x1024, .bf16⟩
  | .hbm, ⟨3, _⟩ => ⟨S32768x2048, .bf16⟩
  | .hbm, ⟨4, _⟩ => ⟨S1x1024x1024, .f32⟩
  | .hbm, ⟨5, _⟩ => ⟨S1x2048x1024, .f32⟩
  | .hbm, ⟨6, _⟩ => ⟨S1x1024x1024, .f32⟩
  | .hbm, ⟨7, _⟩ => ⟨S1024x1024, .f32⟩
  | .hbm, ⟨8, _⟩ => ⟨S1024x1024, .bf16⟩
  | .hbm, ⟨9, _⟩ => ⟨S2048x1024, .f32⟩
  | .hbm, ⟨10, _⟩ => ⟨S2048x1024, .bf16⟩
  | .hbm, ⟨11, _⟩ => ⟨S1024x1024, .f32⟩
  | .hbm, ⟨12, _⟩ => ⟨S1024x1024, .bf16⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S1024x1024, .bf16⟩
  | .local _ .vmem, ⟨9, _⟩ => ⟨S2048x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S32768x1024 : Shape := ⟨2, ![32768, 1024]⟩
abbrev S32768x9728 : Shape := ⟨2, ![32768, 9728]⟩
abbrev S32768x2048 : Shape := ⟨2, ![32768, 2048]⟩
abbrev S1x1024x1024 : Shape := ⟨3, ![1, 1024, 1024]⟩
abbrev S1x2048x1024 : Shape := ⟨3, ![1, 2048, 1024]⟩
abbrev S1024x1024 : Shape := ⟨2, ![1024, 1024]⟩
abbrev S2048x1024 : Shape := ⟨2, ![2048, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x9728, .bf16⟩
  | .hbm, ⟨2, _⟩ => ⟨S32768x1024, .bf16⟩
  | .hbm, ⟨3, _⟩ => ⟨S32768x2048, .bf16⟩
  | .hbm, ⟨4, _⟩ => ⟨S1x1024x1024, .f32⟩
  | .hbm, ⟨5, _⟩ => ⟨S1x2048x1024, .f32⟩
  | .hbm, ⟨6, _⟩ => ⟨S1x1024x1024, .f32⟩
  | .hbm, ⟨7, _⟩ => ⟨S32768x2048, .bf16⟩
  | .hbm, ⟨8, _⟩ => ⟨S32768x2048, .f32⟩
  | .hbm, ⟨9, _⟩ => ⟨S32768x1024, .f32⟩
  | .hbm, ⟨10, _⟩ => ⟨S32768x2048, .f32⟩
  | .hbm, ⟨11, _⟩ => ⟨S1024x1024, .f32⟩
  | .hbm, ⟨12, _⟩ => ⟨S32768x1024, .f32⟩
  | .hbm, ⟨13, _⟩ => ⟨S2048x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S1024x1024, .f32⟩
  | .hbm, ⟨37, _⟩ => ⟨S32768x1024, .f32⟩
  | .hbm, ⟨38, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel4.lean ====
abbrev S32768x9728 : Shape := ⟨2, ![32768, 9728]⟩
abbrev S32768x128 : Shape := ⟨2, ![32768, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S128 : Shape := ⟨1, ![128]⟩
abbrev S2048 : Shape := ⟨1, ![2048]⟩
abbrev S_ : Shape := ⟨0, ![]⟩
abbrev S128x1 : Shape := ⟨2, ![128, 1]⟩
abbrev S128x2048 : Shape := ⟨2, ![128, 2048]⟩
abbrev S256x2048 : Shape := ⟨2, ![256, 2048]⟩
abbrev S1x128 : Shape := ⟨2, ![1, 128]⟩
abbrev S128x128 : Shape := ⟨2, ![128, 128]⟩
abbrev S4x3072 : Shape := ⟨2, ![4, 3072]⟩
abbrev S3072 : Shape := ⟨1, ![3072]⟩
abbrev S32 : Shape := ⟨1, ![32]⟩
abbrev S32x64 : Shape := ⟨2, ![32, 64]⟩
abbrev S32768x2048 : Shape := ⟨2, ![32768, 2048]⟩
abbrev S16x3x3072 : Shape := ⟨3, ![16, 3, 3072]⟩
abbrev S16x2048x128 : Shape := ⟨3, ![16, 2048, 128]⟩
abbrev S128x3072 : Shape := ⟨2, ![128, 3072]⟩
abbrev S1x3x3072 : Shape := ⟨3, ![1, 3, 3072]⟩
abbrev S1x2048x128 : Shape := ⟨3, ![1, 2048, 128]⟩
abbrev S136x3072 : Shape := ⟨2, ![136, 3072]⟩
abbrev S128x1024 : Shape := ⟨2, ![128, 1024]⟩
abbrev S4x128x512 : Shape := ⟨3, ![4, 128, 512]⟩
abbrev S8x3072 : Shape := ⟨2, ![8, 3072]⟩
abbrev S1x512 : Shape := ⟨2, ![1, 512]⟩
abbrev S128x512 : Shape := ⟨2, ![128, 512]⟩
abbrev S3x3072 : Shape := ⟨2, ![3, 3072]⟩
abbrev S128x384 : Shape := ⟨2, ![128, 384]⟩
abbrev S128x256 : Shape := ⟨2, ![128, 256]⟩
abbrev S1x128x512 : Shape := ⟨3, ![1, 128, 512]⟩
abbrev S256x128 : Shape := ⟨2, ![256, 128]⟩
abbrev S512x128 : Shape := ⟨2, ![512, 128]⟩
abbrev S1x512x128 : Shape := ⟨3, ![1, 512, 128]⟩

abbrev nBuf : Space → Nat
  | .hbm => 63
  | .vmem => 28
  | .smem => 0
  | _ => 0

abbrev bufTy : (tb : Table) → Fin (tcTables nBuf tb) → BufTy
  | .hbm, ⟨0, _⟩ => ⟨S32768x9728, .bf16⟩
  | .hbm, ⟨1, _⟩ => ⟨S32768x128, .f32⟩
  | .hbm, ⟨2, _⟩ => ⟨S1x4x3072, .f32⟩
  | .hbm, ⟨3, _⟩ => ⟨S1x3072, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x2048, .f32⟩
  | .hbm, ⟨8, _⟩ => ⟨S128, .i32⟩
  | .hbm, ⟨9, _⟩ => ⟨S2048, .i32⟩
  | .hbm, ⟨10, _⟩ => ⟨S_, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S128x1, .i32⟩
  | .hbm, ⟨29, _⟩ => ⟨S1x2048, .i32⟩
  | .hbm, ⟨30, _⟩ => ⟨S128x2048, .i32⟩
  | .hbm, ⟨31, _⟩ => ⟨S128x2048, .i32⟩
  | .hbm, ⟨32, _⟩ => ⟨S128x2048, .i1⟩
  | .hbm, ⟨33, _⟩ => ⟨S128x2048, .bf16⟩
  | .hbm, ⟨34, _⟩ => ⟨S256x2048, .bf16⟩
  | .hbm, ⟨35, _⟩ => ⟨S128x1, .i32⟩
  | .hbm, ⟨36, _⟩ => ⟨S1x128, .i32⟩
  | .hbm, ⟨37, _⟩ => ⟨S128x128, .i32⟩
  | .hbm, ⟨38, _⟩ => ⟨S128x128, .i32⟩
  | .hbm, ⟨39, _⟩ => ⟨S128x128, .i1⟩
  | .hbm, ⟨40, _⟩ => ⟨S128x128, .bf16⟩
  | .hbm, ⟨41, _⟩ => ⟨S4x3072, .f32⟩
  | .hbm, ⟨42, _⟩ => ⟨S3072, .f32⟩
  | .hbm, ⟨43, _⟩ => ⟨S1x3072, .f32⟩
  | .hbm, ⟨44, _⟩ => ⟨S32, .f32⟩
  | .hbm, ⟨45, _⟩ => ⟨S1x32, .f32⟩
  | .hbm, ⟨46, _⟩ => ⟨S_, .i32⟩
  | .hbm, ⟨47, _⟩ => ⟨S_, .f32⟩
  | .hbm, ⟨48, _⟩ => ⟨S1x128, .f32⟩
  | .hbm, ⟨49, _⟩ => ⟨S32, .f32⟩
  | .hbm, ⟨50, _⟩ => ⟨S1x32, .f32⟩
  | .hbm, ⟨51, _⟩ => ⟨S_, .i32⟩
  | .hbm, ⟨52, _⟩ => ⟨S_, .f32⟩
  | .hbm, ⟨53, _⟩ => ⟨S1x128, .f32⟩
  | .hbm, ⟨54, _⟩ => ⟨S32, .f32⟩
  | .hbm, ⟨55, _⟩ => ⟨S32x64, .f32⟩
  | .hbm, ⟨56, _⟩ => ⟨S2048, .f32⟩
  | .hbm, ⟨57, _⟩ => ⟨S1x2048, .f32⟩
  | .hbm, ⟨58, _⟩ => ⟨S2048, .f32⟩
  | .hbm, ⟨59, _⟩ => ⟨S1x2048, .f32⟩
  | .hbm, ⟨60, _⟩ => ⟨S32768x2048, .bf16⟩
  | .hbm, ⟨61, _⟩ => ⟨S16x3x3072, .f32⟩
  | .hbm, ⟨62, _⟩ => ⟨S16x2048x128, .f32⟩
  | .local _ .vmem, ⟨0, _⟩ => ⟨S128x3072, .bf16⟩
  | .local _ .vmem, ⟨1, _⟩ => ⟨S128x3072, .bf16⟩
  | .local _ .vmem, ⟨2, _⟩ => ⟨S128x2048, .bf16⟩
  | .local _ .vmem, ⟨3, _⟩ => ⟨S128x2048, .bf16⟩
  | .local _ .vmem, ⟨4, _⟩ => ⟨S128x128, .f32⟩
  | .local _ .vmem, ⟨5, _⟩ => ⟨S128x128, .f32⟩
  | .local _ .vmem, ⟨6, _⟩ => ⟨S4x3072, .f32⟩
  | .local _ .vmem, ⟨7, _⟩ => ⟨S1x3072, .f32⟩
  | .local _ .vmem, ⟨8, _⟩ => ⟨S1x128, .f32⟩
  | .local _ .vmem, ⟨9, _⟩ => ⟨S1x128, .f32⟩
  | .local _ .vmem, ⟨10, _⟩ => ⟨S1x2048, .f32⟩
  | .local _ .vmem, ⟨11, _⟩ => ⟨S1x2048, .f32⟩
  | .local _ .vmem, ⟨12, _⟩ => ⟨S256x2048, .bf16⟩
  | .local _ .vmem, ⟨13, _⟩ => ⟨S128x128, .bf16⟩
  | .local _ .vmem, ⟨14, _⟩ => ⟨S128x2048, .bf16⟩
  | .local _ .vmem, ⟨15, _⟩ => ⟨S128x2048, .bf16⟩
  | .local _ .vmem, ⟨16, _⟩ => ⟨S1x3x3072, .f32⟩
  | .local _ .vmem, ⟨17, _⟩ => ⟨S1x3x3072, .f32⟩
  | .local _ .vmem, ⟨18, _⟩ => ⟨S1x2048x128, .f32⟩
  | .local _ .vmem, ⟨19, _⟩ => ⟨S1x2048x128, .f32⟩
  | .local _ .vmem, ⟨20, _⟩ => ⟨S136x3072, .f32⟩
  | .local _ .vmem, ⟨21, _⟩ => ⟨S128x2048, .f32⟩
  | .local _ .vmem, ⟨22, _⟩ => ⟨S128x1024, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S4x128x512, .f32⟩
  | .local _ .vmem, ⟨27, _⟩ => ⟨S128x2048, .f32⟩
  | _, _ => ⟨S32768x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_0 : Ref sig .tc := ⟨.hbm, 46, rfl⟩
abbrev main_call1_v0 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_1 : Ref sig .tc := ⟨.hbm, 51, rfl⟩
abbrev main_call2_v0 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31_0 : Ref sig .tc := ⟨.hbm, 60, rfl⟩
abbrev main_v31_1 : Ref sig .tc := ⟨.hbm, 61, rfl⟩
abbrev main_v31_2 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v237 : BitVec 1 := Scalar.cmpi .eq arg1 c15_i32
  let v238 : BitVec 32 := Scalar.extui v237
  let c0_i32_130 : BitVec 32 := 0#32
  let v239 : BitVec 1 := Scalar.cmpi .ne v238 c0_i32_130
  v239

def k0_cond3 (i : grid0.Coords) : BitVec 1 :=
  let arg1 : BitVec 32 := BitVec.ofNat 32 (i 1).val
  let c15_i32_620 : BitVec 32 := 15#32
  let v1231 : BitVec 1 := Scalar.cmpi .eq arg1 c15_i32_620
  let v1232 : BitVec 32 := Scalar.extui v1231
  let c0_i32_621 : BitVec 32 := 0#32
  let v1233 : BitVec 1 := Scalar.cmpi .ne v1232 c0_i32_621
  v1233

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x3x3072 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference4Ideal.lean ====
abbrev S32768x9728 : Shape := ⟨2, ![32768, 9728]⟩
abbrev S32768x128 : Shape := ⟨2, ![32768, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S32768x3072 : Shape := ⟨2, ![32768, 3072]⟩
abbrev S16x2048x3072 : Shape := ⟨3, ![16, 2048, 3072]⟩
abbrev S_ : Shape := ⟨0, ![]⟩
abbrev S16x2051x3072 : Shape := ⟨3, ![16, 2051, 3072]⟩
abbrev S1x1x3072 : Shape := ⟨3, ![1, 1, 3072]⟩
abbrev S3072 : Shape := ⟨1, ![3072]⟩
abbrev S16x2048x2048 : Shape := ⟨3, ![16, 2048, 2048]⟩
abbrev S16x16x128x32x64 : Shape := ⟨5, ![16, 16, 128, 32, 64]⟩
abbrev S16x2048x512 : Shape := ⟨3, ![16, 2048, 512]⟩
abbrev S16x16x128x4x128 : Shape := ⟨5, ![16, 16, 128, 4, 128]⟩
abbrev S32768x32 : Shape := ⟨2, ![32768, 32]⟩
abbrev S32 : Shape := ⟨1, ![32]⟩
abbrev S16x16x128x32 : Shape := ⟨4, ![16, 16, 128, 32]⟩
abbrev S1x1x1x32 : Shape := ⟨4, ![1, 1, 1, 32]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x128x1 : Shape := ⟨3, ![128, 128, 1]⟩
abbrev S16x16x1x128x32 : Shape := ⟨5, ![16, 16, 1, 128, 32]⟩
abbrev S16x16x128x128x32 : Shape := ⟨5, ![16, 16, 128, 128, 32]⟩
abbrev S16x16x1x32 : Shape := ⟨4, ![16, 16, 1, 32]⟩
abbrev S16x16x32 : Shape := ⟨3, ![16, 16, 32]⟩
abbrev S16x16x128x32x1 : Shape := ⟨5, ![16, 16, 128, 32, 1]⟩
abbrev S16x16x128x4x8x64 : Shape := ⟨6, ![16, 16, 128, 4, 8, 64]⟩
abbrev S16x16x4x8x64x128 : Shape := ⟨6, ![16, 16, 4, 8, 64, 128]⟩
abbrev S16x16x32x64x128 : Shape := ⟨5, ![16, 16, 32, 64, 128]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S16x16x1 : Shape := ⟨3, ![16, 16, 1]⟩
abbrev S16x1x16x32 : Shape := ⟨4, ![16, 1, 16, 32]⟩
abbrev S16x16x16x32 : Shape := ⟨4, ![16, 16, 16, 32]⟩
abbrev S16x32x64x128 : Shape := ⟨4, ![16, 32, 64, 128]⟩
abbrev S16x3x3072 : Shape := ⟨3, ![16, 3, 3072]⟩
abbrev S16x2048x128 : Shape := ⟨3, ![16, 2048, 128]⟩

abbrev nBuf : Space → Nat
  | .hbm => 136
  | .vmem => 0
  | .smem => 0
  | _ => 0

abbrev hbmTy0_0 (i : Nat) : BufTy := match i % 128 with
  | 0 => ⟨S32768x9728, .bf16⟩
  | 1 => ⟨S32768x128, .f32⟩
  | 2 => ⟨S1x4x3072, .f32⟩
  | 3 => ⟨S1x3072, .f32⟩
  | 4 => ⟨S1x32, .f32⟩
  | 5 => ⟨S1x32, .f32⟩
  | 6 => ⟨S1x32, .f32⟩
  | 7 => ⟨S1x2048, .f32⟩
  | 8 => ⟨S32768x3072, .bf16⟩
  | 9 => ⟨S32768x3072, .f32⟩
  | 10 => ⟨S16x2048x3072, .f32⟩
  | 11 => ⟨S_, .i32⟩
  | 12 => ⟨S_, .f32⟩
  | 13 => ⟨S16x2051x3072, .f32⟩
  | 14 => ⟨S16x2048x3072, .f32⟩
  | 15 => ⟨S1x1x3072, .f32⟩
  | 16 => ⟨S3072, .f32⟩
  | 17 => ⟨S1x1x3072, .f32⟩
  | 18 => ⟨S16x2048x3072, .f32⟩
  | 19 => ⟨S16x2048x3072, .f32⟩
  | 20 => ⟨S_, .f32⟩
  | 21 => ⟨S16x2048x3072, .f32⟩
  | 22 => ⟨S16x2048x3072, .f32⟩
  | 23 => ⟨S16x2048x3072, .f32⟩
  | 24 => ⟨S1x1x3072, .f32⟩
  | 25 => ⟨S3072, .f32⟩
  | 26 => ⟨S1x1x3072, .f32⟩
  | 27 => ⟨S16x2048x3072, .f32⟩
  | 28 => ⟨S16x2048x3072, .f32⟩
  | 29 => ⟨S16x2048x3072, .f32⟩
  | 30 => ⟨S16x2048x3072, .f32⟩
  | 31 => ⟨S1x1x3072, .f32⟩
  | 32 => ⟨S3072, .f32⟩
  | 33 => ⟨S1x1x3072, .f32⟩
  | 34 => ⟨S16x2048x3072, .f32⟩
  | 35 => ⟨S16x2048x3072, .f32⟩
  | 36 => ⟨S16x2048x3072, .f32⟩
  | 37 => ⟨S16x2048x3072, .f32⟩
  | 38 => ⟨S1x1x3072, .f32⟩
  | 39 => ⟨S3072, .f32⟩
  | 40 => ⟨S1x1x3072, .f32⟩
  | 41 => ⟨S16x2048x3072, .f32⟩
  | 42 => ⟨S16x2048x3072, .f32⟩
  | 43 => ⟨S16x2048x3072, .f32⟩
  | 44 => ⟨S3072, .f32⟩
  | 45 => ⟨S1x1x3072, .f32⟩
  | 46 => ⟨S16x2048x3072, .f32⟩
  | 47 => ⟨S16x2048x3072, .f32⟩
  | 48 => ⟨S16x2048x3072, .f32⟩
  | 49 => ⟨S16x2048x3072, .f32⟩
  | 50 => ⟨S_, .f32⟩
  | 51 => ⟨S16x2048x3072, .f32⟩
  | 52 => ⟨S16x2048x3072, .f32⟩
  | 53 => ⟨S_, .f32⟩
  | 54 => ⟨S16x2048x3072, .f32⟩
  | 55 => ⟨S16x2048x3072, .f32⟩
  | 56 => ⟨S16x2048x3072, .f32⟩
  | 57 => ⟨S16x2048x2048, .f32⟩
  | 58 => ⟨S16x16x128x32x64, .f32⟩
  | 59 => ⟨S16x2048x512, .f32⟩
  | 60 => ⟨S16x16x128x4x128, .f32⟩
  | 61 => ⟨S32768x32, .f32⟩
  | 62 => ⟨S32, .f32⟩
  | 63 => ⟨S1x32, .f32⟩
  | 64 => ⟨S32768x32, .f32⟩
  | 65 => ⟨S32768x32, .f32⟩
  | 66 => ⟨S_, .f32⟩
  | 67 => ⟨S32768x32, .f32⟩
  | 68 => ⟨S32768x32, .f32⟩
  | 69 => ⟨S32768x32, .f32⟩
  | 70 => ⟨S32768x32, .f32⟩
  | 71 => ⟨S32768x32, .i1⟩
  | 72 => ⟨S32768x32, .f32⟩
  | 73 => ⟨S32768x32, .f32⟩
  | 74 => ⟨S32768x32, .f32⟩
  | 75 => ⟨S32768x32, .f32⟩
  | 76 => ⟨S32768x32, .f32⟩
  | 77 => ⟨S32768x32, .f32⟩
  | 78 => ⟨S32768x32, .f32⟩
  | 79 => ⟨S32768x32, .f32⟩
  | 80 => ⟨S16x16x128x32, .f32⟩
  | 81 => ⟨S32, .f32⟩
  | 82 => ⟨S32, .f32⟩
  | 83 => ⟨S32, .f32⟩
  | 84 => ⟨S1x1x1x32, .f32⟩
  | 85 => ⟨S16x16x128x32, .f32⟩
  | 86 => ⟨S16x16x128x32, .f32⟩
  | 87 => ⟨S128, .i32⟩
  | 88 => ⟨S128x1, .i32⟩
  | 89 => ⟨S1x128, .i32⟩
  | 90 => ⟨S128x128, .i32⟩
  | 91 => ⟨S128x128, .i32⟩
  | 92 => ⟨S128x128, .i1⟩
  | 93 => ⟨S128x128x1, .i1⟩
  | 94 => ⟨S16x16x1x128x32, .f32⟩
  | 95 => ⟨S_, .f32⟩
  | 96 => ⟨S_, .f32⟩
  | 97 => ⟨S16x16x128x128x32, .i1⟩
  | 98 => ⟨S16x16x128x128x32, .f32⟩
  | 99 => ⟨S16x16x128x128x32, .f32⟩
  | 100 => ⟨S16x16x128x128x32, .f32⟩
  | 101 => ⟨S_, .f32⟩
  | 102 => ⟨S16x16x128x32, .f32⟩
  | 103 => ⟨S16x16x1x32, .f32⟩
  | 104 => ⟨S16x16x32, .f32⟩
  | 105 => ⟨S16x16x1x32, .f32⟩
  | 106 => ⟨S16x16x128x32, .f32⟩
  | 107 => ⟨S16x16x128x32, .f32⟩
  | 108 => ⟨S16x16x128x32, .f32⟩
  | 109 => ⟨S16x16x128x32, .f32⟩
  | 110 => ⟨S16x16x128x32x1, .f32⟩
  | 111 => ⟨S16x16x128x32x64, .f32⟩
  | 112 => ⟨S16x16x128x32x64, .f32⟩
  | 113 => ⟨S16x16x128x4x8x64, .f32⟩
  | 114 => ⟨S16x16x4x8x64x128, .f32⟩
  | 115 => ⟨S16x16x32x64x128, .f32⟩
  | 116 => ⟨S16, .i32⟩
  | 117 => ⟨S16x1, .i32⟩
  | 118 => ⟨S1x16, .i32⟩
  | 119 => ⟨S16x16, .i32⟩
  | 120 => ⟨S16x16, .i32⟩
  | 121 => ⟨S16x16, .i1⟩
  | 122 => ⟨S16x16x1, .i1⟩
  | 123 => ⟨S16x1x16x32, .f32⟩
  | 124 => ⟨S_, .f32⟩
  | 125 => ⟨S_, .f32⟩
  | 126 => ⟨S16x16x16x32, .i1⟩
  | 127 => ⟨S16x16x16x32, .f32⟩
  | _ => ⟨S32768x9728, .bf16⟩

abbrev hbmTy0_1 (i : Nat) : BufTy := match i % 128 with
  | 0 => ⟨S16x16x16x32, .f32⟩
  | 1 => ⟨S16x16x16x32, .f32⟩
  | 2 => ⟨S_, .f32⟩
  | 3 => ⟨S16x16x32, .f32⟩
  | 4 => ⟨S16x16x32, .f32⟩
  | 5 => ⟨S16x32x64x128, .f32⟩
  | 6 => ⟨S16x3x3072, .f32⟩
  | 7 => ⟨S16x2048x128, .f32⟩
  | _ => ⟨S32768x9728, .bf16⟩

abbrev hbmTy (i : Nat) : BufTy := match i / 128 with
  | 0 => hbmTy0_0 i
  | 1 => hbmTy0_1 i
  | _ => ⟨S32768x9728, .bf16⟩

abbrev bufTy : (tb : Table) → Fin (tcTables nBuf tb) → BufTy
  | .hbm, ⟨i, _⟩ => hbmTy i
  | _, _ => ⟨S32768x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_0 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_v63 : Ref sig .tc := ⟨.hbm, 100, rfl⟩
abbrev main_cst_1 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_2 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_call4_v3 : Ref sig .tc := ⟨.hbm, 128, rfl⟩
abbrev main_v86 : Ref sig .tc := ⟨.hbm, 129, rfl⟩
abbrev main_cst_3 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩

abbrev nD : Nat := 1
abbrev τ : Topo := Topo.v7x

variable {F : FTy → Type} [FloatOps F]
-- ==== Proof.AttnTables.lean ====
module

public import proofs.«01_k».proof.Proof.Gen.KernelIdeal.Value
public import Idealize.ShloMosaic.Lib.Pointwise
public import Idealize.ShloMosaic.Lib.StableHlo.RunRead

@[expose] public section

set_option maxRecDepth 16384

noncomputable section

namespace Cert.Attn

open Cert.KernelIdeal Cert.KernelIdeal.Gen Cert.KernelIdeal.Value Idealize.ShloMosaic Idealize.SL.Sem

/-- Three runs of columns side by side. -/
def cat3 (a b : FVec Ideal S2048x8 .f32) (d : FVec Ideal S2048x48 .f32) : FVec Ideal S2048x64 .f32 :=
  concatenate S2048x64 1 [⟨S2048x8, a⟩, ⟨S2048x8, b⟩, ⟨S2048x48, d⟩] concatenates_S2048x8_S2048x8_S2048x48_S2048x64_d1

theorem cat3_congr (a b a' b' : FVec Ideal S2048x8 .f32) (d d' : FVec Ideal S2048x48 .f32) (ha : a = a') (hb : b = b') (hd : d = d') :
    concatenate S2048x64 1 [⟨S2048x8, a⟩, ⟨S2048x8, b⟩, ⟨S2048x48, d⟩] concatenates_S2048x8_S2048x8_S2048x48_S2048x64_d1 = cat3 a' b' d' := by
  subst ha hb hd; rfl

/-- Two blocks of rows one below the other. -/
def cat2 (a b : FVec Ideal S128x128 .f32) : FVec Ideal S256x128 .f32 :=
  concatenate S256x128 0 [⟨S128x128, a⟩, ⟨S128x128, b⟩] concatenates_S128x128_S128x128_S256x128_d0

theorem cat2_fold (a b : FVec Ideal S128x128 .f32) :
    concatenate S256x128 0 [⟨S128x128, a⟩, ⟨S128x128, b⟩] concatenates_S128x128_S128x128_S256x128_d0 = cat2 a b := rfl

/-- A table of 64 columns written twice side by side. -/
def tile (x : FVec Ideal S2048x64 .f32) : FVec Ideal S2048x128 .f32 :=
  shapeCast S2048x128 (broadcastInDim S1x2048x2x64 ![0, 1, 2, 3] bcast_S1x2048x1x64_S1x2048x2x64_0_1_2_3
    (shapeCast S1x2048x1x64 x shapeCasts_S2048x64_S1x2048x1x64)) shapeCasts_S1x2048x2x64_S2048x128

/-- The angle of position `l` and frequency `d`. -/
def angle : FVec Ideal S2048x8 .f32 :=
  mulf
    (broadcastInDim S2048x8 ![0, 1] bcast_S2048x1_S2048x8_0_1
      (broadcastInDim S2048x1 ![0] bcast_S2048_S2048x1_0 (sitofp FTy.f32 (iotaInDim S2048 32 0))))
    (broadcastInDim S2048x8 ![0, 1] bcast_S1x8_S2048x8_0_1
      (broadcastInDim S1x8 ![1] bcast_S8_S1x8_1
        (Host.powf (broadcastInDim S8 ![] bcast_S_S8 (constant S_ FTy.f32 1223959552#32))
          (mulf (Host.negf (sitofp FTy.f32 (iotaInDim S8 32 0)))
            (broadcastInDim S8 ![] bcast_S_S8 (constant S_ FTy.f32 1040187392#32))))))

/-- The same number in every cell. -/
def flat8 (w : BitVec 32) : FVec Ideal S2048x8 .f32 := broadcastInDim S2048x8 ![] bcast_S_S2048x8 (constant S_ FTy.f32 w)
/-- The same number in every cell. -/
def flat48 (w : BitVec 32) : FVec Ideal S2048x48 .f32 := broadcastInDim S2048x48 ![] bcast_S_S2048x48 (constant S_ FTy.f32 w)

/-- A row of 64 written twice side by side. -/
def tileRow (x : FVec Ideal S1x64 .f32) : FVec Ideal S1x128 .f32 :=
  shapeCast S1x128 (broadcastInDim S1x1x2x64 ![0, 1, 2, 3] bcast_S1x1x1x64_S1x1x2x64_0_1_2_3
    (shapeCast S1x1x1x64 (shapeCast S1x64 (shapeCast S64 x shapeCasts_S1x64_S64) shapeCasts_S64_S1x64) shapeCasts_S1x64_S1x1x1x64))
    shapeCasts_S1x1x2x64_S1x128

/-- Quotient by 64, rounded down, of a vector of whole numbers. -/
def quot {S : Shape} (hb : Shape.BroadcastsInDim S_ S ![]) (x : IVec S 32) : IVec S 32 :=
  select (andi (cmpi CmpIPredicate.ne (signi x) (broadcastInDim S ![] hb (signi (constantI S_ 32 64#32))))
      (cmpi CmpIPredicate.ne (Host.remsi x (broadcastInDim S ![] hb (constantI S_ 32 64#32))) (broadcastInDim S ![] hb (constantI S_ 32 0#32))))
    (subi (Host.divsi x (broadcastInDim S ![] hb (constantI S_ 32 64#32))) (broadcastInDim S ![] hb (constantI S_ 32 1#32)))
    (Host.divsi x (broadcastInDim S ![] hb (constantI S_ 32 64#32)))

/-- The averaging matrix: one 64th where the two indices lie in one half. -/
def avg : FVec Ideal S128x128 .f32 :=
  Host.divf (uitofp FTy.f32 (cmpi CmpIPredicate.eq
      (broadcastInDim S128x128 ![0, 1] bcast_S128x1_S128x128_0_1
        (quot bcast_S_S128x1 (broadcastInDim S128x1 ![0] bcast_S128_S128x1_0 (iotaInDim S128 32 0))))
      (broadcastInDim S128x128 ![0, 1] bcast_S1x128_S128x128_0_1
        (quot bcast_S_S1x128 (broadcastInDim S1x128 ![1] bcast_S128_S1x128_1 (iotaInDim S128 32 0))))))
    (broadcastInDim S128x128 ![] bcast_S_S128x128 (constant S_ FTy.f32 1115684864#32))

variable (m : (ℓ : Loc nD τ sig) → Buf (Elt Ideal) ℓ)

theorem V48 (c : Dev nD) : (V m c main_v48 : FVec Ideal S2048x128 .f32)
    = tile (cat3 (Host.cos angle) (Host.cos angle) (flat48 1065353216#32)) := by
  unfold V hostOps0
  simp only [List.flatten_cons, List.flatten_nil, List.append_nil, List.cons_append, List.nil_append, hostOps0_1, hostOps0_2, hostOps0_3, hostOps0_4]
  after_reads_simp
  refine congrArg tile (cat3_congr _ _ _ _ _ _ ?_ ?_ ?_)
  · after_reads_simp
    refine (StableHlo.unary_result' _ _ _ _).trans ?_
    after_reads_simp
    rfl
  · after_reads_simp
    refine (StableHlo.unary_result' _ _ _ _).trans ?_
    after_reads_simp
    rfl
  · after_reads_simp
    refine (StableHlo.unary_result' _ _ _ _).trans ?_
    after_reads_simp
    rfl

theorem V51 (c : Dev nD) : (V m c main_v51 : FVec Ideal S2048x128 .f32)
    = tile (cat3 (Host.negf (Host.sin angle)) (flat8 0#32) (flat48 0#32)) := by
  unfold V hostOps0
  simp only [List.flatten_cons, List.flatten_nil, List.append_nil, List.cons_append, List.nil_append, hostOps0_1, hostOps0_2, hostOps0_3, hostOps0_4]
  after_reads_simp
  refine congrArg tile (cat3_congr _ _ _ _ _ _ ?_ ?_ ?_)
  · after_reads_simp
    refine (StableHlo.unary_result' _ _ _ _).trans ?_
    after_reads_simp
    rfl
  · after_reads_simp
    refine (StableHlo.unary_result' _ _ _ _).trans ?_
    after_reads_simp
    rfl
  · after_reads_simp
    refine (StableHlo.unary_result' _ _ _ _).trans ?_
    after_reads_simp
    rfl

theorem V54 (c : Dev nD) : (V m c main_v54 : FVec Ideal S2048x128 .f32)
    = tile (cat3 (flat8 0#32) (Host.sin angle) (flat48 0#32)) := by
  unfold V hostOps0
  simp only [List.flatten_cons, List.flatten_nil, List.append_nil, List.cons_append, List.nil_append, hostOps0_1, hostOps0_2, hostOps0_3, hostOps0_4]
  after_reads_simp
  refine congrArg tile (cat3_congr _ _ _ _ _ _ ?_ ?_ ?_)
  · after_reads_simp
    refine (StableHlo.unary_result' _ _ _ _).trans ?_
    after_reads_simp
    rfl
  · after_reads_simp
    refine (StableHlo.unary_result' _ _ _ _).trans ?_
    after_reads_simp
    rfl
  · after_reads_simp
    refine (StableHlo.unary_result' _ _ _ _).trans ?_
    after_reads_simp
    rfl

theorem V17 (c : Dev nD) : (V m c main_v17 : FVec Ideal S1x128 .f32) = tileRow (m (c, Proc.tc.devRef main_arg1)) := by
  unfold V hostOps0
  simp only [List.flatten_cons, List.flatten_nil, List.append_nil, List.cons_append, List.nil_append, hostOps0_1, hostOps0_2, hostOps0_3, hostOps0_4]
  after_reads_simp
  rfl

theorem V22 (c : Dev nD) : (V m c main_v22 : FVec Ideal S1x128 .f32) = tileRow (m (c, Proc.tc.devRef main_arg2)) := by
  unfold V hostOps0
  simp only [List.flatten_cons, List.flatten_nil, List.append_nil, List.cons_append, List.nil_append, hostOps0_1, hostOps0_2, hostOps0_3, hostOps0_4]
  after_reads_simp
  rfl

theorem V23 (c : Dev nD) : (V m c main_v23 : FVec Ideal S16 .f32)
    = shapeCast S16 (m (c, Proc.tc.devRef main_arg3) : FVec Ideal S1x16 .f32) shapeCasts_S1x16_S16 := by
  unfold V hostOps0
  simp only [List.flatten_cons, List.flatten_nil, List.append_nil, List.cons_append, List.nil_append, hostOps0_1, hostOps0_2, hostOps0_3, hostOps0_4]
  after_reads_simp
  rfl

theorem V12 (c : Dev nD) : (V m c main_v12 : FVec Ideal S256x128 .bf16) = truncf FTy.bf16 (cat2 avg avg) bitsLt_bf16_f32 := by
  unfold V hostOps0
  simp only [List.flatten_cons, List.flatten_nil, List.append_nil, List.cons_append, List.nil_append, hostOps0_1, hostOps0_2, hostOps0_3, hostOps0_4]
  after_reads_simp
  simp only [cat2_fold]; after_reads_simp
  simp only [StableHlo.TRef.ofBuf_toBuf]
  rfl

end Cert.Attn
end
-- ==== Proof.AttnTab.lean ====
module

public import proofs.«01_k».proof.Proof.AttnTables

@[expose] public section

set_option maxRecDepth 16384

noncomputable section

namespace Cert.Attn

open Cert.KernelIdeal Cert.KernelIdeal.Gen Cert.KernelIdeal.Value Idealize.ShloMosaic Idealize.SL.Sem

theorem tiled_at (x : FVec Ideal S2048x64 .f32) (l : Fin 2048) (k : Fin 128) :
    tile x (ix2 l k) = x (ix2 l ⟨k.val % 64, by omega⟩) := by
  unfold tile
  pointwise

theorem tileRow_at (x : FVec Ideal S1x64 .f32) (k : Fin 128) :
    tileRow x (ix2 0 k) = x (ix2 0 ⟨k.val % 64, by omega⟩) := by
  unfold tileRow
  pointwise

theorem cat3_at (a b : FVec Ideal S2048x8 .f32) (e : FVec Ideal S2048x48 .f32) (l : Fin 2048) (d : Fin 64) :
    cat3 a b e (ix2 l d) = if h : d.val < 8 then a (ix2 l ⟨d.val, h⟩) else
      if h2 : d.val - 8 < 8 then b (ix2 l ⟨d.val - 8, h2⟩) else e (ix2 l ⟨d.val - 8 - 8, by omega⟩) := by
  unfold cat3
  pointwise

/-- The angle of position `l` and frequency `d`, as a number. -/
def ang (l : Fin 2048) (d : Fin 8) : EReal :=
  FloatOps.sitofp (F := Ideal) FTy.f32 (BitVec.ofNat 32 l.val) *
      Ideal.pow (Ideal.ofBits FTy.f32 1223959552#32)
        (-FloatOps.sitofp (F := Ideal) FTy.f32 (BitVec.ofNat 32 d.val) * Ideal.ofBits FTy.f32 1040187392#32)

theorem cos_at (l : Fin 2048) (d : Fin 8) : Host.cos angle (ix2 l d) = Ideal.cos (ang l d) := by
  unfold angle ang
  pointwise

theorem sin_at (l : Fin 2048) (d : Fin 8) : Host.sin angle (ix2 l d) = Ideal.sin (ang l d) := by
  unfold angle ang
  pointwise

theorem nsin_at (l : Fin 2048) (d : Fin 8) : Host.negf (Host.sin angle) (ix2 l d) = -Ideal.sin (ang l d) := by
  unfold angle ang
  pointwise

/-- Quotient by 64 of one whole number, as the host computes it. -/
def quot1 (x : BitVec 32) : BitVec 32 :=
  Scalar.select
    (IntOp.andi (IntOp.cmpi CmpIPredicate.ne (if x = 0 then (0 : BitVec 32) else if x.msb = true then -1 else 1)
        (if 64#32 = 0 then (0 : BitVec 32) else if (64#32).msb = true then -1 else 1))
      (IntOp.cmpi CmpIPredicate.ne (IntOp.remsi ArithUnit.host x 64#32) 0#32))
    (IntOp.subi (IntOp.divsi ArithUnit.host x 64#32) 1#32)
    (IntOp.divsi ArithUnit.host x 64#32)

theorem quot1_eq : ∀ j : Fin 128, quot1 (BitVec.ofNat 32 j.val) = BitVec.ofNat 32 (j.val / 64) := by decide +kernel

theorem avg_raw (j l : Fin 128) : avg (ix2 j l) = Ideal.div
    (FloatOps.uitofp (F := Ideal) FTy.f32 (IntOp.cmpi CmpIPredicate.eq (quot1 (BitVec.ofNat 32 j.val)) (quot1 (BitVec.ofNat 32 l.val))))
    (Ideal.ofBits FTy.f32 1115684864#32) := by
  unfold avg quot
  pointwise
  rfl

theorem bits_64 : Ideal.ofBits FTy.f32 1115684864#32 = ((64 : ℝ) : EReal) := by
  simp [Ideal.ofBits, Ideal.ieee, -EReal.coe_mul]; norm_num

theorem bits_eighth : Ideal.ofBits FTy.f32 1040187392#32 = ((1 / 8 : ℝ) : EReal) := by
  simp [Ideal.ofBits, Ideal.ieee, -EReal.coe_mul]; norm_num

theorem bits_theta : ∃ r : ℝ, Ideal.ofBits FTy.f32 1223959552#32 = (r : EReal) := by
  refine ⟨500000, ?_⟩
  simp [Ideal.ofBits, Ideal.ieee, -EReal.coe_mul]; norm_num

theorem bits_eps : ∃ r : ℝ, 0 < r ∧ Ideal.ofBits FTy.f32 897988541#32 = (r : EReal) := by
  refine ⟨8796093 / 8796093022208, by norm_num, ?_⟩
  simp [Ideal.ofBits, Ideal.ieee, -EReal.coe_mul]; norm_num

theorem bits_zero : Ideal.ofBits FTy.f32 0#32 = 0 := by simp [Ideal.ofBits, Ideal.ieee]

theorem bits_one : Ideal.ofBits FTy.f32 1065353216#32 = 1 := Ideal.ofBits_one_f32

theorem bits_bot : Ideal.ofBits FTy.f32 4286578688#32 = ⊥ := by simp [Ideal.ofBits, Ideal.ieee]

/-- The averaging matrix at one entry. -/
theorem avg_at (j l : Fin 128) : avg (ix2 j l) = if j.val / 64 = l.val / 64 then ((1 / 64 : ℝ) : EReal) else 0 := by
  have hj : j.val / 64 < 2 := by omega
  have hl : l.val / 64 < 2 := by omega
  rw [avg_raw, quot1_eq, quot1_eq, bits_64]
  have e : ∀ a b : Fin 2, IntOp.cmpi CmpIPredicate.eq (BitVec.ofNat 32 a.val) (BitVec.ofNat 32 b.val) = if a.val = b.val then 1#1 else 0#1 := by
    decide
  rw [e ⟨_, hj⟩ ⟨_, hl⟩]
  have h64 : ¬ (((64 : ℝ) : EReal) = 0) := by
    intro h
    have := EReal.coe_eq_zero.mp h
    norm_num at this
  unfold Ideal.div
  rw [if_neg h64, ← EReal.coe_inv]
  by_cases h : j.val / 64 = l.val / 64
  · rw [if_pos h, if_pos h]
    show (((1#1).toNat : ℝ) : EReal) * _ = _
    rw [← EReal.coe_mul]
    norm_num
  · rw [if_neg h, if_neg h]
    show (((0#1).toNat : ℝ) : EReal) * _ = _
    rw [← EReal.coe_mul]
    norm_num

theorem cat2_at (a b : FVec Ideal S128x128 .f32) (j : Fin 256) (l : Fin 128) :
    cat2 a b (ix2 j l) = if h : j.val < 128 then a (ix2 ⟨j.val, h⟩ l) else b (ix2 ⟨j.val - 128, by omega⟩ l) := by
  unfold cat2
  pointwise

theorem flat8_at (w) (l : Fin 2048) (d : Fin 8) : flat8 w (ix2 l d) = Ideal.ofBits .f32 w := by
  unfold flat8
  pointwise

theorem flat48_at (w) (l : Fin 2048) (d : Fin 48) : flat48 w (ix2 l d) = Ideal.ofBits .f32 w := by
  unfold flat48
  pointwise

theorem sink_at (x : FVec Ideal S1x16 .f32) (d : Fin 16) : shapeCast S16 x shapeCasts_S1x16_S16 (ix1 d) = x (ix2 0 d) := by
  pointwise

/-- The angle is a real number. -/
theorem ang_real (l : Fin 2048) (d : Fin 8) : ∃ r : ℝ, ang l d = (r : EReal) := by
  obtain ⟨t, ht⟩ := bits_theta
  unfold ang
  rw [ht, bits_eighth]
  exact ⟨_, by
    show ((_ : ℝ) : EReal) * Ideal.pow (t : EReal) (-((_ : ℝ) : EReal) * ((1 / 8 : ℝ) : EReal)) = _
    rw [← EReal.coe_neg, ← EReal.coe_mul]
    show _ * ((_ : ℝ) : EReal) = _
    rw [← EReal.coe_mul]⟩

theorem cos_real (l : Fin 2048) (d : Fin 8) : ∃ r : ℝ, Ideal.cos (ang l d) = (r : EReal) := by
  obtain ⟨t, ht⟩ := ang_real l d
  exact ⟨Real.cos t, by rw [ht]; rfl⟩

theorem sin_real (l : Fin 2048) (d : Fin 8) : ∃ r : ℝ, Ideal.sin (ang l d) = (r : EReal) := by
  obtain ⟨t, ht⟩ := ang_real l d
  exact ⟨Real.sin t, by rw [ht]; rfl⟩

end Cert.Attn
end
-- ==== Proof.AttnRead.lean ====
/- What each block the attention reads holds, at an entry. -/
module

public import proofs.«01_k».proof.Proof.AttnTab

@[expose] public section

set_option maxRecDepth 16384

noncomputable section

namespace Cert.Attn

open Cert.KernelIdeal Cert.KernelIdeal.Gen Cert.KernelIdeal.Value Idealize.ShloMosaic Idealize.ShloMosaic.TcCoe Idealize.SL.Sem

/-- The cosine table: the cosines of the first 16 columns of a head, and ones. -/
def cosTab (L : Fin 2048) (l : Fin 128) : EReal :=
  if h : l.val % 64 < 8 then Ideal.cos (ang L ⟨l.val % 64, h⟩) else
    if h2 : l.val % 64 - 8 < 8 then Ideal.cos (ang L ⟨l.val % 64 - 8, h2⟩) else 1

/-- The table of negated sines, on the first 8 columns of a head. -/
def loTab (L : Fin 2048) (l : Fin 128) : EReal :=
  if h : l.val % 64 < 8 then -Ideal.sin (ang L ⟨l.val % 64, h⟩) else 0

/-- The table of sines, on the second 8 columns of a head. -/
def hiTab (L : Fin 2048) (l : Fin 128) : EReal :=
  if l.val % 64 < 8 then 0 else
    if h2 : l.val % 64 - 8 < 8 then Ideal.sin (ang L ⟨l.val % 64 - 8, h2⟩) else 0

/-- The averaging matrix twice, one below the other. -/
def avgTab (j : Fin 256) (l : Fin 128) : EReal :=
  if j.val % 128 / 64 = l.val / 64 then ((1 / 64 : ℝ) : EReal) else 0

variable (m : (ℓ : Loc nD τ sig) → Buf (Elt Ideal) ℓ)

/-- The block index of each window at a point. -/
theorem idx_all : ∀ t : Fin cfg0.N, win0_0.index t = ![0] ∧ win0_1.index t = ![t.val, 4] ∧ win0_2.index t = ![t.val, 18] ∧ win0_3.index t = ![t.val, 5]
    ∧ win0_4.index t = ![t.val % 16, 0] ∧ win0_5.index t = ![t.val % 16, 0] ∧ win0_6.index t = ![t.val % 16, 0]
    ∧ win0_7.index t = ![0, 0] ∧ win0_8.index t = ![0, 0] ∧ win0_9.index t = ![0, 0]
    ∧ win0_10.index t = ![t.val, 0] ∧ win0_11.index t = ![t.val / 16, 0, 0] ∧ win0_12.index t = ![t.val / 16, 0, 0]
    ∧ (cfg0.win 10).flush t = true ∧ ((grid0.coords t) 1).val = t.val % 16 :=
  (by decide +kernel : ∀ t : Fin grid0.N, _)

/-- A row of the whole array from its block and its place in the block. -/
abbrev row (t : Fin cfg0.N) (p : Fin 128) : Fin 32768 := ⟨t.val * 128 + p.val, by have := lt_of_lt_of_eq t.isLt N_0; omega⟩

/-- A position in its sequence from its block and its place in the block. -/
abbrev pos (t : Fin cfg0.N) (p : Fin 128) : Fin 2048 := ⟨t.val % 16 * 128 + p.val, by omega⟩

/-- The block of query columns. -/
theorem blk1 (c : Dev nD) (t : Fin cfg0.N) (p : Fin 128) (q : Fin 1024) :
    X0_1 m c t (ix2 p q) = m ((c : Thread nD τ).loc main_arg0) (ix2 (row t p) ⟨4096 + q.val, by omega⟩) := by
  unfold X0_1 Pipeline.Window.fill
  rw [dif_pos (moved0_1 t (ix2 p q))]
  show V m c main_arg0 _ = _
  rw [V_main_arg0]
  congr 1
  have h := (idx_all t).2.1
  funext a
  refine Fin.ext ?_
  fin_cases a
  · show win0_1.index t (0 : Fin 2) * 128 + 1 * p.val = t.val * 128 + p.val
    rw [h]; simp
  · show win0_1.index t (1 : Fin 2) * 1024 + 1 * q.val = 4096 + q.val
    rw [h]; simp

/-- The block of key and value columns. -/
theorem blk2 (c : Dev nD) (t : Fin cfg0.N) (p : Fin 128) (q : Fin 512) :
    iblk m c 2 t (ix2 p q) = m ((c : Thread nD τ).loc main_arg0) (ix2 (row t p) ⟨9216 + q.val, by omega⟩) := by
  show V m c main_arg0 (((cfg0.win 2).blk t).view.emb (ix2 p q)) = _
  rw [V_main_arg0]
  congr 1
  have h := (idx_all t).2.2.1
  funext a
  refine Fin.ext ?_
  fin_cases a
  · show win0_2.index t (0 : Fin 2) * 128 + 1 * p.val = t.val * 128 + p.val
    rw [h]; simp
  · show win0_2.index t (1 : Fin 2) * 512 + 1 * q.val = 9216 + q.val
    rw [h]; simp

/-- The sinks. -/
theorem blk0 (c : Dev nD) (t : Fin cfg0.N) (q : Fin 16) :
    iblk m c 0 t (ix1 q) = m ((c : Thread nD τ).loc main_arg3) (ix2 0 q) := by
  have e : ((cfg0.win 0).blk t).view.emb (ix1 q) = ix1 q := by
    have h := (idx_all t).1
    funext a
    refine Fin.ext ?_
    fin_cases a
    show win0_0.index t (0 : Fin 1) * 16 + 1 * q.val = q.val
    rw [h]; simp
  show (V m c main_v23 : FVec Ideal S16 .f32) (((cfg0.win 0).blk t).view.emb (ix1 q)) = _
  rw [e, V23]
  exact sink_at _ q

/-- The block of gate columns. -/
theorem blk3 (c : Dev nD) (t : Fin cfg0.N) (p : Fin 128) (q : Fin 1024) :
    X0_3 m c t (ix2 p q) = m ((c : Thread nD τ).loc main_arg0) (ix2 (row t p) ⟨5120 + q.val, by omega⟩) := by
  unfold X0_3 Pipeline.Window.fill
  rw [dif_pos (moved0_3 t (ix2 p q))]
  show V m c main_arg0 _ = _
  rw [V_main_arg0]
  congr 1
  have h := (idx_all t).2.2.2.1
  funext a
  refine Fin.ext ?_
  fin_cases a
  · show win0_3.index t (0 : Fin 2) * 128 + 1 * p.val = t.val * 128 + p.val
    rw [h]; simp
  · show win0_3.index t (1 : Fin 2) * 1024 + 1 * q.val = 5120 + q.val
    rw [h]; simp

/-- The block of the cosine table. -/
theorem blk4 (c : Dev nD) (t : Fin cfg0.N) (p q : Fin 128) :
    iblk m c 4 t (ix2 p q) = cosTab (pos t p) q := by
  have e : ((cfg0.win 4).blk t).view.emb (ix2 p q) = ix2 (pos t p) q := by
    have h := (idx_all t).2.2.2.2.1
    funext a
    refine Fin.ext ?_
    fin_cases a
    · show win0_4.index t (0 : Fin 2) * 128 + 1 * p.val = t.val % 16 * 128 + p.val
      rw [h]; simp
    · show win0_4.index t (1 : Fin 2) * 128 + 1 * q.val = q.val
      rw [h]; simp
  show (V m c main_v48 : FVec Ideal S2048x128 .f32) (((cfg0.win 4).blk t).view.emb (ix2 p q)) = _
  rw [e, V48, tiled_at, cat3_at]
  unfold cosTab
  simp only [cos_at, sin_at, nsin_at, flat8_at, flat48_at, bits_zero, bits_one]

/-- The block of the negated sines. -/
theorem blk5 (c : Dev nD) (t : Fin cfg0.N) (p q : Fin 128) :
    iblk m c 5 t (ix2 p q) = loTab (pos t p) q := by
  have e : ((cfg0.win 5).blk t).view.emb (ix2 p q) = ix2 (pos t p) q := by
    have h := (idx_all t).2.2.2.2.2.1
    funext a
    refine Fin.ext ?_
    fin_cases a
    · show win0_5.index t (0 : Fin 2) * 128 + 1 * p.val = t.val % 16 * 128 + p.val
      rw [h]; simp
    · show win0_5.index t (1 : Fin 2) * 128 + 1 * q.val = q.val
      rw [h]; simp
  show (V m c main_v51 : FVec Ideal S2048x128 .f32) (((cfg0.win 5).blk t).view.emb (ix2 p q)) = _
  rw [e, V51, tiled_at, cat3_at]
  unfold loTab
  simp only [cos_at, sin_at, nsin_at, flat8_at, flat48_at, bits_zero, bits_one]
  split
  · rfl
  · split <;> rfl

/-- The block of the sines. -/
theorem blk6 (c : Dev nD) (t : Fin cfg0.N) (p q : Fin 128) :
    iblk m c 6 t (ix2 p q) = hiTab (pos t p) q := by
  have e : ((cfg0.win 6).blk t).view.emb (ix2 p q) = ix2 (pos t p) q := by
    have h := (idx_all t).2.2.2.2.2.2.1
    funext a
    refine Fin.ext ?_
    fin_cases a
    · show win0_6.index t (0 : Fin 2) * 128 + 1 * p.val = t.val % 16 * 128 + p.val
      rw [h]; simp
    · show win0_6.index t (1 : Fin 2) * 128 + 1 * q.val = q.val
      rw [h]; simp
  show (V m c main_v54 : FVec Ideal S2048x128 .f32) (((cfg0.win 6).blk t).view.emb (ix2 p q)) = _
  rw [e, V54, tiled_at, cat3_at]
  unfold hiTab
  simp only [cos_at, sin_at, nsin_at, flat8_at, flat48_at, bits_zero, bits_one]
  by_cases h : q.val % 64 < 8
  · rw [dif_pos h, if_pos h]
  · rw [dif_neg h, if_neg h]

/-- The queries' norm weight, twice. -/
theorem blk7 (c : Dev nD) (t : Fin cfg0.N) (q : Fin 128) :
    iblk m c 7 t (ix2 0 q) = m ((c : Thread nD τ).loc main_arg1) (ix2 0 ⟨q.val % 64, by omega⟩) := by
  have e : ((cfg0.win 7).blk t).view.emb (ix2 0 q) = ix2 0 q := by
    have h := (idx_all t).2.2.2.2.2.2.2.1
    funext a
    refine Fin.ext ?_
    fin_cases a
    · show win0_7.index t (0 : Fin 2) * 1 + 1 * 0 = 0
      rw [h]; simp
    · show win0_7.index t (1 : Fin 2) * 128 + 1 * q.val = q.val
      rw [h]; simp
  show (V m c main_v17 : FVec Ideal S1x128 .f32) (((cfg0.win 7).blk t).view.emb (ix2 0 q)) = _
  rw [e, V17]
  exact tileRow_at _ q

/-- The keys' norm weight, twice. -/
theorem blk8 (c : Dev nD) (t : Fin cfg0.N) (q : Fin 128) :
    iblk m c 8 t (ix2 0 q) = m ((c : Thread nD τ).loc main_arg2) (ix2 0 ⟨q.val % 64, by omega⟩) := by
  have e : ((cfg0.win 8).blk t).view.emb (ix2 0 q) = ix2 0 q := by
    have h := (idx_all t).2.2.2.2.2.2.2.2.1
    funext a
    refine Fin.ext ?_
    fin_cases a
    · show win0_8.index t (0 : Fin 2) * 1 + 1 * 0 = 0
      rw [h]; simp
    · show win0_8.index t (1 : Fin 2) * 128 + 1 * q.val = q.val
      rw [h]; simp
  show (V m c main_v22 : FVec Ideal S1x128 .f32) (((cfg0.win 8).blk t).view.emb (ix2 0 q)) = _
  rw [e, V22]
  exact tileRow_at _ q

/-- The averaging matrix, twice. -/
theorem blk9 (c : Dev nD) (t : Fin cfg0.N) (j : Fin 256) (q : Fin 128) :
    iblk m c 9 t (ix2 j q) = avgTab j q := by
  have e : ((cfg0.win 9).blk t).view.emb (ix2 j q) = ix2 j q := by
    have h := (idx_all t).2.2.2.2.2.2.2.2.2.1
    funext a
    refine Fin.ext ?_
    fin_cases a
    · show win0_9.index t (0 : Fin 2) * 256 + 1 * j.val = j.val
      rw [h]; simp
    · show win0_9.index t (1 : Fin 2) * 128 + 1 * q.val = q.val
      rw [h]; simp
  show (V m c main_v12 : FVec Ideal S256x128 .bf16) (((cfg0.win 9).blk t).view.emb (ix2 j q)) = _
  rw [e, V12]
  show cat2 avg avg (ix2 j q) = _
  rw [cat2_at]
  unfold avgTab
  split <;> rw [avg_at] <;> congr 2
  · rw [Nat.mod_eq_of_lt ‹_›]
  · show (j.val - 128) / 64 = j.val % 128 / 64
    omega

end Cert.Attn
end
-- ==== Proof.AttnGroup.lean ====
/- The body of the attention for one group of heads, at one entry: masked scores, weights, their sum, and the weighted values. -/
module

public import proofs.«01_k».proof.Proof.Gen.KernelIdeal.Value
public import Idealize.ShloMosaic.Lib.Pointwise

@[expose] public section

set_option maxRecDepth 16384

noncomputable section

namespace Cert.Attn

open Cert.KernelIdeal Cert.KernelIdeal.Gen Idealize.ShloMosaic Idealize.SL.Sem

/-- The largest masked score of a row, or the sink if that is larger. -/
def top (M : Fin 256 → EReal) (a : EReal) : EReal :=
  max (Finset.fold max (Ideal.ofBits .f32 4286578688#32) M Finset.univ) a

/-- The sum of a row's weights, the sink's among them. -/
def den (M : Fin 256 → EReal) (a : EReal) : EReal :=
  ∑ k, Ideal.exp (M k - top M a) + Ideal.exp (a - top M a)

/-- A row's weighted values over the sum of its weights. -/
def headOut (M : Fin 256 → EReal) (a : EReal) (v : Fin 256 → EReal) : EReal :=
  Ideal.div (∑ k, Ideal.exp (M k - top M a) * v k) (den M a)

/-- Whether a lane lies in the lower half, as the body computes it. -/
def lowLane (l : Fin 128) : BitVec 1 := IntOp.cmpi .slt (BitVec.ofNat 32 l.val) 64#32

/-- The masked score of a query row (its lower or upper half) with a key row. -/
def score (ok : BitVec 1) (up : BitVec 1) (q k : Fin 128 → EReal) : EReal :=
  Scalar.select ok (∑ x, Scalar.select (IntOp.xori (lowLane x) up) (q x * k x) 0) ⊥

theorem p_at (M : FVec Ideal S128x256 .f32) (a : Ideal .f32) (r : Fin 128) (k : Fin 256) :
    k0_pay50 M a (ix2 r k) = Ideal.exp (M (ix2 r k) - top (fun x => M (ix2 r x)) a) := by
  unfold k0_pay50 k0_pay49
  pointwise []
  rfl

theorem den_at (M : FVec Ideal S128x256 .f32) (a : Ideal .f32) (r : Fin 128) :
    k0_pay51 M a (ix2 r 0) = den (fun x => M (ix2 r x)) a := by
  unfold k0_pay51 k0_pay50 k0_pay49
  pointwise []
  rfl

theorem xori_zero (b : BitVec 1) : IntOp.xori b 0#1 = b := by
  unfold IntOp.xori; simp

/-- A product with a value chosen against zero is the product chosen against zero. -/
theorem sel_mul (c : BitVec 1) (a b : EReal) : Scalar.select c a 0 * b = Scalar.select c (a * b) 0 := by
  unfold Scalar.select
  split <;> simp

/-- The masked scores of the group's first head. -/
theorem s0_at (q0 q1 : FVec Ideal S128x128 .f32) (VAL : IVec S128x256 1) (K : Vec Ideal S1x1x256x128 .bf16) (r : Fin 128) (k : Fin 256) :
    k0_pay44 k0_pay6 q0 q1 VAL K (ix2 r k) = score (VAL (ix2 r k)) 0#1 (fun x => q0 (ix2 r x)) (fun x => K (ix4 0 0 k x)) := by
  unfold k0_pay44 k0_pay43 k0_pay6 score
  simp only [xori_zero]
  pointwise [dot_S512x128_S256x128_S512x256_1_1_0_0_n_n, IdealRules.named_const.ideal_named_scalar κ "mask" _ _ rfl]
  rfl

/-- The masked scores of the group's second head. -/
theorem s1_at (q0 q1 : FVec Ideal S128x128 .f32) (VAL : IVec S128x256 1) (K : Vec Ideal S1x1x256x128 .bf16) (r : Fin 128) (k : Fin 256) :
    k0_pay48 k0_pay6 q0 q1 VAL K (ix2 r k) = score (VAL (ix2 r k)) 1#1 (fun x => q0 (ix2 r x)) (fun x => K (ix4 0 0 k x)) := by
  unfold k0_pay48 k0_pay43 k0_pay6 score
  pointwise [dot_S512x128_S256x128_S512x256_1_1_0_0_n_n, IdealRules.named_const.ideal_named_scalar κ "mask" _ _ rfl]
  rfl

/-- The masked scores of the group's third head. -/
theorem s2_at (q0 q1 : FVec Ideal S128x128 .f32) (VAL : IVec S128x256 1) (K : Vec Ideal S1x1x256x128 .bf16) (r : Fin 128) (k : Fin 256) :
    k0_pay52 VAL (k0_pay43 k0_pay6 q0 q1 K) (ix2 r k) = score (VAL (ix2 r k)) 0#1 (fun x => q1 (ix2 r x)) (fun x => K (ix4 0 0 k x)) := by
  unfold k0_pay52 k0_pay43 k0_pay6 score
  simp only [xori_zero]
  pointwise [dot_S512x128_S256x128_S512x256_1_1_0_0_n_n, IdealRules.named_const.ideal_named_scalar κ "mask" _ _ rfl]
  have n1 : ¬ (256 + r.val < 128) := by omega
  have n2 : ¬ (256 + r.val - 128 < 128) := by omega
  have y : 256 + r.val - 128 - 128 < 128 := by omega
  have e : (⟨256 + r.val - 128 - 128, y⟩ : Fin 128) = r := Fin.ext (by show 256 + r.val - 128 - 128 = r.val; omega)
  simp only [n1, n2, y, e, dite_true, dite_false, sel_mul]
  rfl

/-- The masked scores of the group's fourth head. -/
theorem s3_at (q0 q1 : FVec Ideal S128x128 .f32) (VAL : IVec S128x256 1) (K : Vec Ideal S1x1x256x128 .bf16) (r : Fin 128) (k : Fin 256) :
    k0_pay56 VAL (k0_pay43 k0_pay6 q0 q1 K) (ix2 r k) = score (VAL (ix2 r k)) 1#1 (fun x => q1 (ix2 r x)) (fun x => K (ix4 0 0 k x)) := by
  unfold k0_pay56 k0_pay43 k0_pay6 score
  pointwise [dot_S512x128_S256x128_S512x256_1_1_0_0_n_n, IdealRules.named_const.ideal_named_scalar κ "mask" _ _ rfl]
  have n1 : ¬ (384 + r.val < 128) := by omega
  have n2 : ¬ (384 + r.val - 128 < 128) := by omega
  have n3 : ¬ (384 + r.val - 128 - 128 < 128) := by omega
  have e : (⟨384 + r.val - 128 - 128 - 128, by omega⟩ : Fin 128) = r := Fin.ext (by show 384 + r.val - 128 - 128 - 128 = r.val; omega)
  simp only [n1, n2, n3, e, dite_false, sel_mul]
  rfl

/-- The four heads' weights stacked and multiplied with the values, over the four sums: the first two heads, side by side. -/
theorem lo_stack (M0 M1 M2 M3 : FVec Ideal S128x256 .f32) (a b c d : Ideal .f32) (V : Vec Ideal S1x1x256x128 .bf16) (r l : Fin 128) :
    k0_pay62 k0_pay6 (k0_pay51 M0 a) (k0_pay51 M1 b) (k0_pay51 M2 c) (k0_pay51 M3 d)
        (truncf .bf16 (concatenate S512x256 0 [⟨S128x256, k0_pay50 M0 a⟩, ⟨S128x256, k0_pay50 M1 b⟩, ⟨S128x256, k0_pay50 M2 c⟩, ⟨S128x256, k0_pay50 M3 d⟩] concatenates_S128x256_S128x256_S128x256_S128x256_S512x256_d0) bitsLt_bf16_f32) V (ix2 r l)
      = Scalar.select (lowLane l) (headOut (fun x => M0 (ix2 r x)) a (fun x => V (ix4 0 0 x l))) (headOut (fun x => M1 (ix2 r x)) b (fun x => V (ix4 0 0 x l))) := by
  have e0 := p_at M0 a r
  have e1 := p_at M1 b r
  have d0 := den_at M0 a r
  have d1 := den_at M1 b r
  generalize k0_pay50 M0 a = P0 at *
  generalize k0_pay50 M1 b = P1 at *
  generalize k0_pay50 M2 c = P2 at *
  generalize k0_pay50 M3 d = P3 at *
  generalize k0_pay51 M0 a = D0 at *
  generalize k0_pay51 M1 b = D1 at *
  generalize k0_pay51 M2 c = D2 at *
  generalize k0_pay51 M3 d = D3 at *
  unfold k0_pay62 k0_pay61 k0_pay6 headOut
  pointwise [dot_S512x256_S256x128_S512x128_1_0_0_1_n_n]
  simp only [e0, e1, d0, d1]
  rfl

/-- The four heads' weights stacked and multiplied with the values, over the four sums: the last two heads, side by side. -/
theorem hi_stack (M0 M1 M2 M3 : FVec Ideal S128x256 .f32) (a b c d : Ideal .f32) (V : Vec Ideal S1x1x256x128 .bf16) (r l : Fin 128) :
    k0_pay63 k0_pay6 (k0_pay51 M0 a) (k0_pay51 M1 b) (k0_pay51 M2 c) (k0_pay51 M3 d)
        (truncf .bf16 (concatenate S512x256 0 [⟨S128x256, k0_pay50 M0 a⟩, ⟨S128x256, k0_pay50 M1 b⟩, ⟨S128x256, k0_pay50 M2 c⟩, ⟨S128x256, k0_pay50 M3 d⟩] concatenates_S128x256_S128x256_S128x256_S128x256_S512x256_d0) bitsLt_bf16_f32) V (ix2 r l)
      = Scalar.select (lowLane l) (headOut (fun x => M2 (ix2 r x)) c (fun x => V (ix4 0 0 x l))) (headOut (fun x => M3 (ix2 r x)) d (fun x => V (ix4 0 0 x l))) := by
  have e0 := p_at M2 c r
  have e1 := p_at M3 d r
  have d0 := den_at M2 c r
  have d1 := den_at M3 d r
  generalize k0_pay50 M0 a = P0 at *
  generalize k0_pay50 M1 b = P1 at *
  generalize k0_pay50 M2 c = P2 at *
  generalize k0_pay50 M3 d = P3 at *
  generalize k0_pay51 M0 a = D0 at *
  generalize k0_pay51 M1 b = D1 at *
  generalize k0_pay51 M2 c = D2 at *
  generalize k0_pay51 M3 d = D3 at *
  unfold k0_pay63 k0_pay61 k0_pay6 headOut
  pointwise [dot_S512x256_S256x128_S512x128_1_0_0_1_n_n]
  have n1 : ¬ (256 + r.val < 128) := by omega
  have n2 : ¬ (256 + r.val - 128 < 128) := by omega
  have y2 : 256 + r.val - 128 - 128 < 128 := by omega
  have f2 : (⟨256 + r.val - 128 - 128, y2⟩ : Fin 128) = r := Fin.ext (by show 256 + r.val - 128 - 128 = r.val; omega)
  have m1 : ¬ (384 + r.val < 128) := by omega
  have m2 : ¬ (384 + r.val - 128 < 128) := by omega
  have m3 : ¬ (384 + r.val - 128 - 128 < 128) := by omega
  have f3 : (⟨384 + r.val - 128 - 128 - 128, by omega⟩ : Fin 128) = r := Fin.ext (by show 384 + r.val - 128 - 128 - 128 = r.val; omega)
  simp only [n1, n2, y2, f2, m1, m2, m3, f3, dite_true, dite_false, e0, e1, d0, d1]
  rfl

/-- The tile of the first two heads of a group. -/
def grpLo (q0 q1 : FVec Ideal S128x128 .f32) (VAL : IVec S128x256 1) (K V : Vec Ideal S1x1x256x128 .bf16) (a b c d : Ideal .f32) : FVec Ideal S128x128 .f32 :=
  k0_pay62 k0_pay6 (k0_pay47 k0_pay6 q0 q1 VAL K a) (k0_pay51 (k0_pay48 k0_pay6 q0 q1 VAL K) b) (k0_pay55 VAL (k0_pay43 k0_pay6 q0 q1 K) c) (k0_pay59 VAL (k0_pay43 k0_pay6 q0 q1 K) d) (k0_pay60 VAL (k0_pay43 k0_pay6 q0 q1 K) (k0_pay46 k0_pay6 q0 q1 VAL K a) (k0_pay48 k0_pay6 q0 q1 VAL K) b c d) V

/-- The tile of the last two heads of a group. -/
def grpHi (q0 q1 : FVec Ideal S128x128 .f32) (VAL : IVec S128x256 1) (K V : Vec Ideal S1x1x256x128 .bf16) (a b c d : Ideal .f32) : FVec Ideal S128x128 .f32 :=
  k0_pay63 k0_pay6 (k0_pay47 k0_pay6 q0 q1 VAL K a) (k0_pay51 (k0_pay48 k0_pay6 q0 q1 VAL K) b) (k0_pay55 VAL (k0_pay43 k0_pay6 q0 q1 K) c) (k0_pay59 VAL (k0_pay43 k0_pay6 q0 q1 K) d) (k0_pay60 VAL (k0_pay43 k0_pay6 q0 q1 K) (k0_pay46 k0_pay6 q0 q1 VAL K a) (k0_pay48 k0_pay6 q0 q1 VAL K) b c d) V

/-- One head's output at a row and lane, from the vectors the body holds. -/
def headAt (q : Fin 128 → Fin 128 → EReal) (up : BitVec 1) (VAL : IVec S128x256 1) (K V : Fin 256 → Fin 128 → EReal) (a : EReal) (r l : Fin 128) : EReal :=
  headOut (fun k => score (VAL (ix2 r k)) up (q r) (K k)) a (fun k => V k l)

theorem grpLo_at (q0 q1 : FVec Ideal S128x128 .f32) (VAL : IVec S128x256 1) (K V : Vec Ideal S1x1x256x128 .bf16) (a b c d : Ideal .f32) (r l : Fin 128) :
    grpLo q0 q1 VAL K V a b c d (ix2 r l)
      = Scalar.select (lowLane l) (headAt (fun r x => q0 (ix2 r x)) 0#1 VAL (fun k x => K (ix4 0 0 k x)) (fun k x => V (ix4 0 0 k x)) a r l)
          (headAt (fun r x => q0 (ix2 r x)) 1#1 VAL (fun k x => K (ix4 0 0 k x)) (fun k x => V (ix4 0 0 k x)) b r l) := by
  refine (lo_stack (k0_pay44 k0_pay6 q0 q1 VAL K) (k0_pay48 k0_pay6 q0 q1 VAL K) (k0_pay52 VAL (k0_pay43 k0_pay6 q0 q1 K)) (k0_pay56 VAL (k0_pay43 k0_pay6 q0 q1 K)) a b c d V r l).trans ?_
  simp only [s0_at, s1_at, headAt]

theorem grpHi_at (q0 q1 : FVec Ideal S128x128 .f32) (VAL : IVec S128x256 1) (K V : Vec Ideal S1x1x256x128 .bf16) (a b c d : Ideal .f32) (r l : Fin 128) :
    grpHi q0 q1 VAL K V a b c d (ix2 r l)
      = Scalar.select (lowLane l) (headAt (fun r x => q1 (ix2 r x)) 0#1 VAL (fun k x => K (ix4 0 0 k x)) (fun k x => V (ix4 0 0 k x)) c r l)
          (headAt (fun r x => q1 (ix2 r x)) 1#1 VAL (fun k x => K (ix4 0 0 k x)) (fun k x => V (ix4 0 0 k x)) d r l) := by
  refine (hi_stack (k0_pay44 k0_pay6 q0 q1 VAL K) (k0_pay48 k0_pay6 q0 q1 VAL K) (k0_pay52 VAL (k0_pay43 k0_pay6 q0 q1 K)) (k0_pay56 VAL (k0_pay43 k0_pay6 q0 q1 K)) a b c d V r l).trans ?_
  simp only [s2_at, s3_at, headAt]

end Cert.Attn
end
-- ==== Proof.AttnMath.lean ====
/- The plain arithmetic behind the attention: half sums over 128 lanes, scaling through sums, and weights over their sum. -/
module

public import proofs.«01_k».proof.Proof.AttnRead
public import proofs.«01_k».proof.Proof.AttnGroup

@[expose] public section

set_option maxRecDepth 16384

noncomputable section

namespace Cert.Attn

open Cert.KernelIdeal Cert.KernelIdeal.Gen Cert.KernelIdeal.Value Idealize.ShloMosaic Idealize.ShloMosaic.TcCoe Idealize.SL.Sem

/-- A sum over the lanes of one half. -/
theorem sum_half (f : Fin 128 → EReal) (h : ℕ) (hh : h < 2) :
    (∑ k : Fin 128, if k.val / 64 = h then f k else 0) = ∑ d : Fin 64, f ⟨64 * h + d.val, by omega⟩ := by
  refine (Fin.sum_univ_add (a := 64) (b := 64) (fun k : Fin (64 + 64) => if k.val / 64 = h then f k else 0)).trans ?_
  have lo : ∀ d : Fin 64, d.val / 64 = 0 := fun d => by omega
  have hi : ∀ d : Fin 64, (64 + d.val) / 64 = 1 := fun d => by omega
  obtain rfl | rfl : h = 0 ∨ h = 1 := by omega
  · simp only [Fin.val_castAdd, Fin.val_natAdd, lo, hi]
    simp only [if_true, one_ne_zero, if_false, Finset.sum_const_zero, add_zero]
    refine Finset.sum_congr rfl fun d _ => congrArg f (Fin.ext ?_)
    simp
  · simp only [Fin.val_castAdd, Fin.val_natAdd, lo, hi]
    simp only [if_true, zero_ne_one, if_false, Finset.sum_const_zero, zero_add]
    refine Finset.sum_congr rfl fun d _ => congrArg f (Fin.ext ?_)
    simp [Nat.add_comm]

/-- A factor that is not negative and not infinite comes out of a sum. -/
theorem sum_mul_out {ι : Type} (s : Finset ι) (f : ι → EReal) (c : EReal) (h0 : 0 ≤ c) (ht : c ≠ ⊤) :
    (∑ i ∈ s, f i * c) = (∑ i ∈ s, f i) * c := by
  classical
  induction s using Finset.induction_on with
  | empty => simp
  | insert a s ha ih => rw [Finset.sum_insert ha, Finset.sum_insert ha, ih, EReal.right_distrib_of_nonneg_of_ne_top h0 ht]

/-- A sum of reals, taken as reals. -/
theorem coe_sum' {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of reals is a real. -/
theorem sum_real {ι : Type} (s : Finset ι) (f : ι → EReal) (h : ∀ i, ∃ r : ℝ, f i = (r : EReal)) :
    ∃ r : ℝ, (∑ i ∈ s, f i) = (r : EReal) := by
  choose g hg using h
  exact ⟨∑ i ∈ s, g i, by simp only [hg]; exact (coe_sum' s g).symm⟩

/-- A head's row divided by its norm and weighted. -/
def nrm (x w : Fin 64 → EReal) (d : Fin 64) : EReal :=
  x d * Ideal.rsqrt (Ideal.div (∑ e, x e * x e) (Ideal.ofBits .f32 1115684864#32) + Ideal.ofBits .f32 897988541#32) * w d

/-- A head's row with its first 16 columns turned by the angles of its position. -/
def rope (y : Fin 64 → EReal) (L : Fin 2048) (d : Fin 64) : EReal :=
  if h : d.val < 8 then y ⟨d.val, by omega⟩ * Ideal.cos (ang L ⟨d.val, h⟩) - y ⟨8 + d.val, by omega⟩ * Ideal.sin (ang L ⟨d.val, h⟩)
  else if h2 : d.val - 8 < 8 then y ⟨8 + (d.val - 8), by omega⟩ * Ideal.cos (ang L ⟨d.val - 8, h2⟩) + y ⟨d.val - 8, by omega⟩ * Ideal.sin (ang L ⟨d.val - 8, h2⟩)
  else y ⟨16 + (d.val - 8 - 8), by omega⟩

theorem nrm_real (x w : Fin 64 → EReal) (hx : ∀ d, ∃ r : ℝ, x d = (r : EReal)) (hw : ∀ d, ∃ r : ℝ, w d = (r : EReal)) (d : Fin 64) :
    ∃ r : ℝ, nrm x w d = (r : EReal) := by
  choose f hf using hx
  choose g hg using hw
  obtain ⟨e, he, hee⟩ := bits_eps
  have h64 : ¬ (((64 : ℝ) : EReal) = 0) := by
    intro h
    have := EReal.coe_eq_zero.mp h
    norm_num at this
  have hs : (∑ k, x k * x k) = ((∑ k, f k * f k : ℝ) : EReal) := by
    rw [coe_sum']
    exact Finset.sum_congr rfl fun k _ => by rw [hf, ← EReal.coe_mul]
  have hp : 0 < (∑ k, f k * f k) * (64 : ℝ)⁻¹ + e := by
    have : 0 ≤ ∑ k, f k * f k := Finset.sum_nonneg fun k _ => mul_self_nonneg _
    positivity
  unfold nrm
  rw [hs, bits_64, hee]
  unfold Ideal.div
  rw [if_neg h64, ← EReal.coe_inv, ← EReal.coe_mul, ← EReal.coe_add, Ideal.rsqrt_coe, if_neg (not_lt.mpr hp.le), if_neg hp.ne', hf, hg, ← EReal.coe_mul, ← EReal.coe_mul]
  exact ⟨_, rfl⟩

theorem rope_real (y : Fin 64 → EReal) (hy : ∀ d, ∃ r : ℝ, y d = (r : EReal)) (L : Fin 2048) (d : Fin 64) :
    ∃ r : ℝ, rope y L d = (r : EReal) := by
  choose f hf using hy
  unfold rope
  split
  · obtain ⟨a, ha⟩ := cos_real L ⟨d.val, ‹_›⟩
    obtain ⟨b, hb⟩ := sin_real L ⟨d.val, ‹_›⟩
    rw [ha, hb, hf, hf, ← EReal.coe_mul, ← EReal.coe_mul, ← EReal.coe_sub]
    exact ⟨_, rfl⟩
  · split
    · obtain ⟨a, ha⟩ := cos_real L ⟨d.val - 8, ‹_›⟩
      obtain ⟨b, hb⟩ := sin_real L ⟨d.val - 8, ‹_›⟩
      rw [ha, hb, hf, hf, ← EReal.coe_mul, ← EReal.coe_mul, ← EReal.coe_add]
      exact ⟨_, rfl⟩
    · exact ⟨_, hf _⟩

/-- The mean square of a half, as the averaging product computes it. -/
theorem mean_half (x : Fin 128 → EReal) (hx : ∀ k, ∃ r : ℝ, x k = (r : EReal)) (l : Fin 128) :
    (∑ k : Fin 128, x k * x k * avgTab ⟨k.val, by omega⟩ l) + (∑ k : Fin 128, (x k * x k - x k * x k) * avgTab ⟨128 + k.val, by omega⟩ l)
      = Ideal.div (∑ e : Fin 64, x ⟨64 * (l.val / 64) + e.val, by omega⟩ * x ⟨64 * (l.val / 64) + e.val, by omega⟩) (Ideal.ofBits .f32 1115684864#32) := by
  have h64 : ¬ (((64 : ℝ) : EReal) = 0) := by
    intro h
    have := EReal.coe_eq_zero.mp h
    norm_num at this
  have hz : ∀ k, x k * x k - x k * x k = 0 := fun k => by
    obtain ⟨r, hr⟩ := hx k
    rw [hr, ← EReal.coe_mul, ← EReal.coe_sub, sub_self, EReal.coe_zero]
  have h2 : ∀ k : Fin 128, x k * x k * avgTab ⟨k.val, by omega⟩ l = if k.val / 64 = l.val / 64 then x k * x k * ((1 / 64 : ℝ) : EReal) else 0 := fun k => by
    unfold avgTab
    rw [show k.val % 128 = k.val by omega, mul_ite, mul_zero]
  simp only [hz, zero_mul, Finset.sum_const_zero, add_zero, h2]
  rw [sum_half _ _ (by omega)]
  rw [sum_mul_out Finset.univ _ _ (EReal.coe_nonneg.mpr (by norm_num)) (EReal.coe_ne_top _), bits_64]
  unfold Ideal.div
  rw [if_neg h64, ← EReal.coe_inv, one_div]

/-- Whether a lane's half is the one asked for. -/
theorem sel_half (h : ℕ) (hh : h < 2) (a : EReal) (k : Fin 128) :
    Scalar.select (IntOp.xori (lowLane k) (if h = 0 then 0#1 else 1#1)) a 0 = if k.val / 64 = h then a else 0 := by
  have e : ∀ k : Fin 128, IntOp.xori (lowLane k) 0#1 = if k.val / 64 = 0 then 1#1 else 0#1 := by decide +kernel
  have e1 : ∀ k : Fin 128, IntOp.xori (lowLane k) 1#1 = if k.val / 64 = 1 then 1#1 else 0#1 := by decide +kernel
  obtain rfl | rfl : h = 0 ∨ h = 1 := by omega
  · rw [if_pos rfl, e]
    split <;> rfl
  · rw [if_neg one_ne_zero, e1]
    split <;> rfl

/-- A masked score from one half of the lanes. -/
theorem score_half (ok : BitVec 1) (h : ℕ) (hh : h < 2) (q k : Fin 128 → EReal) :
    score ok (if h = 0 then 0#1 else 1#1) (fun x => q x * Ideal.ofBits .f32 1040187392#32) k
      = Scalar.select ok ((∑ d : Fin 64, k ⟨64 * h + d.val, by omega⟩ * q ⟨64 * h + d.val, by omega⟩) * Ideal.ofBits .f32 1040187392#32) ⊥ := by
  unfold score
  simp only [sel_half h hh]
  rw [sum_half _ _ hh, ← sum_mul_out Finset.univ _ _ (by rw [bits_eighth]; exact EReal.coe_nonneg.mpr (by norm_num)) (by rw [bits_eighth]; exact EReal.coe_ne_top _)]
  congr 1
  refine Finset.sum_congr rfl fun d _ => ?_
  rw [mul_comm (q _), mul_assoc, mul_comm (q _), mul_comm]

/-- The weighted values over the sum of the weights, the quotient taken weight by weight. -/
theorem headOut_eq (M : Fin 256 → EReal) (hM : ∀ k, M k ≠ ⊤) (a : EReal) (ha : ∃ r : ℝ, a = (r : EReal)) (v : Fin 256 → EReal) :
    headOut M a v = ∑ k, v k * Ideal.div (Ideal.exp (M k - top M a)) (den M a) := by
  obtain ⟨r, rfl⟩ := ha
  have ht : top M (r : EReal) ≠ ⊤ := by
    unfold top
    rw [bits_bot]
    refine (max_lt ?_ (EReal.coe_lt_top r)).ne
    rw [Finset.fold_max_lt]
    exact ⟨bot_lt_top, fun k _ => lt_top_iff_ne_top.mpr (hM k)⟩
  have hb : top M (r : EReal) ≠ ⊥ := by
    have : (r : EReal) ≤ top M (r : EReal) := le_max_right _ _
    intro h
    rw [h] at this
    exact absurd (le_bot_iff.mp this) (EReal.coe_ne_bot r)
  have hn : ∀ x, 0 ≤ Ideal.exp x := by
    intro x
    induction x using EReal.rec with
    | bot => exact le_rfl
    | top => exact le_top
    | coe y => exact EReal.coe_nonneg.mpr (Real.exp_pos y).le
  have hp : 0 < Ideal.exp ((r : EReal) - top M (r : EReal)) := by
    induction h : top M (r : EReal) using EReal.rec with
    | bot => exact absurd h hb
    | top => exact absurd h ht
    | coe y => rw [← EReal.coe_sub, Ideal.exp_coe]; exact EReal.coe_pos.mpr (Real.exp_pos _)
  have hd : 0 < den M (r : EReal) := by
    unfold den
    exact lt_of_lt_of_le hp (le_add_of_nonneg_left (Finset.sum_nonneg fun k _ => hn _))
  unfold headOut Ideal.div
  rw [if_neg hd.ne', ← sum_mul_out Finset.univ _ _ (EReal.inv_nonneg_of_nonneg hd.le) (by
    intro h
    induction h3 : den M (r : EReal) using EReal.rec with
    | bot => rw [h3] at hd; exact absurd hd not_lt_bot
    | top => rw [h3, EReal.inv_top] at h; exact absurd h EReal.zero_ne_top
    | coe y => rw [h3, ← EReal.coe_inv] at h; exact absurd h (EReal.coe_ne_top _))]
  refine Finset.sum_congr rfl fun k _ => ?_
  rw [if_neg hd.ne', mul_comm (Ideal.exp _), mul_assoc]

end Cert.Attn
end
-- ==== Proof.AttnChunk.lean ====
/- A chunk of 128 columns normed and turned by the kernel's body: at each entry, the head's row normed and turned. -/
module

public import proofs.«01_k».proof.Proof.AttnMath

@[expose] public section

set_option maxRecDepth 16384

noncomputable section

namespace Cert.Attn

open Cert.KernelIdeal Cert.KernelIdeal.Gen Cert.KernelIdeal.Value Idealize.ShloMosaic Idealize.ShloMosaic.TcCoe Idealize.SL.Sem

/-- One entry normed, as the body computes it. -/
def xn (v1 : FVec Ideal S256x128 .bf16) (v36 : FVec Ideal S128x128 .f32) (v38 : FVec Ideal S1x128 .f32) (r l : Fin 128) : EReal :=
  v36 (ix2 r l) * Ideal.rsqrt ((∑ x : Fin 128, v36 (ix2 r x) * v36 (ix2 r x) * v1 (ix2 ⟨x.val, by omega⟩ l))
    + (∑ x : Fin 128, (v36 (ix2 r x) * v36 (ix2 r x) - v36 (ix2 r x) * v36 (ix2 r x)) * v1 (ix2 ⟨128 + x.val, by omega⟩ l))
    + Ideal.ofBits .f32 897988541#32) * v38 (ix2 0 l)

/-- One entry of a chunk normed and turned, as the body computes it. -/
theorem pay11_raw (v1 : FVec Ideal S256x128 .bf16) (v3 v5 v7 v36 : FVec Ideal S128x128 .f32) (v38 : FVec Ideal S1x128 .f32) (r l : Fin 128) :
    k0_pay11 v1 v3 v5 v7 v36 v38 (ix2 r l) = xn v1 v36 v38 r l * v3 (ix2 r l)
      + xn v1 v36 v38 r ⟨(l.val + 128 - 120) % 128, by omega⟩ * v5 (ix2 r l) + xn v1 v36 v38 r ⟨(l.val + 128 - 8) % 128, by omega⟩ * v7 (ix2 r l) := by
  unfold k0_pay11 xn
  pointwise [dot_S128x256_S256x128_S128x128_1_0_0_1_n_n, zero_add]

/-- One entry normed: the head's row over its norm. -/
theorem xn_eq (v1 : FVec Ideal S256x128 .bf16) (v36 : FVec Ideal S128x128 .f32) (v38 : FVec Ideal S1x128 .f32) (w : Fin 64 → EReal) (r l : Fin 128)
    (h1 : ∀ j l, v1 (ix2 j l) = avgTab j l) (h36 : ∀ l, ∃ x : ℝ, v36 (ix2 r l) = (x : EReal)) (h38 : ∀ l : Fin 128, v38 (ix2 0 l) = w ⟨l.val % 64, by omega⟩) :
    xn v1 v36 v38 r l = nrm (fun d => v36 (ix2 r ⟨64 * (l.val / 64) + d.val, by omega⟩)) w ⟨l.val % 64, by omega⟩ := by
  unfold xn nrm
  simp only [h1, h38]
  rw [mean_half (fun x => v36 (ix2 r x)) h36 l]
  congr 2
  exact congrArg (fun x => v36 (ix2 r x)) (Fin.ext (by show l.val = 64 * (l.val / 64) + l.val % 64; omega))

/-- A chunk normed and turned, at one entry: the head's row normed and turned. -/
theorem pay11_at (v1 : FVec Ideal S256x128 .bf16) (v3 v5 v7 v36 : FVec Ideal S128x128 .f32) (v38 : FVec Ideal S1x128 .f32) (w : Fin 64 → EReal)
    (L : Fin 2048) (r : Fin 128) (h1 : ∀ j l, v1 (ix2 j l) = avgTab j l) (h3 : ∀ l, v3 (ix2 r l) = cosTab L l) (h5 : ∀ l, v5 (ix2 r l) = loTab L l)
    (h7 : ∀ l, v7 (ix2 r l) = hiTab L l) (h36 : ∀ l, ∃ x : ℝ, v36 (ix2 r l) = (x : EReal)) (h38 : ∀ l : Fin 128, v38 (ix2 0 l) = w ⟨l.val % 64, by omega⟩)
    (h : ℕ) (hh : h < 2) (d : Fin 64) :
    k0_pay11 v1 v3 v5 v7 v36 v38 (ix2 r ⟨64 * h + d.val, by omega⟩) = rope (nrm (fun d => v36 (ix2 r ⟨64 * h + d.val, by omega⟩)) w) L d := by
  have e : ∀ (k : Fin 128) (d' : Fin 64), k.val = 64 * h + d'.val → xn v1 v36 v38 r k = nrm (fun d => v36 (ix2 r ⟨64 * h + d.val, by omega⟩)) w d' := by
    intro k d' hk
    rw [xn_eq v1 v36 v38 w r k h1 h36 h38]
    have a : k.val / 64 = h := by omega
    have b : (⟨k.val % 64, by omega⟩ : Fin 64) = d' := Fin.ext (by show k.val % 64 = d'.val; omega)
    simp only [a, b]
  have m : (64 * h + d.val) % 64 = d.val := by omega
  rw [pay11_raw, h3, h5, h7, e ⟨64 * h + d.val, by omega⟩ d rfl]
  unfold cosTab loTab hiTab rope
  simp only [m]
  by_cases c : d.val < 8
  · simp only [c, dite_true, if_true, mul_zero, add_zero]
    rw [e ⟨(64 * h + d.val + 128 - 120) % 128, by omega⟩ ⟨8 + d.val, by omega⟩ (by show (64 * h + d.val + 128 - 120) % 128 = 64 * h + (8 + d.val); omega), mul_neg, sub_eq_add_neg]
  · by_cases c2 : d.val - 8 < 8
    · simp only [c, c2, dite_true, dite_false, if_false, mul_zero, add_zero]
      rw [e ⟨(64 * h + d.val + 128 - 8) % 128, by omega⟩ ⟨d.val - 8, by omega⟩ (by show (64 * h + d.val + 128 - 8) % 128 = 64 * h + (d.val - 8); omega)]
      have b : (⟨8 + (d.val - 8), by omega⟩ : Fin 64) = d := Fin.ext (by show 8 + (d.val - 8) = d.val; omega)
      rw [b]
    · simp only [c, c2, dite_false, if_false, mul_zero, add_zero, mul_one]
      have b : (⟨16 + (d.val - 8 - 8), by omega⟩ : Fin 64) = d := Fin.ext (by show 16 + (d.val - 8 - 8) = d.val; omega)
      rw [b]

end Cert.Attn
end
-- ==== Proof.AttnTiles.lean ====
/- The eight stored tiles of the attention: each is the tile of two heads of its group. -/
module

public import proofs.«01_k».proof.Proof.AttnGroup

@[expose] public section

set_option maxRecDepth 16384

noncomputable section

namespace Cert.Attn

open Cert.KernelIdeal Cert.KernelIdeal.Gen Idealize.ShloMosaic Idealize.SL.Sem

/-- A chunk of the query rows, normed, rotated and scaled. -/
def qv (x1 : Vec Ideal S128x1024 .bf16) (x4 x5 x6 : Vec Ideal S128x128 .f32) (x7 : Vec Ideal S1x128 .f32) (x9 : Vec Ideal S256x128 .bf16) (o : Nat) (h : S128x1024.Slices ![0, o] S128x128) : FVec Ideal S128x128 .f32 :=
  mulf (k0_pay11 (k0_pay2 x9) (k0_pay3 x4) (k0_pay4 x5) (k0_pay5 x6) (extractStridedSlice S128x128 ![0, o] (k0_pay14 x1) h) (k0_pay10 x7)) (broadcast S128x128 (FloatOps.ofBits .f32 1040187392#32))

/-- The tile at column 0. -/
theorem tile0 (x1 : Vec Ideal S128x1024 .bf16) (x4 x5 x6 : Vec Ideal S128x128 .f32) (x7 : Vec Ideal S1x128 .f32) (x9 : Vec Ideal S256x128 .bf16) (VAL : IVec S128x256 1) (K V : Vec Ideal S1x1x256x128 .bf16) (a b c d : Ideal .f32) :
    k0_pay62 k0_pay6 (k0_pay47 k0_pay6 (k0_pay16 (k0_pay15 (k0_pay2 x9) (k0_pay3 x4) (k0_pay4 x5) (k0_pay5 x6) x1 x7) (FloatOps.ofBits FTy.f32 1040187392#32)) (k0_pay17 (k0_pay2 x9) (k0_pay3 x4) (k0_pay4 x5) (k0_pay5 x6) (k0_pay14 x1) x7) VAL K a) (k0_pay51 (k0_pay48 k0_pay6 (k0_pay16 (k0_pay15 (k0_pay2 x9) (k0_pay3 x4) (k0_pay4 x5) (k0_pay5 x6) x1 x7) (FloatOps.ofBits FTy.f32 1040187392#32)) (k0_pay17 (k0_pay2 x9) (k0_pay3 x4) (k0_pay4 x5) (k0_pay5 x6) (k0_pay14 x1) x7) VAL K) b) (k0_pay55 VAL (k0_pay43 k0_pay6 (k0_pay16 (k0_pay15 (k0_pay2 x9) (k0_pay3 x4) (k0_pay4 x5) (k0_pay5 x6) x1 x7) (FloatOps.ofBits FTy.f32 1040187392#32)) (k0_pay17 (k0_pay2 x9) (k0_pay3 x4) (k0_pay4 x5) (k0_pay5 x6) (k0_pay14 x1) x7) K) c) (k0_pay59 VAL (k0_pay43 k0_pay6 (k0_pay16 (k0_pay15 (k0_pay2 x9) (k0_pay3 x4) (k0_pay4 x5) (k0_pay5 x6) x1 x7) (FloatOps.ofBits FTy.f32 1040187392#32)) (k0_pay17 (k0_pay2 x9) (k0_pay3 x4) (k0_pay4 x5) (k0_pay5 x6) (k0_pay14 x1) x7) K) d) (k0_pay60 VAL (k0_pay43 k0_pay6 (k0_pay16 (k0_pay15 (k0_pay2 x9) (k0_pay3 x4) (k0_pay4 x5) (k0_pay5 x6) x1 x7) (FloatOps.ofBits FTy.f32 1040187392#32)) (k0_pay17 (k0_pay2 x9) (k0_pay3 x4) (k0_pay4 x5) (k0_pay5 x6) (k0_pay14 x1) x7) K) (k0_pay46 k0_pay6 (k0_pay16 (k0_pay15 (k0_pay2 x9) (k0_pay3 x4) (k0_pay4 x5) (k0_pay5 x6) x1 x7) (FloatOps.ofBits FTy.f32 1040187392#32)) (k0_pay17 (k0_pay2 x9) (k0_pay3 x4) (k0_pay4 x5) (k0_pay5 x6) (k0_pay14 x1) x7) VAL K a) (k0_pay48 k0_pay6 (k0_pay16 (k0_pay15 (k0_pay2 x9) (k0_pay3 x4) (k0_pay4 x5) (k0_pay5 x6) x1 x7) (FloatOps.ofBits FTy.f32 1040187392#32)) (k0_pay17 (k0_pay2 x9) (k0_pay3 x4) (k0_pay4 x5) (k0_pay5 x6) (k0_pay14 x1) x7) VAL K) b c d) V
      = grpLo (qv x1 x4 x5 x6 x7 x9 0 slices_S128x1024_o0_0_S128x128) (qv x1 x4 x5 x6 x7 x9 128 slices_S128x1024_o0_128_S128x128) VAL K V a b c d := rfl

/-- The tile at column 128. -/
theorem tile128 (x1 : Vec Ideal S128x1024 .bf16) (x4 x5 x6 : Vec Ideal S128x128 .f32) (x7 : Vec Ideal S1x128 .f32) (x9 : Vec Ideal S256x128 .bf16) (VAL : IVec S128x256 1) (K V : Vec Ideal S1x1x256x128 .bf16) (a b c d : Ideal .f32) :
    k0_pay63 k0_pay6 (k0_pay47 k0_pay6 (k0_pay16 (k0_pay15 (k0_pay2 x9) (k0_pay3 x4) (k0_pay4 x5) (k0_pay5 x6) x1 x7) (FloatOps.ofBits FTy.f32 1040187392#32)) (k0_pay17 (k0_pay2 x9) (k0_pay3 x4) (k0_pay4 x5) (k0_pay5 x6) (k0_pay14 x1) x7) VAL K a) (k0_pay51 (k0_pay48 k0_pay6 (k0_pay16 (k0_pay15 (k0_pay2 x9) (k0_pay3 x4) (k0_pay4 x5) (k0_pay5 x6) x1 x7) (FloatOps.ofBits FTy.f32 1040187392#32)) (k0_pay17 (k0_pay2 x9) (k0_pay3 x4) (k0_pay4 x5) (k0_pay5 x6) (k0_pay14 x1) x7) VAL K) b) (k0_pay55 VAL (k0_pay43 k0_pay6 (k0_pay16 (k0_pay15 (k0_pay2 x9) (k0_pay3 x4) (k0_pay4 x5) (k0_pay5 x6) x1 x7) (FloatOps.ofBits FTy.f32 1040187392#32)) (k0_pay17 (k0_pay2 x9) (k0_pay3 x4) (k0_pay4 x5) (k0_pay5 x6) (k0_pay14 x1) x7) K) c) (k0_pay59 VAL (k0_pay43 k0_pay6 (k0_pay16 (k0_pay15 (k0_pay2 x9) (k0_pay3 x4) (k0_pay4 x5) (k0_pay5 x6) x1 x7) (FloatOps.ofBits FTy.f32 1040187392#32)) (k0_pay17 (k0_pay2 x9) (k0_pay3 x4) (k0_pay4 x5) (k0_pay5 x6) (k0_pay14 x1) x7) K) d) (k0_pay60 VAL (k0_pay43 k0_pay6 (k0_pay16 (k0_pay15 (k0_pay2 x9) (k0_pay3 x4) (k0_pay4 x5) (k0_pay5 x6) x1 x7) (FloatOps.ofBits FTy.f32 1040187392#32)) (k0_pay17 (k0_pay2 x9) (k0_pay3 x4) (k0_pay4 x5) (k0_pay5 x6) (k0_pay14 x1) x7) K) (k0_pay46 k0_pay6 (k0_pay16 (k0_pay15 (k0_pay2 x9) (k0_pay3 x4) (k0_pay4 x5) (k0_pay5 x6) x1 x7) (FloatOps.ofBits FTy.f32 1040187392#32)) (k0_pay17 (k0_pay2 x9) (k0_pay3 x4) (k0_pay4 x5) (k0_pay5 x6) (k0_pay14 x1) x7) VAL K a) (k0_pay48 k0_pay6 (k0_pay16 (k0_pay15 (k0_pay2 x9) (k0_pay3 x4) (k0_pay4 x5) (k0_pay5 x6) x1 x7) (FloatOps.ofBits FTy.f32 1040187392#32)) (k0_pay17 (k0_pay2 x9) (k0_pay3 x4) (k0_pay4 x5) (k0_pay5 x6) (k0_pay14 x1) x7) VAL K) b c d) V
      = grpHi (qv x1 x4 x5 x6 x7 x9 0 slices_S128x1024_o0_0_S128x128) (qv x1 x4 x5 x6 x7 x9 128 slices_S128x1024_o0_128_S128x128) VAL K V a b c d := rfl

/-- The tile at column 256. -/
theorem tile256 (x1 : Vec Ideal S128x1024 .bf16) (x4 x5 x6 : Vec Ideal S128x128 .f32) (x7 : Vec Ideal S1x128 .f32) (x9 : Vec Ideal S256x128 .bf16) (VAL : IVec S128x256 1) (K V : Vec Ideal S1x1x256x128 .bf16) (a b c d : Ideal .f32) :
    k0_pay77 k0_pay6 VAL (k0_pay65 (k0_pay64 k0_pay6 (k0_pay20 (k0_pay5 x6) (k0_pay18 (k0_pay2 x9) (k0_pay14 x1) x7) (k0_pay19 (k0_pay2 x9) (k0_pay3 x4) (k0_pay4 x5) (k0_pay14 x1) x7) 8#32) (k0_pay21 (k0_pay2 x9) (k0_pay3 x4) (k0_pay4 x5) (k0_pay5 x6) (k0_pay14 x1) x7)) K) (k0_pay68 VAL (k0_pay64 k0_pay6 (k0_pay20 (k0_pay5 x6) (k0_pay18 (k0_pay2 x9) (k0_pay14 x1) x7) (k0_pay19 (k0_pay2 x9) (k0_pay3 x4) (k0_pay4 x5) (k0_pay14 x1) x7) 8#32) (k0_pay21 (k0_pay2 x9) (k0_pay3 x4) (k0_pay4 x5) (k0_pay5 x6) (k0_pay14 x1) x7)) K a) (k0_pay69 VAL (k0_pay64 k0_pay6 (k0_pay20 (k0_pay5 x6) (k0_pay18 (k0_pay2 x9) (k0_pay14 x1) x7) (k0_pay19 (k0_pay2 x9) (k0_pay3 x4) (k0_pay4 x5) (k0_pay14 x1) x7) 8#32) (k0_pay21 (k0_pay2 x9) (k0_pay3 x4) (k0_pay4 x5) (k0_pay5 x6) (k0_pay14 x1) x7)) K a) (k0_pay72 VAL (k0_pay64 k0_pay6 (k0_pay20 (k0_pay5 x6) (k0_pay18 (k0_pay2 x9) (k0_pay14 x1) x7) (k0_pay19 (k0_pay2 x9) (k0_pay3 x4) (k0_pay4 x5) (k0_pay14 x1) x7) 8#32) (k0_pay21 (k0_pay2 x9) (k0_pay3 x4) (k0_pay4 x5) (k0_pay5 x6) (k0_pay14 x1) x7)) K b) (k0_pay73 VAL (k0_pay64 k0_pay6 (k0_pay20 (k0_pay5 x6) (k0_pay18 (k0_pay2 x9) (k0_pay14 x1) x7) (k0_pay19 (k0_pay2 x9) (k0_pay3 x4) (k0_pay4 x5) (k0_pay14 x1) x7) 8#32) (k0_pay21 (k0_pay2 x9) (k0_pay3 x4) (k0_pay4 x5) (k0_pay5 x6) (k0_pay14 x1) x7)) K b) (k0_pay74 VAL (k0_pay64 k0_pay6 (k0_pay20 (k0_pay5 x6) (k0_pay18 (k0_pay2 x9) (k0_pay14 x1) x7) (k0_pay19 (k0_pay2 x9) (k0_pay3 x4) (k0_pay4 x5) (k0_pay14 x1) x7) 8#32) (k0_pay21 (k0_pay2 x9) (k0_pay3 x4) (k0_pay4 x5) (k0_pay5 x6) (k0_pay14 x1) x7)) K) c (k0_pay75 VAL (k0_pay64 k0_pay6 (k0_pay20 (k0_pay5 x6) (k0_pay18 (k0_pay2 x9) (k0_pay14 x1) x7) (k0_pay19 (k0_pay2 x9) (k0_pay3 x4) (k0_pay4 x5) (k0_pay14 x1) x7) 8#32) (k0_pay21 (k0_pay2 x9) (k0_pay3 x4) (k0_pay4 x5) (k0_pay5 x6) (k0_pay14 x1) x7)) K c) d V
      = grpLo (qv x1 x4 x5 x6 x7 x9 256 slices_S128x1024_o0_256_S128x128) (qv x1 x4 x5 x6 x7 x9 384 slices_S128x1024_o0_384_S128x128) VAL K V a b c d := rfl

/-- The tile at column 384. -/
theorem tile384 (x1 : Vec Ideal S128x1024 .bf16) (x4 x5 x6 : Vec Ideal S128x128 .f32) (x7 : Vec Ideal S1x128 .f32) (x9 : Vec Ideal S256x128 .bf16) (VAL : IVec S128x256 1) (K V : Vec Ideal S1x1x256x128 .bf16) (a b c d : Ideal .f32) :
    k0_pay79 (k0_pay78 k0_pay6 VAL (k0_pay65 (k0_pay64 k0_pay6 (k0_pay20 (k0_pay5 x6) (k0_pay18 (k0_pay2 x9) (k0_pay14 x1) x7) (k0_pay19 (k0_pay2 x9) (k0_pay3 x4) (k0_pay4 x5) (k0_pay14 x1) x7) 8#32) (k0_pay21 (k0_pay2 x9) (k0_pay3 x4) (k0_pay4 x5) (k0_pay5 x6) (k0_pay14 x1) x7)) K) (k0_pay68 VAL (k0_pay64 k0_pay6 (k0_pay20 (k0_pay5 x6) (k0_pay18 (k0_pay2 x9) (k0_pay14 x1) x7) (k0_pay19 (k0_pay2 x9) (k0_pay3 x4) (k0_pay4 x5) (k0_pay14 x1) x7) 8#32) (k0_pay21 (k0_pay2 x9) (k0_pay3 x4) (k0_pay4 x5) (k0_pay5 x6) (k0_pay14 x1) x7)) K a) (k0_pay69 VAL (k0_pay64 k0_pay6 (k0_pay20 (k0_pay5 x6) (k0_pay18 (k0_pay2 x9) (k0_pay14 x1) x7) (k0_pay19 (k0_pay2 x9) (k0_pay3 x4) (k0_pay4 x5) (k0_pay14 x1) x7) 8#32) (k0_pay21 (k0_pay2 x9) (k0_pay3 x4) (k0_pay4 x5) (k0_pay5 x6) (k0_pay14 x1) x7)) K a) (k0_pay72 VAL (k0_pay64 k0_pay6 (k0_pay20 (k0_pay5 x6) (k0_pay18 (k0_pay2 x9) (k0_pay14 x1) x7) (k0_pay19 (k0_pay2 x9) (k0_pay3 x4) (k0_pay4 x5) (k0_pay14 x1) x7) 8#32) (k0_pay21 (k0_pay2 x9) (k0_pay3 x4) (k0_pay4 x5) (k0_pay5 x6) (k0_pay14 x1) x7)) K b) (k0_pay73 VAL (k0_pay64 k0_pay6 (k0_pay20 (k0_pay5 x6) (k0_pay18 (k0_pay2 x9) (k0_pay14 x1) x7) (k0_pay19 (k0_pay2 x9) (k0_pay3 x4) (k0_pay4 x5) (k0_pay14 x1) x7) 8#32) (k0_pay21 (k0_pay2 x9) (k0_pay3 x4) (k0_pay4 x5) (k0_pay5 x6) (k0_pay14 x1) x7)) K b) (k0_pay74 VAL (k0_pay64 k0_pay6 (k0_pay20 (k0_pay5 x6) (k0_pay18 (k0_pay2 x9) (k0_pay14 x1) x7) (k0_pay19 (k0_pay2 x9) (k0_pay3 x4) (k0_pay4 x5) (k0_pay14 x1) x7) 8#32) (k0_pay21 (k0_pay2 x9) (k0_pay3 x4) (k0_pay4 x5) (k0_pay5 x6) (k0_pay14 x1) x7)) K) c (k0_pay75 VAL (k0_pay64 k0_pay6 (k0_pay20 (k0_pay5 x6) (k0_pay18 (k0_pay2 x9) (k0_pay14 x1) x7) (k0_pay19 (k0_pay2 x9) (k0_pay3 x4) (k0_pay4 x5) (k0_pay14 x1) x7) 8#32) (k0_pay21 (k0_pay2 x9) (k0_pay3 x4) (k0_pay4 x5) (k0_pay5 x6) (k0_pay14 x1) x7)) K c) d V)
      = grpHi (qv x1 x4 x5 x6 x7 x9 256 slices_S128x1024_o0_256_S128x128) (qv x1 x4 x5 x6 x7 x9 384 slices_S128x1024_o0_384_S128x128) VAL K V a b c d := rfl

/-- The tile at column 512. -/
theorem tile512 (x1 : Vec Ideal S128x1024 .bf16) (x4 x5 x6 : Vec Ideal S128x128 .f32) (x7 : Vec Ideal S1x128 .f32) (x9 : Vec Ideal S256x128 .bf16) (VAL : IVec S128x256 1) (K V : Vec Ideal S1x1x256x128 .bf16) (a b c d : Ideal .f32) :
    k0_pay100 k0_pay6 (k0_pay83 k0_pay6 (k0_pay24 (k0_pay4 x5) (k0_pay5 x6) (k0_pay22 (k0_pay2 x9) (k0_pay14 x1) x7) (k0_pay23 (k0_pay2 x9) (k0_pay3 x4) (k0_pay14 x1) x7) 120#32) (k0_pay25 (k0_pay2 x9) (k0_pay3 x4) (k0_pay4 x5) (k0_pay5 x6) (k0_pay14 x1) x7) VAL K a) (k0_pay86 (k0_pay84 k0_pay6 (k0_pay24 (k0_pay4 x5) (k0_pay5 x6) (k0_pay22 (k0_pay2 x9) (k0_pay14 x1) x7) (k0_pay23 (k0_pay2 x9) (k0_pay3 x4) (k0_pay14 x1) x7) 120#32) (k0_pay25 (k0_pay2 x9) (k0_pay3 x4) (k0_pay4 x5) (k0_pay5 x6) (k0_pay14 x1) x7) VAL K a) (k0_pay85 k0_pay6 (k0_pay24 (k0_pay4 x5) (k0_pay5 x6) (k0_pay22 (k0_pay2 x9) (k0_pay14 x1) x7) (k0_pay23 (k0_pay2 x9) (k0_pay3 x4) (k0_pay14 x1) x7) 120#32) (k0_pay25 (k0_pay2 x9) (k0_pay3 x4) (k0_pay4 x5) (k0_pay5 x6) (k0_pay14 x1) x7) VAL K a)) (k0_pay89 VAL (k0_pay80 k0_pay6 (k0_pay24 (k0_pay4 x5) (k0_pay5 x6) (k0_pay22 (k0_pay2 x9) (k0_pay14 x1) x7) (k0_pay23 (k0_pay2 x9) (k0_pay3 x4) (k0_pay14 x1) x7) 120#32) (k0_pay25 (k0_pay2 x9) (k0_pay3 x4) (k0_pay4 x5) (k0_pay5 x6) (k0_pay14 x1) x7) K) b) (k0_pay90 VAL (k0_pay80 k0_pay6 (k0_pay24 (k0_pay4 x5) (k0_pay5 x6) (k0_pay22 (k0_pay2 x9) (k0_pay14 x1) x7) (k0_pay23 (k0_pay2 x9) (k0_pay3 x4) (k0_pay14 x1) x7) 120#32) (k0_pay25 (k0_pay2 x9) (k0_pay3 x4) (k0_pay4 x5) (k0_pay5 x6) (k0_pay14 x1) x7) K) b) (k0_pay93 VAL (k0_pay80 k0_pay6 (k0_pay24 (k0_pay4 x5) (k0_pay5 x6) (k0_pay22 (k0_pay2 x9) (k0_pay14 x1) x7) (k0_pay23 (k0_pay2 x9) (k0_pay3 x4) (k0_pay14 x1) x7) 120#32) (k0_pay25 (k0_pay2 x9) (k0_pay3 x4) (k0_pay4 x5) (k0_pay5 x6) (k0_pay14 x1) x7) K) c) (k0_pay94 VAL (k0_pay80 k0_pay6 (k0_pay24 (k0_pay4 x5) (k0_pay5 x6) (k0_pay22 (k0_pay2 x9) (k0_pay14 x1) x7) (k0_pay23 (k0_pay2 x9) (k0_pay3 x4) (k0_pay14 x1) x7) 120#32) (k0_pay25 (k0_pay2 x9) (k0_pay3 x4) (k0_pay4 x5) (k0_pay5 x6) (k0_pay14 x1) x7) K) c) d (k0_pay96 VAL (k0_pay80 k0_pay6 (k0_pay24 (k0_pay4 x5) (k0_pay5 x6) (k0_pay22 (k0_pay2 x9) (k0_pay14 x1) x7) (k0_pay23 (k0_pay2 x9) (k0_pay3 x4) (k0_pay14 x1) x7) 120#32) (k0_pay25 (k0_pay2 x9) (k0_pay3 x4) (k0_pay4 x5) (k0_pay5 x6) (k0_pay14 x1) x7) K) d) (k0_pay97 VAL (k0_pay80 k0_pay6 (k0_pay24 (k0_pay4 x5) (k0_pay5 x6) (k0_pay22 (k0_pay2 x9) (k0_pay14 x1) x7) (k0_pay23 (k0_pay2 x9) (k0_pay3 x4) (k0_pay14 x1) x7) 120#32) (k0_pay25 (k0_pay2 x9) (k0_pay3 x4) (k0_pay4 x5) (k0_pay5 x6) (k0_pay14 x1) x7) K) d) (k0_pay98 VAL (k0_pay80 k0_pay6 (k0_pay24 (k0_pay4 x5) (k0_pay5 x6) (k0_pay22 (k0_pay2 x9) (k0_pay14 x1) x7) (k0_pay23 (k0_pay2 x9) (k0_pay3 x4) (k0_pay14 x1) x7) 120#32) (k0_pay25 (k0_pay2 x9) (k0_pay3 x4) (k0_pay4 x5) (k0_pay5 x6) (k0_pay14 x1) x7) K) d) V
      = grpLo (qv x1 x4 x5 x6 x7 x9 512 slices_S128x1024_o0_512_S128x128) (qv x1 x4 x5 x6 x7 x9 640 slices_S128x1024_o0_640_S128x128) VAL K V a b c d := rfl

/-- The tile at column 640. -/
theorem tile640 (x1 : Vec Ideal S128x1024 .bf16) (x4 x5 x6 : Vec Ideal S128x128 .f32) (x7 : Vec Ideal S1x128 .f32) (x9 : Vec Ideal S256x128 .bf16) (VAL : IVec S128x256 1) (K V : Vec Ideal S1x1x256x128 .bf16) (a b c d : Ideal .f32) :
    k0_pay101 k0_pay6 (k0_pay83 k0_pay6 (k0_pay24 (k0_pay4 x5) (k0_pay5 x6) (k0_pay22 (k0_pay2 x9) (k0_pay14 x1) x7) (k0_pay23 (k0_pay2 x9) (k0_pay3 x4) (k0_pay14 x1) x7) 120#32) (k0_pay25 (k0_pay2 x9) (k0_pay3 x4) (k0_pay4 x5) (k0_pay5 x6) (k0_pay14 x1) x7) VAL K a) (k0_pay86 (k0_pay84 k0_pay6 (k0_pay24 (k0_pay4 x5) (k0_pay5 x6) (k0_pay22 (k0_pay2 x9) (k0_pay14 x1) x7) (k0_pay23 (k0_pay2 x9) (k0_pay3 x4) (k0_pay14 x1) x7) 120#32) (k0_pay25 (k0_pay2 x9) (k0_pay3 x4) (k0_pay4 x5) (k0_pay5 x6) (k0_pay14 x1) x7) VAL K a) (k0_pay85 k0_pay6 (k0_pay24 (k0_pay4 x5) (k0_pay5 x6) (k0_pay22 (k0_pay2 x9) (k0_pay14 x1) x7) (k0_pay23 (k0_pay2 x9) (k0_pay3 x4) (k0_pay14 x1) x7) 120#32) (k0_pay25 (k0_pay2 x9) (k0_pay3 x4) (k0_pay4 x5) (k0_pay5 x6) (k0_pay14 x1) x7) VAL K a)) (k0_pay89 VAL (k0_pay80 k0_pay6 (k0_pay24 (k0_pay4 x5) (k0_pay5 x6) (k0_pay22 (k0_pay2 x9) (k0_pay14 x1) x7) (k0_pay23 (k0_pay2 x9) (k0_pay3 x4) (k0_pay14 x1) x7) 120#32) (k0_pay25 (k0_pay2 x9) (k0_pay3 x4) (k0_pay4 x5) (k0_pay5 x6) (k0_pay14 x1) x7) K) b) (k0_pay90 VAL (k0_pay80 k0_pay6 (k0_pay24 (k0_pay4 x5) (k0_pay5 x6) (k0_pay22 (k0_pay2 x9) (k0_pay14 x1) x7) (k0_pay23 (k0_pay2 x9) (k0_pay3 x4) (k0_pay14 x1) x7) 120#32) (k0_pay25 (k0_pay2 x9) (k0_pay3 x4) (k0_pay4 x5) (k0_pay5 x6) (k0_pay14 x1) x7) K) b) (k0_pay93 VAL (k0_pay80 k0_pay6 (k0_pay24 (k0_pay4 x5) (k0_pay5 x6) (k0_pay22 (k0_pay2 x9) (k0_pay14 x1) x7) (k0_pay23 (k0_pay2 x9) (k0_pay3 x4) (k0_pay14 x1) x7) 120#32) (k0_pay25 (k0_pay2 x9) (k0_pay3 x4) (k0_pay4 x5) (k0_pay5 x6) (k0_pay14 x1) x7) K) c) (k0_pay94 VAL (k0_pay80 k0_pay6 (k0_pay24 (k0_pay4 x5) (k0_pay5 x6) (k0_pay22 (k0_pay2 x9) (k0_pay14 x1) x7) (k0_pay23 (k0_pay2 x9) (k0_pay3 x4) (k0_pay14 x1) x7) 120#32) (k0_pay25 (k0_pay2 x9) (k0_pay3 x4) (k0_pay4 x5) (k0_pay5 x6) (k0_pay14 x1) x7) K) c) d (k0_pay96 VAL (k0_pay80 k0_pay6 (k0_pay24 (k0_pay4 x5) (k0_pay5 x6) (k0_pay22 (k0_pay2 x9) (k0_pay14 x1) x7) (k0_pay23 (k0_pay2 x9) (k0_pay3 x4) (k0_pay14 x1) x7) 120#32) (k0_pay25 (k0_pay2 x9) (k0_pay3 x4) (k0_pay4 x5) (k0_pay5 x6) (k0_pay14 x1) x7) K) d) (k0_pay97 VAL (k0_pay80 k0_pay6 (k0_pay24 (k0_pay4 x5) (k0_pay5 x6) (k0_pay22 (k0_pay2 x9) (k0_pay14 x1) x7) (k0_pay23 (k0_pay2 x9) (k0_pay3 x4) (k0_pay14 x1) x7) 120#32) (k0_pay25 (k0_pay2 x9) (k0_pay3 x4) (k0_pay4 x5) (k0_pay5 x6) (k0_pay14 x1) x7) K) d) (k0_pay98 VAL (k0_pay80 k0_pay6 (k0_pay24 (k0_pay4 x5) (k0_pay5 x6) (k0_pay22 (k0_pay2 x9) (k0_pay14 x1) x7) (k0_pay23 (k0_pay2 x9) (k0_pay3 x4) (k0_pay14 x1) x7) 120#32) (k0_pay25 (k0_pay2 x9) (k0_pay3 x4) (k0_pay4 x5) (k0_pay5 x6) (k0_pay14 x1) x7) K) d) V
      = grpHi (qv x1 x4 x5 x6 x7 x9 512 slices_S128x1024_o0_512_S128x128) (qv x1 x4 x5 x6 x7 x9 640 slices_S128x1024_o0_640_S128x128) VAL K V a b c d := rfl

/-- The tile at column 768. -/
theorem tile768 (x1 : Vec Ideal S128x1024 .bf16) (x4 x5 x6 : Vec Ideal S128x128 .f32) (x7 : Vec Ideal S1x128 .f32) (x9 : Vec Ideal S256x128 .bf16) (VAL : IVec S128x256 1) (K V : Vec Ideal S1x1x256x128 .bf16) (a b c d : Ideal .f32) :
    k0_pay117 k0_pay6 VAL (k0_pay106 (k0_pay29 (k0_pay2 x9) (k0_pay3 x4) (k0_pay4 x5) (k0_pay5 x6) (k0_pay14 x1) x7) (k0_pay102 k0_pay6 (k0_pay28 (k0_pay3 x4) (k0_pay4 x5) (k0_pay5 x6) (k0_pay26 x7) (k0_pay27 (k0_pay2 x9) (k0_pay14 x1)))) (k0_pay103 k0_pay6 (k0_pay28 (k0_pay3 x4) (k0_pay4 x5) (k0_pay5 x6) (k0_pay26 x7) (k0_pay27 (k0_pay2 x9) (k0_pay14 x1)))) (k0_pay104 k0_pay6 (k0_pay29 (k0_pay2 x9) (k0_pay3 x4) (k0_pay4 x5) (k0_pay5 x6) (k0_pay14 x1) x7)) (FloatOps.ofBits FTy.f32 0#32) (k0_pay105 k0_pay6) K) (k0_pay109 (k0_pay29 (k0_pay2 x9) (k0_pay3 x4) (k0_pay4 x5) (k0_pay5 x6) (k0_pay14 x1) x7) VAL (k0_pay102 k0_pay6 (k0_pay28 (k0_pay3 x4) (k0_pay4 x5) (k0_pay5 x6) (k0_pay26 x7) (k0_pay27 (k0_pay2 x9) (k0_pay14 x1)))) (k0_pay103 k0_pay6 (k0_pay28 (k0_pay3 x4) (k0_pay4 x5) (k0_pay5 x6) (k0_pay26 x7) (k0_pay27 (k0_pay2 x9) (k0_pay14 x1)))) (k0_pay104 k0_pay6 (k0_pay29 (k0_pay2 x9) (k0_pay3 x4) (k0_pay4 x5) (k0_pay5 x6) (k0_pay14 x1) x7)) (FloatOps.ofBits FTy.f32 0#32) (k0_pay105 k0_pay6) K a) (k0_pay110 (k0_pay29 (k0_pay2 x9) (k0_pay3 x4) (k0_pay4 x5) (k0_pay5 x6) (k0_pay14 x1) x7) VAL (k0_pay102 k0_pay6 (k0_pay28 (k0_pay3 x4) (k0_pay4 x5) (k0_pay5 x6) (k0_pay26 x7) (k0_pay27 (k0_pay2 x9) (k0_pay14 x1)))) (k0_pay103 k0_pay6 (k0_pay28 (k0_pay3 x4) (k0_pay4 x5) (k0_pay5 x6) (k0_pay26 x7) (k0_pay27 (k0_pay2 x9) (k0_pay14 x1)))) (k0_pay104 k0_pay6 (k0_pay29 (k0_pay2 x9) (k0_pay3 x4) (k0_pay4 x5) (k0_pay5 x6) (k0_pay14 x1) x7)) (FloatOps.ofBits FTy.f32 0#32) (k0_pay105 k0_pay6) K a) (k0_pay113 (k0_pay29 (k0_pay2 x9) (k0_pay3 x4) (k0_pay4 x5) (k0_pay5 x6) (k0_pay14 x1) x7) VAL (k0_pay102 k0_pay6 (k0_pay28 (k0_pay3 x4) (k0_pay4 x5) (k0_pay5 x6) (k0_pay26 x7) (k0_pay27 (k0_pay2 x9) (k0_pay14 x1)))) (k0_pay103 k0_pay6 (k0_pay28 (k0_pay3 x4) (k0_pay4 x5) (k0_pay5 x6) (k0_pay26 x7) (k0_pay27 (k0_pay2 x9) (k0_pay14 x1)))) (k0_pay104 k0_pay6 (k0_pay29 (k0_pay2 x9) (k0_pay3 x4) (k0_pay4 x5) (k0_pay5 x6) (k0_pay14 x1) x7)) (FloatOps.ofBits FTy.f32 0#32) (k0_pay105 k0_pay6) K b) (k0_pay114 (k0_pay29 (k0_pay2 x9) (k0_pay3 x4) (k0_pay4 x5) (k0_pay5 x6) (k0_pay14 x1) x7) VAL (k0_pay102 k0_pay6 (k0_pay28 (k0_pay3 x4) (k0_pay4 x5) (k0_pay5 x6) (k0_pay26 x7) (k0_pay27 (k0_pay2 x9) (k0_pay14 x1)))) (k0_pay103 k0_pay6 (k0_pay28 (k0_pay3 x4) (k0_pay4 x5) (k0_pay5 x6) (k0_pay26 x7) (k0_pay27 (k0_pay2 x9) (k0_pay14 x1)))) (k0_pay104 k0_pay6 (k0_pay29 (k0_pay2 x9) (k0_pay3 x4) (k0_pay4 x5) (k0_pay5 x6) (k0_pay14 x1) x7)) (FloatOps.ofBits FTy.f32 0#32) (k0_pay105 k0_pay6) K b) (k0_pay115 (k0_pay29 (k0_pay2 x9) (k0_pay3 x4) (k0_pay4 x5) (k0_pay5 x6) (k0_pay14 x1) x7) VAL (k0_pay102 k0_pay6 (k0_pay28 (k0_pay3 x4) (k0_pay4 x5) (k0_pay5 x6) (k0_pay26 x7) (k0_pay27 (k0_pay2 x9) (k0_pay14 x1)))) (k0_pay103 k0_pay6 (k0_pay28 (k0_pay3 x4) (k0_pay4 x5) (k0_pay5 x6) (k0_pay26 x7) (k0_pay27 (k0_pay2 x9) (k0_pay14 x1)))) (k0_pay104 k0_pay6 (k0_pay29 (k0_pay2 x9) (k0_pay3 x4) (k0_pay4 x5) (k0_pay5 x6) (k0_pay14 x1) x7)) (FloatOps.ofBits FTy.f32 0#32) (k0_pay105 k0_pay6) K) c d V
      = grpLo (qv x1 x4 x5 x6 x7 x9 768 slices_S128x1024_o0_768_S128x128) (qv x1 x4 x5 x6 x7 x9 896 slices_S128x1024_o0_896_S128x128) VAL K V a b c d := rfl

/-- The tile at column 896. -/
theorem tile896 (x1 : Vec Ideal S128x1024 .bf16) (x4 x5 x6 : Vec Ideal S128x128 .f32) (x7 : Vec Ideal S1x128 .f32) (x9 : Vec Ideal S256x128 .bf16) (VAL : IVec S128x256 1) (K V : Vec Ideal S1x1x256x128 .bf16) (a b c d : Ideal .f32) :
    k0_pay118 k0_pay6 (k0_pay116 VAL (k0_pay106 (k0_pay29 (k0_pay2 x9) (k0_pay3 x4) (k0_pay4 x5) (k0_pay5 x6) (k0_pay14 x1) x7) (k0_pay102 k0_pay6 (k0_pay28 (k0_pay3 x4) (k0_pay4 x5) (k0_pay5 x6) (k0_pay26 x7) (k0_pay27 (k0_pay2 x9) (k0_pay14 x1)))) (k0_pay103 k0_pay6 (k0_pay28 (k0_pay3 x4) (k0_pay4 x5) (k0_pay5 x6) (k0_pay26 x7) (k0_pay27 (k0_pay2 x9) (k0_pay14 x1)))) (k0_pay104 k0_pay6 (k0_pay29 (k0_pay2 x9) (k0_pay3 x4) (k0_pay4 x5) (k0_pay5 x6) (k0_pay14 x1) x7)) (FloatOps.ofBits FTy.f32 0#32) (k0_pay105 k0_pay6) K) (k0_pay109 (k0_pay29 (k0_pay2 x9) (k0_pay3 x4) (k0_pay4 x5) (k0_pay5 x6) (k0_pay14 x1) x7) VAL (k0_pay102 k0_pay6 (k0_pay28 (k0_pay3 x4) (k0_pay4 x5) (k0_pay5 x6) (k0_pay26 x7) (k0_pay27 (k0_pay2 x9) (k0_pay14 x1)))) (k0_pay103 k0_pay6 (k0_pay28 (k0_pay3 x4) (k0_pay4 x5) (k0_pay5 x6) (k0_pay26 x7) (k0_pay27 (k0_pay2 x9) (k0_pay14 x1)))) (k0_pay104 k0_pay6 (k0_pay29 (k0_pay2 x9) (k0_pay3 x4) (k0_pay4 x5) (k0_pay5 x6) (k0_pay14 x1) x7)) (FloatOps.ofBits FTy.f32 0#32) (k0_pay105 k0_pay6) K a) (k0_pay110 (k0_pay29 (k0_pay2 x9) (k0_pay3 x4) (k0_pay4 x5) (k0_pay5 x6) (k0_pay14 x1) x7) VAL (k0_pay102 k0_pay6 (k0_pay28 (k0_pay3 x4) (k0_pay4 x5) (k0_pay5 x6) (k0_pay26 x7) (k0_pay27 (k0_pay2 x9) (k0_pay14 x1)))) (k0_pay103 k0_pay6 (k0_pay28 (k0_pay3 x4) (k0_pay4 x5) (k0_pay5 x6) (k0_pay26 x7) (k0_pay27 (k0_pay2 x9) (k0_pay14 x1)))) (k0_pay104 k0_pay6 (k0_pay29 (k0_pay2 x9) (k0_pay3 x4) (k0_pay4 x5) (k0_pay5 x6) (k0_pay14 x1) x7)) (FloatOps.ofBits FTy.f32 0#32) (k0_pay105 k0_pay6) K a) (k0_pay113 (k0_pay29 (k0_pay2 x9) (k0_pay3 x4) (k0_pay4 x5) (k0_pay5 x6) (k0_pay14 x1) x7) VAL (k0_pay102 k0_pay6 (k0_pay28 (k0_pay3 x4) (k0_pay4 x5) (k0_pay5 x6) (k0_pay26 x7) (k0_pay27 (k0_pay2 x9) (k0_pay14 x1)))) (k0_pay103 k0_pay6 (k0_pay28 (k0_pay3 x4) (k0_pay4 x5) (k0_pay5 x6) (k0_pay26 x7) (k0_pay27 (k0_pay2 x9) (k0_pay14 x1)))) (k0_pay104 k0_pay6 (k0_pay29 (k0_pay2 x9) (k0_pay3 x4) (k0_pay4 x5) (k0_pay5 x6) (k0_pay14 x1) x7)) (FloatOps.ofBits FTy.f32 0#32) (k0_pay105 k0_pay6) K b) (k0_pay114 (k0_pay29 (k0_pay2 x9) (k0_pay3 x4) (k0_pay4 x5) (k0_pay5 x6) (k0_pay14 x1) x7) VAL (k0_pay102 k0_pay6 (k0_pay28 (k0_pay3 x4) (k0_pay4 x5) (k0_pay5 x6) (k0_pay26 x7) (k0_pay27 (k0_pay2 x9) (k0_pay14 x1)))) (k0_pay103 k0_pay6 (k0_pay28 (k0_pay3 x4) (k0_pay4 x5) (k0_pay5 x6) (k0_pay26 x7) (k0_pay27 (k0_pay2 x9) (k0_pay14 x1)))) (k0_pay104 k0_pay6 (k0_pay29 (k0_pay2 x9) (k0_pay3 x4) (k0_pay4 x5) (k0_pay5 x6) (k0_pay14 x1) x7)) (FloatOps.ofBits FTy.f32 0#32) (k0_pay105 k0_pay6) K b) (k0_pay115 (k0_pay29 (k0_pay2 x9) (k0_pay3 x4) (k0_pay4 x5) (k0_pay5 x6) (k0_pay14 x1) x7) VAL (k0_pay102 k0_pay6 (k0_pay28 (k0_pay3 x4) (k0_pay4 x5) (k0_pay5 x6) (k0_pay26 x7) (k0_pay27 (k0_pay2 x9) (k0_pay14 x1)))) (k0_pay103 k0_pay6 (k0_pay28 (k0_pay3 x4) (k0_pay4 x5) (k0_pay5 x6) (k0_pay26 x7) (k0_pay27 (k0_pay2 x9) (k0_pay14 x1)))) (k0_pay104 k0_pay6 (k0_pay29 (k0_pay2 x9) (k0_pay3 x4) (k0_pay4 x5) (k0_pay5 x6) (k0_pay14 x1) x7)) (FloatOps.ofBits FTy.f32 0#32) (k0_pay105 k0_pay6) K) c d V)
      = grpHi (qv x1 x4 x5 x6 x7 x9 768 slices_S128x1024_o0_768_S128x128) (qv x1 x4 x5 x6 x7 x9 896 slices_S128x1024_o0_896_S128x128) VAL K V a b c d := rfl
end Cert.Attn
end
-- ==== Proof.AttnOut.lean ====
/- The eight tiles together: every column of the attention's output is one head's output. -/
module

public import proofs.«01_k».proof.Proof.AttnTiles

@[expose] public section

set_option maxRecDepth 16384

noncomputable section

namespace Cert.Attn

open Cert.KernelIdeal Cert.KernelIdeal.Gen Idealize.ShloMosaic Idealize.SL.Sem

/-- Columns `128 ch … 128 ch + 127` of the query rows. -/
def chunk (x1 : Vec Ideal S128x1024 .bf16) (ch : Nat) (hc : ch < 8) : FVec Ideal S128x128 .f32 :=
  fun y => x1 (ix2 (⟨(y 0).val, (y 0).isLt⟩ : Fin 128) (⟨128 * ch + (y 1).val, by have : (y 1).val < 128 := (y 1).isLt; omega⟩ : Fin 1024))

/-- A chunk of the query rows, normed, rotated and scaled, at an entry. -/
def qf (x1 : Vec Ideal S128x1024 .bf16) (x4 x5 x6 : Vec Ideal S128x128 .f32) (x7 : Vec Ideal S1x128 .f32) (x9 : Vec Ideal S256x128 .bf16) (ch : Nat) (hc : ch < 8) (r x : Fin 128) : EReal :=
  k0_pay11 (F := Ideal) (k0_pay2 x9) (k0_pay3 x4) (k0_pay4 x5) (k0_pay5 x6)
    (chunk x1 ch hc) (k0_pay10 x7) (ix2 r x) * Ideal.ofBits .f32 1040187392#32

theorem qv_at (x1 : Vec Ideal S128x1024 .bf16) (x4 x5 x6 : Vec Ideal S128x128 .f32) (x7 : Vec Ideal S1x128 .f32) (x9 : Vec Ideal S256x128 .bf16) (o ch : Nat) (ho : o = 128 * ch) (hc : ch < 8) (h : S128x1024.Slices ![0, o] S128x128) (r x : Fin 128) :
    qv x1 x4 x5 x6 x7 x9 o h (ix2 r x) = qf x1 x4 x5 x6 x7 x9 ch hc r x := by
  subst ho
  have e : (extractStridedSlice S128x128 ![0, 128 * ch] (k0_pay14 x1) h : FVec Ideal S128x128 .f32)
      = chunk x1 ch hc := by
    funext y
    obtain ⟨p, q, rfl⟩ : ∃ (p q : Fin 128), y = ix2 p q := ⟨y 0, y 1, eq_ix2 (n0 := 128) (n1 := 128) y⟩
    unfold k0_pay14 chunk
    pointwise []
  unfold qv qf
  rw [e]
  rfl

/-- The attention's output before the gate: each column is one head's output. -/
def oscr (x0 : Vec Ideal S16 .f32) (x1 : Vec Ideal S128x1024 .bf16) (x4 x5 x6 : Vec Ideal S128x128 .f32) (x7 : Vec Ideal S1x128 .f32) (x9 : Vec Ideal S256x128 .bf16) (VAL : IVec S128x256 1) (KD VD : Vec Ideal S1x4x256x128 .bf16)
    (r : Fin 128) (C : Fin 1024) : EReal :=
  headAt (qf x1 x4 x5 x6 x7 x9 (C.val / 128) (by omega)) (if C.val % 128 < 64 then 0#1 else 1#1) VAL
    (fun k x => KD (ix4 0 (⟨C.val / 256, by omega⟩ : Fin 4) k x)) (fun k x => VD (ix4 0 (⟨C.val / 256, by omega⟩ : Fin 4) k x))
    (x0 (ix1 (⟨C.val / 64, by omega⟩ : Fin 16))) r (⟨C.val % 128, by omega⟩ : Fin 128)

theorem low_of (l : Fin 128) (h : l.val < 64) : lowLane l = 1#1 := by
  revert l; decide

theorem low_not (l : Fin 128) (h : ¬ l.val < 64) : lowLane l = 0#1 := by
  revert l; decide

theorem ld_group (K : Vec Ideal S1x4x256x128 .bf16) (g : Nat) (hg : g < 4) (inb : ∀ a, (![0, g, 0, 0] : Fin 4 → Nat) a + (![1, 1, 256, 128] : Fin 4 → Nat) a ≤ S1x4x256x128.size a) (k : Fin 256) (x : Fin 128) :
    View.ld K (Rect.unit (s := S1x4x256x128) ![0, g, 0, 0] ![1, 1, 256, 128] inb) (ix4 0 0 k x) = K (ix4 0 (⟨g, hg⟩ : Fin 4) k x) := by
  show K _ = K _
  congr 1
  funext a
  refine Fin.ext ?_
  match a with
  | ⟨0, _⟩ => rfl
  | ⟨1, _⟩ => show g + 1 * 0 = g; omega
  | ⟨2, _⟩ => show 0 + 1 * k.val = k.val; omega
  | ⟨3, _⟩ => show 0 + 1 * x.val = x.val; omega

theorem ld_sink (x0 : Vec Ideal S16 .f32) (j : Nat) (hj : j < 16) (inb : ∀ a, (![j] : Fin 1 → Nat) a + (![1] : Fin 1 → Nat) a ≤ S16.size a) (h) :
    View.ld x0 (Rect.unit (s := S16) ![j] ![1] inb) (Shape.Idx.first h) = x0 (ix1 (⟨j, hj⟩ : Fin 16)) := by
  show x0 _ = x0 _
  congr 1
  funext a
  refine Fin.ext ?_
  match a with
  | ⟨0, _⟩ => show j + 1 * 0 = j; omega

/-- A column of the output, by its chunk, group, head and lane. -/
theorem oscr_eq (x0 : Vec Ideal S16 .f32) (x1 : Vec Ideal S128x1024 .bf16) (x4 x5 x6 : Vec Ideal S128x128 .f32) (x7 : Vec Ideal S1x128 .f32) (x9 : Vec Ideal S256x128 .bf16) (VAL : IVec S128x256 1) (KD VD : Vec Ideal S1x4x256x128 .bf16)
    (r : Fin 128) (C : Fin 1024) (ch : Nat) (hc : ch < 8) (g : Fin 4) (j : Fin 16) (l : Fin 128) (up : BitVec 1)
    (e1 : C.val / 128 = ch) (e2 : C.val % 128 = l.val) (e3 : C.val / 256 = g.val) (e4 : C.val / 64 = j.val) (e5 : (if C.val % 128 < 64 then 0#1 else 1#1) = up) :
    oscr x0 x1 x4 x5 x6 x7 x9 VAL KD VD r C
      = headAt (qf x1 x4 x5 x6 x7 x9 ch hc) up VAL (fun k x => KD (ix4 0 g k x)) (fun k x => VD (ix4 0 g k x)) (x0 (ix1 j)) r l := by
  subst e1 e5
  have hl : l = ⟨C.val % 128, by omega⟩ := Fin.ext e2.symm
  have hg : g = ⟨C.val / 256, by omega⟩ := Fin.ext e3.symm
  have hj : j = ⟨C.val / 64, by omega⟩ := Fin.ext e4.symm
  rw [hl, hg, hj]
  rfl

/-- Two heads side by side are two halves of a tile of the output. -/
theorem tile_at (x0 : Vec Ideal S16 .f32) (x1 : Vec Ideal S128x1024 .bf16) (x4 x5 x6 : Vec Ideal S128x128 .f32) (x7 : Vec Ideal S1x128 .f32) (x9 : Vec Ideal S256x128 .bf16) (VAL : IVec S128x256 1) (KD VD : Vec Ideal S1x4x256x128 .bf16)
    (ch : Nat) (hc : ch < 8) (g : Fin 4) (ja jb : Fin 16) (hg : ch / 2 = g.val) (ha : 2 * ch = ja.val) (hb : 2 * ch + 1 = jb.val) (r l : Fin 128) (C : Fin 1024) (hC : C.val = 128 * ch + l.val) :
    Scalar.select (lowLane l)
        (headAt (qf x1 x4 x5 x6 x7 x9 ch hc) 0#1 VAL (fun k x => KD (ix4 0 g k x)) (fun k x => VD (ix4 0 g k x)) (x0 (ix1 ja)) r l)
        (headAt (qf x1 x4 x5 x6 x7 x9 ch hc) 1#1 VAL (fun k x => KD (ix4 0 g k x)) (fun k x => VD (ix4 0 g k x)) (x0 (ix1 jb)) r l)
      = oscr x0 x1 x4 x5 x6 x7 x9 VAL KD VD r C := by
  have hl := l.isLt
  by_cases h : l.val < 64
  · rw [oscr_eq x0 x1 x4 x5 x6 x7 x9 VAL KD VD r C ch hc g ja l 0#1 (by omega) (by omega) (by omega) (by omega)
      (if_pos (by omega)), low_of l h]
    rfl
  · rw [oscr_eq x0 x1 x4 x5 x6 x7 x9 VAL KD VD r C ch hc g jb l 1#1 (by omega) (by omega) (by omega) (by omega)
      (if_neg (by omega)), low_not l h]
    rfl

/-- The first tile of a group is its two columns of chunks of the output. -/
theorem tileLo (x0 : Vec Ideal S16 .f32) (x1 : Vec Ideal S128x1024 .bf16) (x4 x5 x6 : Vec Ideal S128x128 .f32) (x7 : Vec Ideal S1x128 .f32) (x9 : Vec Ideal S256x128 .bf16) (VAL : IVec S128x256 1) (KD VD : Vec Ideal S1x4x256x128 .bf16)
    (g o o' j0 j1 j2 j3 : Nat) (hg : g < 4) (ho : o = 256 * g) (ho' : o' = 256 * g + 128) (h0 : j0 = 4 * g) (h1 : j1 = 4 * g + 1) (h2 : j2 = 4 * g + 2) (h3 : j3 = 4 * g + 3) (hs hs' ib ib' i0 i1 i2 i3 f0 f1 f2 f3)
    (r l : Fin 128) (C : Fin 1024) (hC : C.val = o + l.val) :
    grpLo (qv x1 x4 x5 x6 x7 x9 o hs) (qv x1 x4 x5 x6 x7 x9 o' hs') VAL
        (View.ld KD (Rect.unit (s := S1x4x256x128) ![0, g, 0, 0] ![1, 1, 256, 128] ib)) (View.ld VD (Rect.unit (s := S1x4x256x128) ![0, g, 0, 0] ![1, 1, 256, 128] ib'))
        (View.ld x0 (Rect.unit (s := S16) ![j0] ![1] i0) (Shape.Idx.first f0)) (View.ld x0 (Rect.unit (s := S16) ![j1] ![1] i1) (Shape.Idx.first f1))
        (View.ld x0 (Rect.unit (s := S16) ![j2] ![1] i2) (Shape.Idx.first f2)) (View.ld x0 (Rect.unit (s := S16) ![j3] ![1] i3) (Shape.Idx.first f3)) (ix2 r l)
      = oscr x0 x1 x4 x5 x6 x7 x9 VAL KD VD r C := by
  rw [grpLo_at]
  simp only [qv_at x1 x4 x5 x6 x7 x9 o (2 * g) (by omega) (by omega) hs, qv_at x1 x4 x5 x6 x7 x9 o' (2 * g + 1) (by omega) (by omega) hs',
    ld_group KD g hg ib, ld_group VD g hg ib', ld_sink x0 j0 (by omega) i0, ld_sink x0 j1 (by omega) i1, ld_sink x0 j2 (by omega) i2, ld_sink x0 j3 (by omega) i3]
  exact tile_at x0 x1 x4 x5 x6 x7 x9 VAL KD VD (2 * g) (by omega) ⟨g, hg⟩ ⟨j0, by omega⟩ ⟨j1, by omega⟩ (by show _ = g; omega) (by show _ = j0; omega) (by show _ = j1; omega) r l C (by omega)

/-- The second tile of a group is its two columns of chunks of the output. -/
theorem tileHi (x0 : Vec Ideal S16 .f32) (x1 : Vec Ideal S128x1024 .bf16) (x4 x5 x6 : Vec Ideal S128x128 .f32) (x7 : Vec Ideal S1x128 .f32) (x9 : Vec Ideal S256x128 .bf16) (VAL : IVec S128x256 1) (KD VD : Vec Ideal S1x4x256x128 .bf16)
    (g o o' j0 j1 j2 j3 : Nat) (hg : g < 4) (ho : o = 256 * g) (ho' : o' = 256 * g + 128) (h0 : j0 = 4 * g) (h1 : j1 = 4 * g + 1) (h2 : j2 = 4 * g + 2) (h3 : j3 = 4 * g + 3) (hs hs' ib ib' i0 i1 i2 i3 f0 f1 f2 f3)
    (r l : Fin 128) (C : Fin 1024) (hC : C.val = o' + l.val) :
    grpHi (qv x1 x4 x5 x6 x7 x9 o hs) (qv x1 x4 x5 x6 x7 x9 o' hs') VAL
        (View.ld KD (Rect.unit (s := S1x4x256x128) ![0, g, 0, 0] ![1, 1, 256, 128] ib)) (View.ld VD (Rect.unit (s := S1x4x256x128) ![0, g, 0, 0] ![1, 1, 256, 128] ib'))
        (View.ld x0 (Rect.unit (s := S16) ![j0] ![1] i0) (Shape.Idx.first f0)) (View.ld x0 (Rect.unit (s := S16) ![j1] ![1] i1) (Shape.Idx.first f1))
        (View.ld x0 (Rect.unit (s := S16) ![j2] ![1] i2) (Shape.Idx.first f2)) (View.ld x0 (Rect.unit (s := S16) ![j3] ![1] i3) (Shape.Idx.first f3)) (ix2 r l)
      = oscr x0 x1 x4 x5 x6 x7 x9 VAL KD VD r C := by
  rw [grpHi_at]
  simp only [qv_at x1 x4 x5 x6 x7 x9 o (2 * g) (by omega) (by omega) hs, qv_at x1 x4 x5 x6 x7 x9 o' (2 * g + 1) (by omega) (by omega) hs',
    ld_group KD g hg ib, ld_group VD g hg ib', ld_sink x0 j0 (by omega) i0, ld_sink x0 j1 (by omega) i1, ld_sink x0 j2 (by omega) i2, ld_sink x0 j3 (by omega) i3]
  exact tile_at x0 x1 x4 x5 x6 x7 x9 VAL KD VD (2 * g + 1) (by omega) ⟨g, hg⟩ ⟨j2, by omega⟩ ⟨j3, by omega⟩ (by show _ = g; omega) (by show _ = j2; omega) (by show _ = j3; omega) r l C (by omega)

end Cert.Attn
end
-- ==== Proof.AttnScratch.lean ====
/- What the kernel keeps of the keys and values between points: each head's half in both halves of the lanes,
   the rows of the block before in the first half of the rows. -/
module

public import proofs.«01_k».proof.Proof.AttnOut
public import Idealize.ShloMosaic.Lib.WritesUnit

@[expose] public section

set_option maxRecDepth 16384

noncomputable section

namespace Cert.Attn

open Cert.KernelIdeal Cert.KernelIdeal.Gen Idealize.ShloMosaic Idealize.SL.Sem

/-- Columns `128 ch … 128 ch + 127` of the key and value rows. -/
def kchunk (x2 : Vec Ideal S128x512 .bf16) (ch : Nat) (hc : ch < 4) : FVec Ideal S128x128 .f32 :=
  fun y => x2 (ix2 (⟨(y 0).val, (y 0).isLt⟩ : Fin 128) (⟨128 * ch + (y 1).val, by have : (y 1).val < 128 := (y 1).isLt; omega⟩ : Fin 512))

/-- A chunk of the key rows, normed and rotated. -/
def kr (x2 : Vec Ideal S128x512 .bf16) (x4 x5 x6 : Vec Ideal S128x128 .f32) (x8 : Vec Ideal S1x128 .f32) (x9 : Vec Ideal S256x128 .bf16) (ch : Nat) (hc : ch < 4) : FVec Ideal S128x128 .f32 :=
  k0_pay11 (F := Ideal) (k0_pay2 x9) (k0_pay3 x4) (k0_pay4 x5) (k0_pay5 x6) (kchunk x2 ch hc) (k0_pay10 x8)

theorem kslice (x2 : Vec Ideal S128x512 .bf16) (o ch : Nat) (ho : o = 128 * ch) (hc : ch < 4) (h : S128x512.Slices ![0, o] S128x128) :
    (extractStridedSlice S128x128 ![0, o] (k0_pay7 x2) h : FVec Ideal S128x128 .f32) = kchunk x2 ch hc := by
  subst ho
  funext y
  obtain ⟨p, q, rfl⟩ : ∃ (p q : Fin 128), y = ix2 p q := ⟨y 0, y 1, eq_ix2 (n0 := 128) (n1 := 128) y⟩
  unfold k0_pay7 kchunk
  pointwise []

theorem pay8_eq (x2 : Vec Ideal S128x512 .bf16) (x4 x5 x6 : Vec Ideal S128x128 .f32) (x8 : Vec Ideal S1x128 .f32) (x9 : Vec Ideal S256x128 .bf16) :
    k0_pay8 x9 x4 x5 x6 x2 x8 = kr x2 x4 x5 x6 x8 x9 0 (by omega) := by
  unfold kr
  rw [← kslice x2 0 0 (by omega) (by omega) slices_S128x512_o0_0_S128x128]
  rfl

theorem pay9_eq (x2 : Vec Ideal S128x512 .bf16) (x4 x5 x6 : Vec Ideal S128x128 .f32) (x8 : Vec Ideal S1x128 .f32) (x9 : Vec Ideal S256x128 .bf16) :
    k0_pay11 (F := Ideal) (k0_pay2 x9) (k0_pay3 x4) (k0_pay4 x5) (k0_pay5 x6) (k0_pay9 x2) (k0_pay10 x8) = kr x2 x4 x5 x6 x8 x9 1 (by omega) := by
  unfold kr
  rw [← kslice x2 128 1 (by omega) (by omega) slices_S128x512_o0_128_S128x128]
  rfl

theorem pay12_eq (x2 : Vec Ideal S128x512 .bf16) : k0_pay12 (k0_pay7 x2) = kchunk x2 2 (by omega) :=
  kslice x2 256 2 (by omega) (by omega) slices_S128x512_o0_256_S128x128

theorem pay13_eq (x2 : Vec Ideal S128x512 .bf16) : k0_pay13 (k0_pay7 x2) = kchunk x2 3 (by omega) :=
  kslice x2 384 3 (by omega) (by omega) slices_S128x512_o0_384_S128x128

/-- The lane a doubled head reads: lane `l % 64` of half `u`. -/
def dupLane (u : Nat) (l : Fin 128) : Fin 128 := ⟨(64 * u + l.val % 64) % 128, by omega⟩

theorem selLow (v : FVec Ideal S128x128 .f32) (r l : Fin 128) (m : Fin 128) (hm : m.val = (l.val + 128 - 64) % 128) :
    Scalar.select (lowLane l) (v (ix2 r l)) (v (ix2 r m)) = v (ix2 r (dupLane 0 l)) := by
  by_cases h : l.val < 64
  · rw [low_of l h]
    exact congrArg (fun z => v (ix2 r z)) (Fin.ext (by show l.val = (64 * 0 + l.val % 64) % 128; omega))
  · rw [low_not l h]
    exact congrArg (fun z => v (ix2 r z)) (Fin.ext (by rw [hm]; show _ = (64 * 0 + l.val % 64) % 128; omega))

theorem selUp (v : FVec Ideal S128x128 .f32) (r l : Fin 128) (m : Fin 128) (hm : m.val = (l.val + 128 - 64) % 128) :
    Scalar.select (lowLane l) (v (ix2 r m)) (v (ix2 r l)) = v (ix2 r (dupLane 1 l)) := by
  by_cases h : l.val < 64
  · rw [low_of l h]
    exact congrArg (fun z => v (ix2 r z)) (Fin.ext (by rw [hm]; show _ = (64 * 1 + l.val % 64) % 128; omega))
  · rw [low_not l h]
    exact congrArg (fun z => v (ix2 r z)) (Fin.ext (by show l.val = (64 * 1 + l.val % 64) % 128; omega))

theorem dup34 (v : FVec Ideal S128x128 .f32) (r l : Fin 128) : k0_pay34 k0_pay6 v (ix4 0 0 r l) = v (ix2 r (dupLane 0 l)) := by
  unfold k0_pay34 k0_pay6
  pointwise []
  exact selLow v r l _ rfl

theorem dup39 (v : FVec Ideal S128x128 .f32) (r l : Fin 128) : k0_pay39 k0_pay6 v (ix4 0 0 r l) = v (ix2 r (dupLane 0 l)) := by
  unfold k0_pay39 k0_pay6
  pointwise []
  exact selLow v r l _ rfl

theorem dup35 (v : FVec Ideal S128x128 .f32) (r l : Fin 128) : k0_pay35 k0_pay6 v (ix4 0 0 r l) = v (ix2 r (dupLane 0 l)) := by
  unfold k0_pay35 k0_pay6
  pointwise []
  exact selLow v r l _ rfl

theorem dup40 (v : FVec Ideal S128x128 .f32) (r l : Fin 128) : k0_pay40 k0_pay6 v (ix4 0 0 r l) = v (ix2 r (dupLane 0 l)) := by
  unfold k0_pay40 k0_pay6
  pointwise []
  exact selLow v r l _ rfl

theorem dup36 (v : FVec Ideal S128x128 .f32) (r l : Fin 128) : k0_pay36 k0_pay6 v (ix4 0 0 r l) = v (ix2 r (dupLane 1 l)) := by
  unfold k0_pay36 k0_pay6
  pointwise []
  exact selUp v r l _ rfl

theorem dup41 (v : FVec Ideal S128x128 .f32) (r l : Fin 128) : k0_pay41 k0_pay6 v (ix4 0 0 r l) = v (ix2 r (dupLane 1 l)) := by
  unfold k0_pay41 k0_pay6
  pointwise []
  exact selUp v r l _ rfl

theorem dup38 (v : FVec Ideal S128x128 .f32) (r l : Fin 128) : k0_pay38 (k0_pay37 k0_pay6 v) (ix4 0 0 r l) = v (ix2 r (dupLane 1 l)) := by
  unfold k0_pay38 k0_pay37 k0_pay6
  pointwise []
  exact selUp v r l _ rfl

theorem dup42 (v : FVec Ideal S128x128 .f32) (r l : Fin 128) : k0_pay42 k0_pay6 v (ix4 0 0 r l) = v (ix2 r (dupLane 1 l)) := by
  unfold k0_pay42 k0_pay6
  pointwise []
  exact selUp v r l _ rfl

/-- The doubled key rows of a block. -/
def newK (x2 : Vec Ideal S128x512 .bf16) (x4 x5 x6 : Vec Ideal S128x128 .f32) (x8 : Vec Ideal S1x128 .f32) (x9 : Vec Ideal S256x128 .bf16) (g : Fin 4) (r l : Fin 128) : EReal :=
  kr x2 x4 x5 x6 x8 x9 (g.val / 2) (by omega) (ix2 r (dupLane (g.val % 2) l))

/-- The doubled value rows of a block. -/
def newV (x2 : Vec Ideal S128x512 .bf16) (g : Fin 4) (r l : Fin 128) : EReal :=
  kchunk x2 (2 + g.val / 2) (by omega) (ix2 r (dupLane (g.val % 2) l))

/-- The four tiles of new rows read back: rows from 128 on are the new rows, the rest what was there before. -/
theorem four_at {sig : RefSig} {κ : Kind} {sp : Space} (v : View sig κ sp S1x4x256x128 .bf16) (f) (i3 i2 i1 i0)
    (w3 w2 w1 w0 : Vec Ideal S1x1x128x128 .bf16) (L : List (View.Piece (Elt Ideal) S1x4x256x128 .bf16)) (W : Fin 4 → Fin 128 → Fin 128 → EReal)
    (h0 : ∀ r l, w0 (ix4 0 0 r l) = W 0 r l) (h1 : ∀ r l, w1 (ix4 0 0 r l) = W 1 r l) (h2 : ∀ r l, w2 (ix4 0 0 r l) = W 2 r l) (h3 : ∀ r l, w3 (ix4 0 0 r l) = W 3 r l)
    (g : Fin 4) (k : Fin 256) (l : Fin 128) :
    v.read (Elt Ideal) (v.writes (Elt Ideal) f
        (⟨Rect.unit (s := S1x4x256x128) ![0, 3, 128, 0] ![1, 1, 128, 128] i3, w3⟩ :: ⟨Rect.unit (s := S1x4x256x128) ![0, 2, 128, 0] ![1, 1, 128, 128] i2, w2⟩
          :: ⟨Rect.unit (s := S1x4x256x128) ![0, 1, 128, 0] ![1, 1, 128, 128] i1, w1⟩ :: ⟨Rect.unit (s := S1x4x256x128) ![0, 0, 128, 0] ![1, 1, 128, 128] i0, w0⟩ :: L)) (ix4 0 g k l)
      = if h : 128 ≤ k.val then W g ⟨k.val - 128, by omega⟩ l else v.read (Elt Ideal) (v.writes (Elt Ideal) f L) (ix4 0 g k l) := by
  by_cases h : 128 ≤ k.val
  · rw [dif_pos h]
    have hx (q : Nat) (hq : g.val = q) : ∀ a, ((ix4 (0 : Fin 1) g k l : S1x4x256x128.Idx) a).val = (![0, q, 128, 0] : Fin 4 → Nat) a + ((ix4 (0 : Fin 1) (0 : Fin 1) (⟨k.val - 128, by omega⟩ : Fin 128) l : S1x1x128x128.Idx) a).val := by
      intro a
      match a with
      | ⟨0, _⟩ => rfl
      | ⟨1, _⟩ => show g.val = q + 0; omega
      | ⟨2, _⟩ => show k.val = 128 + (k.val - 128); omega
      | ⟨3, _⟩ => show l.val = 0 + l.val; omega
    have hn (q : Nat) (hq : g.val < q ∨ q + 1 ≤ g.val) : ((ix4 (0 : Fin 1) g k l : S1x4x256x128.Idx) 1).val < (![0, q, 128, 0] : Fin 4 → Nat) 1 ∨ (![0, q, 128, 0] : Fin 4 → Nat) 1 + (![1, 1, 128, 128] : Fin 4 → Nat) 1 ≤ ((ix4 (0 : Fin 1) g k l : S1x4x256x128.Idx) 1).val := hq
    by_cases g3 : g.val = 3
    · rw [View.read_writes_cons_unit_of_mem v f i3 w3 _ _ (ix4 0 0 ⟨k.val - 128, by omega⟩ l) rfl (hx 3 g3), h3, show g = 3 from Fin.ext g3]
    rw [View.read_writes_cons_unit_of_not_mem v f i3 w3 _ _ rfl 1 (hn 3 (by omega))]
    by_cases g2 : g.val = 2
    · rw [View.read_writes_cons_unit_of_mem v f i2 w2 _ _ (ix4 0 0 ⟨k.val - 128, by omega⟩ l) rfl (hx 2 g2), h2, show g = 2 from Fin.ext g2]
    rw [View.read_writes_cons_unit_of_not_mem v f i2 w2 _ _ rfl 1 (hn 2 (by omega))]
    by_cases g1 : g.val = 1
    · rw [View.read_writes_cons_unit_of_mem v f i1 w1 _ _ (ix4 0 0 ⟨k.val - 128, by omega⟩ l) rfl (hx 1 g1), h1, show g = 1 from Fin.ext g1]
    rw [View.read_writes_cons_unit_of_not_mem v f i1 w1 _ _ rfl 1 (hn 1 (by omega))]
    have g0 : g.val = 0 := by omega
    rw [View.read_writes_cons_unit_of_mem v f i0 w0 _ _ (ix4 0 0 ⟨k.val - 128, by omega⟩ l) rfl (hx 0 g0), h0, show g = 0 from Fin.ext g0]
  · rw [dif_neg h]
    have hn (q : Nat) : ((ix4 (0 : Fin 1) g k l : S1x4x256x128.Idx) 2).val < (![0, q, 128, 0] : Fin 4 → Nat) 2 ∨ (![0, q, 128, 0] : Fin 4 → Nat) 2 + (![1, 1, 128, 128] : Fin 4 → Nat) 2 ≤ ((ix4 (0 : Fin 1) g k l : S1x4x256x128.Idx) 2).val :=
      Or.inl (by show k.val < 128; omega)
    rw [View.read_writes_cons_unit_of_not_mem v f i3 w3 _ _ rfl 2 (hn 3), View.read_writes_cons_unit_of_not_mem v f i2 w2 _ _ rfl 2 (hn 2),
      View.read_writes_cons_unit_of_not_mem v f i1 w1 _ _ rfl 2 (hn 1), View.read_writes_cons_unit_of_not_mem v f i0 w0 _ _ rfl 2 (hn 0)]

/-- The whole first half of the rows read back after one store into it. -/
theorem first_at {sig : RefSig} {κ : Kind} {sp : Space} (v : View sig κ sp S1x4x256x128 .bf16) (f) (i) (w : Vec Ideal S1x4x128x128 .bf16)
    (L : List (View.Piece (Elt Ideal) S1x4x256x128 .bf16)) (g : Fin 4) (k : Fin 256) (hk : k.val < 128) (l : Fin 128) :
    v.read (Elt Ideal) (v.writes (Elt Ideal) f (⟨Rect.unit (s := S1x4x256x128) ![0, 0, 0, 0] ![1, 4, 128, 128] i, w⟩ :: L)) (ix4 0 g k l)
      = w (ix4 0 g ⟨k.val, hk⟩ l) :=
  View.read_writes_cons_unit_of_mem v f i w _ _ (ix4 0 g ⟨k.val, hk⟩ l) rfl (by
    intro a
    match a with
    | ⟨0, _⟩ => rfl
    | ⟨1, _⟩ => show g.val = 0 + g.val; omega
    | ⟨2, _⟩ => show k.val = 0 + k.val; omega
    | ⟨3, _⟩ => show l.val = 0 + l.val; omega)

/-- The second half of the rows, read whole. -/
theorem ld_second (K : Vec Ideal S1x4x256x128 .bf16) (i) (g : Fin 4) (r l : Fin 128) :
    View.ld K (Rect.unit (s := S1x4x256x128) ![0, 0, 128, 0] ![1, 4, 128, 128] i) (ix4 0 g r l) = K (ix4 0 g ⟨128 + r.val, by omega⟩ l) := by
  show K _ = K _
  congr 1
  funext a
  refine Fin.ext ?_
  match a with
  | ⟨0, _⟩ => rfl
  | ⟨1, _⟩ => show 0 + 1 * g.val = g.val; omega
  | ⟨2, _⟩ => show 128 + 1 * r.val = 128 + r.val; omega
  | ⟨3, _⟩ => show 0 + 1 * l.val = l.val; omega

theorem pay122_at (v : Vec Ideal S1x4x128x128 .bf16) : k0_pay122 v = v := by
  funext y
  unfold k0_pay122
  exact congrFun (shapeCast_self v _) y

theorem pay1_at (v : Vec Ideal S1x4x128x128 .bf16) : k0_pay1 v = v := by
  funext y
  unfold k0_pay1
  exact congrFun (shapeCast_self v _) y

theorem pay30_at (y) : k0_pay30 (F := Ideal) y = 0 := by
  obtain ⟨a, b, c, d, rfl⟩ : ∃ (a : Fin 1) (b : Fin 4) (c d : Fin 128), y = ix4 a b c d := ⟨y 0, y 1, y 2, y 3, eq_ix4 (n0 := 1) (n1 := 4) (n2 := 128) (n3 := 128) y⟩
  unfold k0_pay30
  pointwise []

theorem pay31_at (y) : k0_pay31 (F := Ideal) y = 0 := by
  obtain ⟨a, b, c, d, rfl⟩ : ∃ (a : Fin 1) (b : Fin 4) (c d : Fin 128), y = ix4 a b c d := ⟨y 0, y 1, y 2, y 3, eq_ix4 (n0 := 1) (n1 := 4) (n2 := 128) (n3 := 128) y⟩
  unfold k0_pay31
  pointwise []

end Cert.Attn
end
-- ==== Proof.AttnCase.lean ====
/- What each case of the kernel stores, as functions of the blocks it reads. -/
module

public import proofs.«01_k».proof.Proof.AttnScratch

@[expose] public section

set_option maxRecDepth 16384
set_option maxHeartbeats 2000000

noncomputable section

namespace Cert.Attn

open Cert.KernelIdeal Cert.KernelIdeal.Gen Idealize.ShloMosaic Idealize.SL.Sem

/-- The rows before, then the new rows. -/
def kvec (prev new : Fin 4 → Fin 128 → Fin 128 → EReal) : Vec Ideal S1x4x256x128 .bf16 := fun y =>
  if h : 128 ≤ (y 2).val then new ⟨(y 1).val, (y 1).isLt⟩ ⟨(y 2).val - 128, by have : (y 2).val < 256 := (y 2).isLt; omega⟩ ⟨(y 3).val, (y 3).isLt⟩
  else prev ⟨(y 1).val, (y 1).isLt⟩ ⟨(y 2).val, by omega⟩ ⟨(y 3).val, (y 3).isLt⟩

/-- The four tiles of new rows over the rows before, as one array. -/
theorem kvec_read {sig : RefSig} {κ : Kind} {sp : Space} (v : View sig κ sp S1x4x256x128 .bf16) (f) (i3 i2 i1 i0)
    (w3 w2 w1 w0 : Vec Ideal S1x1x128x128 .bf16) (L : List (View.Piece (Elt Ideal) S1x4x256x128 .bf16)) (prev W : Fin 4 → Fin 128 → Fin 128 → EReal)
    (h0 : ∀ r l, w0 (ix4 0 0 r l) = W 0 r l) (h1 : ∀ r l, w1 (ix4 0 0 r l) = W 1 r l) (h2 : ∀ r l, w2 (ix4 0 0 r l) = W 2 r l) (h3 : ∀ r l, w3 (ix4 0 0 r l) = W 3 r l)
    (hr : ∀ (g : Fin 4) (k : Fin 256) (hk : k.val < 128) (l : Fin 128), v.read (Elt Ideal) (v.writes (Elt Ideal) f L) (ix4 0 g k l) = prev g ⟨k.val, hk⟩ l) :
    v.read (Elt Ideal) (v.writes (Elt Ideal) f
        (⟨Rect.unit (s := S1x4x256x128) ![0, 3, 128, 0] ![1, 1, 128, 128] i3, w3⟩ :: ⟨Rect.unit (s := S1x4x256x128) ![0, 2, 128, 0] ![1, 1, 128, 128] i2, w2⟩
          :: ⟨Rect.unit (s := S1x4x256x128) ![0, 1, 128, 0] ![1, 1, 128, 128] i1, w1⟩ :: ⟨Rect.unit (s := S1x4x256x128) ![0, 0, 128, 0] ![1, 1, 128, 128] i0, w0⟩ :: L))
      = kvec prev W := by
  funext y
  obtain ⟨a, g, k, l, rfl⟩ : ∃ (a : Fin 1) (b : Fin 4) (c : Fin 256) (d : Fin 128), y = ix4 a b c d := ⟨y 0, y 1, y 2, y 3, eq_ix4 (n0 := 1) (n1 := 4) (n2 := 256) (n3 := 128) y⟩
  obtain rfl : a = 0 := Subsingleton.elim _ _
  rw [four_at v f i3 i2 i1 i0 w3 w2 w1 w0 L W h0 h1 h2 h3 g k l]
  unfold kvec
  by_cases h : 128 ≤ k.val
  · rw [dif_pos h]
    dsimp only
    rw [dif_pos (show 128 ≤ ((ix4 (0 : Fin 1) g k l : S1x4x256x128.Idx) 2).val from h)]
    rfl
  · rw [dif_neg h, hr g k (by omega) l]
    dsimp only
    rw [dif_neg (show ¬ 128 ≤ ((ix4 (0 : Fin 1) g k l : S1x4x256x128.Idx) 2).val from h)]
    rfl

/-- What is read back after the second half of the rows is copied into the first. -/
theorem shift_at {sig sig' : RefSig} {κ κ' : Kind} {sp sp' : Space} (v : View sig κ sp S1x4x256x128 .bf16) (v' : View sig' κ' sp' S1x4x256x128 .bf16) (f f') (i j) (i3 i2 i1 i0)
    (w : Vec Ideal S1x4x128x128 .bf16)
    (w3 w2 w1 w0 : Vec Ideal S1x1x128x128 .bf16) (L L' : List (View.Piece (Elt Ideal) S1x4x256x128 .bf16)) (W : Fin 4 → Fin 128 → Fin 128 → EReal)
    (h0 : ∀ r l, w0 (ix4 0 0 r l) = W 0 r l) (h1 : ∀ r l, w1 (ix4 0 0 r l) = W 1 r l) (h2 : ∀ r l, w2 (ix4 0 0 r l) = W 2 r l) (h3 : ∀ r l, w3 (ix4 0 0 r l) = W 3 r l)
    (hw : w = View.ld (v'.read (Elt Ideal) (v'.writes (Elt Ideal) f'
        (⟨Rect.unit (s := S1x4x256x128) ![0, 3, 128, 0] ![1, 1, 128, 128] i3, w3⟩ :: ⟨Rect.unit (s := S1x4x256x128) ![0, 2, 128, 0] ![1, 1, 128, 128] i2, w2⟩
          :: ⟨Rect.unit (s := S1x4x256x128) ![0, 1, 128, 0] ![1, 1, 128, 128] i1, w1⟩ :: ⟨Rect.unit (s := S1x4x256x128) ![0, 0, 128, 0] ![1, 1, 128, 128] i0, w0⟩ :: L')))
        (Rect.unit (s := S1x4x256x128) ![0, 0, 128, 0] ![1, 4, 128, 128] j))
    (g : Fin 4) (k : Fin 256) (hk : k.val < 128) (l : Fin 128) :
    v.read (Elt Ideal) (v.writes (Elt Ideal) f (⟨Rect.unit (s := S1x4x256x128) ![0, 0, 0, 0] ![1, 4, 128, 128] i, w⟩ :: L)) (ix4 0 g k l) = W g ⟨k.val, hk⟩ l := by
  rw [first_at v f i w L g k hk l, hw, ld_second, four_at v' f' i3 i2 i1 i0 w3 w2 w1 w0 L' W h0 h1 h2 h3]
  exact (dif_pos (show 128 ≤ 128 + k.val by omega)).trans (congrArg (fun z => W g z l) (Fin.ext (by show 128 + k.val - 128 = k.val; omega)))

/-- Eight tiles side by side, read back. -/
theorem tiles_out {sig : RefSig} {κ : Kind} {sp : Space} (v : View sig κ sp S128x1024 .f32) i896 i768 i640 i512 i384 i256 i128 i0
    (w896 w768 w640 w512 w384 w256 w128 w0 : Vec Ideal S128x128 .f32) (G : Fin 128 → Fin 1024 → EReal)
    (h896 : ∀ (r l : Fin 128) (C : Fin 1024), C.val = 896 + l.val → w896 (ix2 r l) = G r C)
    (h768 : ∀ (r l : Fin 128) (C : Fin 1024), C.val = 768 + l.val → w768 (ix2 r l) = G r C)
    (h640 : ∀ (r l : Fin 128) (C : Fin 1024), C.val = 640 + l.val → w640 (ix2 r l) = G r C)
    (h512 : ∀ (r l : Fin 128) (C : Fin 1024), C.val = 512 + l.val → w512 (ix2 r l) = G r C)
    (h384 : ∀ (r l : Fin 128) (C : Fin 1024), C.val = 384 + l.val → w384 (ix2 r l) = G r C)
    (h256 : ∀ (r l : Fin 128) (C : Fin 1024), C.val = 256 + l.val → w256 (ix2 r l) = G r C)
    (h128 : ∀ (r l : Fin 128) (C : Fin 1024), C.val = 128 + l.val → w128 (ix2 r l) = G r C)
    (h0 : ∀ (r l : Fin 128) (C : Fin 1024), C.val = 0 + l.val → w0 (ix2 r l) = G r C) :
    v.read (Elt Ideal) (v.writes (Elt Ideal) v.junk
      [⟨Rect.unit (s := S128x1024) ![0, 896] ![128, 128] i896, w896⟩,
        ⟨Rect.unit (s := S128x1024) ![0, 768] ![128, 128] i768, w768⟩,
        ⟨Rect.unit (s := S128x1024) ![0, 640] ![128, 128] i640, w640⟩,
        ⟨Rect.unit (s := S128x1024) ![0, 512] ![128, 128] i512, w512⟩,
        ⟨Rect.unit (s := S128x1024) ![0, 384] ![128, 128] i384, w384⟩,
        ⟨Rect.unit (s := S128x1024) ![0, 256] ![128, 128] i256, w256⟩,
        ⟨Rect.unit (s := S128x1024) ![0, 128] ![128, 128] i128, w128⟩,
        ⟨Rect.unit (s := S128x1024) ![0, 0] ![128, 128] i0, w0⟩])
      = (fun y => G ⟨(y 0).val, (y 0).isLt⟩ ⟨(y 1).val, (y 1).isLt⟩ : Vec Ideal S128x1024 .f32) := by
  have key (j : Nat) (i) (w : Vec Ideal S128x128 .f32) (h : ∀ (r l : Fin 128) (C : Fin 1024), C.val = j + l.val → w (ix2 r l) = G r C) (x : S128x128.Idx) :
      w x = (fun y : S128x1024.Idx => G ⟨(y 0).val, (y 0).isLt⟩ ⟨(y 1).val, (y 1).isLt⟩) ((Rect.unit (s := S128x1024) ![0, j] ![128, 128] i).emb x) := by
    obtain ⟨r, l, rfl⟩ : ∃ (r l : Fin 128), x = ix2 r l := ⟨x 0, x 1, eq_ix2 (n0 := 128) (n1 := 128) x⟩
    refine (h r l _ ?_).trans (congrArg (fun z => G z _) (Fin.ext ?_))
    · show j + 1 * l.val = j + l.val
      omega
    · show r.val = 0 + 1 * r.val
      omega
  funext y
  rw [View.read_writes_junk_apply_eq_canon]
  refine View.canon_apply_of_pieces (Val := Elt Ideal) (S := S128x1024) (e := .f32) (fun y => G ⟨(y 0).val, (y 0).isLt⟩ ⟨(y 1).val, (y 1).isLt⟩) _ ?_ y (View.cover_of_tiledBy _ ![128, 128] (by sl_kernel_rfl) y)
  refine List.forall_mem_cons.2 ⟨key 896 i896 w896 h896, ?_⟩
  refine List.forall_mem_cons.2 ⟨key 768 i768 w768 h768, ?_⟩
  refine List.forall_mem_cons.2 ⟨key 640 i640 w640 h640, ?_⟩
  refine List.forall_mem_cons.2 ⟨key 512 i512 w512 h512, ?_⟩
  refine List.forall_mem_cons.2 ⟨key 384 i384 w384 h384, ?_⟩
  refine List.forall_mem_cons.2 ⟨key 256 i256 w256 h256, ?_⟩
  refine List.forall_mem_cons.2 ⟨key 128 i128 w128 h128, ?_⟩
  refine List.forall_mem_cons.2 ⟨key 0 i0 w0 h0, ?_⟩
  exact fun _ h => absurd h List.not_mem_nil

/-- The gated output of a block. -/
def outv (x0 : Vec Ideal S16 .f32) (x1 x3 : Vec Ideal S128x1024 .bf16) (x4 x5 x6 : Vec Ideal S128x128 .f32) (x7 : Vec Ideal S1x128 .f32) (x9 : Vec Ideal S256x128 .bf16) (VAL : IVec S128x256 1) (KD VD : Vec Ideal S1x4x256x128 .bf16) : FVec Ideal S128x1024 .bf16 :=
  k0_pay119 (F := Ideal) (fun y => oscr x0 x1 x4 x5 x6 x7 x9 VAL KD VD ⟨(y 0).val, (y 0).isLt⟩ ⟨(y 1).val, (y 1).isLt⟩) x3

/-- Which keys a row of the block may see. -/
def okmask (i : grid0.Coords) : IVec S128x256 1 :=
  k0_pay33 (BitVec.ofNat 32 (i 1).val) (iota Kind.tc S128x256 32 [1] iota_S128x256_d1_w32) k0_pay32

theorem zeros2 : (![0, 0] : Fin 2 → Nat) = fun _ => 0 := by funext a; fin_cases a <;> rfl

theorem ld_256x128 {e : EltTy} (X : Vec Ideal S256x128 e) (inb) : View.ld X (Rect.unit (s := S256x128) ![0, 0] ![256, 128] inb) = X := View.ld_unit_zero (S := S256x128) zeros2 inb X

theorem ld_128x128 {e : EltTy} (X : Vec Ideal S128x128 e) (inb) : View.ld X (Rect.unit (s := S128x128) ![0, 0] ![128, 128] inb) = X := View.ld_unit_zero (S := S128x128) zeros2 inb X

theorem ld_128x512 {e : EltTy} (X : Vec Ideal S128x512 e) (inb) : View.ld X (Rect.unit (s := S128x512) ![0, 0] ![128, 512] inb) = X := View.ld_unit_zero (S := S128x512) zeros2 inb X

theorem ld_128x1024 {e : EltTy} (X : Vec Ideal S128x1024 e) (inb) : View.ld X (Rect.unit (s := S128x1024) ![0, 0] ![128, 1024] inb) = X := View.ld_unit_zero (S := S128x1024) zeros2 inb X

theorem ld_1x128 {e : EltTy} (X : Vec Ideal S1x128 e) (inb) : View.ld X (Rect.unit (s := S1x128) ![0, 0] ![1, 128] inb) = X := View.ld_unit_zero (S := S1x128) zeros2 inb X

theorem rest0 {sig : RefSig} {κ : Kind} {sp : Space} (v : View sig κ sp S1x4x256x128 .bf16) (f) (xs : Vec Ideal S1x4x256x128 .bf16) (h : v.read (Elt Ideal) f = xs) (g : Fin 4) (k : Fin 256) (hk : k.val < 128) (l : Fin 128) :
    v.read (Elt Ideal) (v.writes (Elt Ideal) f []) (ix4 0 g k l) = xs (ix4 0 g ⟨(⟨k.val, hk⟩ : Fin 128).val, k.isLt⟩ l) := congrFun h _

theorem zeros3 : (![0, 0, 0] : Fin 3 → Nat) = fun _ => 0 := by funext a; fin_cases a <;> rfl

theorem pay120_at (a b : FVec Ideal S128x128 .f32) (f : (q : Nat) → q < 2 → FVec Ideal S128x128 .f32) (ha : a = f 0 (by omega)) (hb : b = f 1 (by omega)) (r : Fin 128) (l : Fin 256) :
    k0_pay120 a b (ix3 0 r l) = f (l.val / 128) (by omega) (ix2 r (⟨l.val % 128, by omega⟩ : Fin 128)) := by
  subst ha hb
  have key : ∀ (q : Nat) (hq : q < 2) (m : Fin 128), l.val = 128 * q + m.val → f q hq (ix2 r m) = f (l.val / 128) (by omega) (ix2 r (⟨l.val % 128, by omega⟩ : Fin 128)) := by
    intro q hq m h
    obtain rfl : q = l.val / 128 := by omega
    exact congrArg (fun z => f _ _ (ix2 r z)) (Fin.ext (by show m.val = l.val % 128; omega))
  unfold k0_pay120
  pointwise []
  split
  · exact key 0 (by omega) _ (by dsimp only; omega)
  · exact key 1 (by omega) _ (by dsimp only; omega)

theorem pay121_at (a b : FVec Ideal S128x128 .f32) (f : (q : Nat) → q < 2 → FVec Ideal S128x128 .f32) (ha : a = f 0 (by omega)) (hb : b = f 1 (by omega)) (r : Fin 128) (l : Fin 256) :
    k0_pay121 a b (ix3 0 r l) = f (l.val / 128) (by omega) (ix2 r (⟨l.val % 128, by omega⟩ : Fin 128)) := by
  subst ha hb
  have key : ∀ (q : Nat) (hq : q < 2) (m : Fin 128), l.val = 128 * q + m.val → f q hq (ix2 r m) = f (l.val / 128) (by omega) (ix2 r (⟨l.val % 128, by omega⟩ : Fin 128)) := by
    intro q hq m h
    obtain rfl : q = l.val / 128 := by omega
    exact congrArg (fun z => f _ _ (ix2 r z)) (Fin.ext (by show m.val = l.val % 128; omega))
  unfold k0_pay121
  pointwise []
  split
  · exact key 0 (by omega) _ (by dsimp only; omega)
  · exact key 1 (by omega) _ (by dsimp only; omega)

/-- What case A leaves of the keys in the first half of the rows: the new rows. -/
theorem sout_A_0 (c : Dev nD) (i : grid0.Coords) (arg2 : Memref sig .tc .smem S16 .f32) (harg2 : arg2.IsWhole) (arg3 : Memref sig .tc .vmem S128x1024 .bf16) (harg3 : arg3.IsWhole) (arg4 : Memref sig .tc .vmem S128x512 .bf16) (harg4 : arg4.IsWhole) (arg5 : Memref sig .tc .vmem S128x1024 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .bf16) (harg11 : arg11.IsWhole) (arg12 : Memref sig .tc .vmem S128x1024 .bf16) (harg12 : arg12.IsWhole) (arg13 : Memref sig .tc .vmem S1x128x256 .f32) (harg13 : arg13.IsWhole) (arg14 : Memref sig .tc .vmem S1x128x256 .f32) (harg14 : arg14.IsWhole) (arg15 : Memref sig .tc .vmem S1x4x256x128 .bf16) (harg15 : arg15.IsWhole) (arg16 : Memref sig .tc .vmem S1x4x256x128 .bf16) (harg16 : arg16.IsWhole) (arg17 : Memref sig .tc .vmem S128x1024 .f32) (harg17 : arg17.IsWhole) (hc0 : cond0_0 i) (hc1 : ¬cond0_1 i)
    (x0 : Vec Ideal S16 .f32) (x1 : Vec Ideal S128x1024 .bf16) (x2 : Vec Ideal S128x512 .bf16) (x3 : Vec Ideal S128x1024 .bf16) (x4 : Vec Ideal S128x128 .f32) (x5 : Vec Ideal S128x128 .f32) (x6 : Vec Ideal S128x128 .f32) (x7 : Vec Ideal S1x128 .f32) (x8 : Vec Ideal S1x128 .f32) (x9 : Vec Ideal S256x128 .bf16) (g : Fin 4) (k : Fin 256) (hk : k.val < 128) (l : Fin 128) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 (ix4 0 g k l) = newK x2 x4 x5 x6 x8 x9 g ⟨k.val, hk⟩ l := by
  unfold sout0_A_0 kernelRun0_A
  dsimp only
  sl_unfold_words
  simp only [View.readCov, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, ld_256x128, ld_128x128, ld_128x512, ld_128x1024, ld_1x128, pay8_eq, pay9_eq, pay12_eq, pay13_eq]
  exact shift_at _ _ _ _ _ _ _ _ _ _ _ _ _ _ _ _ _ _ (dup34 _) (dup36 _) (dup39 _) (dup41 _) (pay122_at _) g k hk l

/-- What case B leaves of the keys in the first half of the rows: the new rows. -/
theorem sout_B_0 (c : Dev nD) (i : grid0.Coords) (arg2 : Memref sig .tc .smem S16 .f32) (harg2 : arg2.IsWhole) (arg3 : Memref sig .tc .vmem S128x1024 .bf16) (harg3 : arg3.IsWhole) (arg4 : Memref sig .tc .vmem S128x512 .bf16) (harg4 : arg4.IsWhole) (arg5 : Memref sig .tc .vmem S128x1024 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .bf16) (harg11 : arg11.IsWhole) (arg12 : Memref sig .tc .vmem S128x1024 .bf16) (harg12 : arg12.IsWhole) (arg13 : Memref sig .tc .vmem S1x128x256 .f32) (harg13 : arg13.IsWhole) (arg14 : Memref sig .tc .vmem S1x128x256 .f32) (harg14 : arg14.IsWhole) (arg15 : Memref sig .tc .vmem S1x4x256x128 .bf16) (harg15 : arg15.IsWhole) (arg16 : Memref sig .tc .vmem S1x4x256x128 .bf16) (harg16 : arg16.IsWhole) (arg17 : Memref sig .tc .vmem S128x1024 .f32) (harg17 : arg17.IsWhole) (hc0 : ¬cond0_0 i) (hc1 : ¬cond0_1 i)
    (x0 : Vec Ideal S16 .f32) (x1 : Vec Ideal S128x1024 .bf16) (x2 : Vec Ideal S128x512 .bf16) (x3 : Vec Ideal S128x1024 .bf16) (x4 : Vec Ideal S128x128 .f32) (x5 : Vec Ideal S128x128 .f32) (x6 : Vec Ideal S128x128 .f32) (x7 : Vec Ideal S1x128 .f32) (x8 : Vec Ideal S1x128 .f32) (x9 : Vec Ideal S256x128 .bf16) (xs0 : Vec Ideal S1x4x256x128 .bf16) (xs1 : Vec Ideal S1x4x256x128 .bf16) (g : Fin 4) (k : Fin 256) (hk : k.val < 128) (l : Fin 128) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 (ix4 0 g k l) = newK x2 x4 x5 x6 x8 x9 g ⟨k.val, hk⟩ l := by
  unfold sout0_B_0 kernelRun0_B
  dsimp only
  sl_unfold_words
  simp only [View.readCov, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, ld_256x128, ld_128x128, ld_128x512, ld_128x1024, ld_1x128, pay8_eq, pay9_eq, pay12_eq, pay13_eq]
  exact shift_at _ _ _ _ _ _ _ _ _ _ _ _ _ _ _ _ _ _ (dup34 _) (dup36 _) (dup39 _) (dup41 _) (pay122_at _) g k hk l

/-- What case A leaves of the values in the first half of the rows: the new rows. -/
theorem sout_A_1 (c : Dev nD) (i : grid0.Coords) (arg2 : Memref sig .tc .smem S16 .f32) (harg2 : arg2.IsWhole) (arg3 : Memref sig .tc .vmem S128x1024 .bf16) (harg3 : arg3.IsWhole) (arg4 : Memref sig .tc .vmem S128x512 .bf16) (harg4 : arg4.IsWhole) (arg5 : Memref sig .tc .vmem S128x1024 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .bf16) (harg11 : arg11.IsWhole) (arg12 : Memref sig .tc .vmem S128x1024 .bf16) (harg12 : arg12.IsWhole) (arg13 : Memref sig .tc .vmem S1x128x256 .f32) (harg13 : arg13.IsWhole) (arg14 : Memref sig .tc .vmem S1x128x256 .f32) (harg14 : arg14.IsWhole) (arg15 : Memref sig .tc .vmem S1x4x256x128 .bf16) (harg15 : arg15.IsWhole) (arg16 : Memref sig .tc .vmem S1x4x256x128 .bf16) (harg16 : arg16.IsWhole) (arg17 : Memref sig .tc .vmem S128x1024 .f32) (harg17 : arg17.IsWhole) (hc0 : cond0_0 i) (hc1 : ¬cond0_1 i)
    (x0 : Vec Ideal S16 .f32) (x1 : Vec Ideal S128x1024 .bf16) (x2 : Vec Ideal S128x512 .bf16) (x3 : Vec Ideal S128x1024 .bf16) (x4 : Vec Ideal S128x128 .f32) (x5 : Vec Ideal S128x128 .f32) (x6 : Vec Ideal S128x128 .f32) (x7 : Vec Ideal S1x128 .f32) (x8 : Vec Ideal S1x128 .f32) (x9 : Vec Ideal S256x128 .bf16) (g : Fin 4) (k : Fin 256) (hk : k.val < 128) (l : Fin 128) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 (ix4 0 g k l) = newV x2 g ⟨k.val, hk⟩ l := by
  unfold sout0_A_1 kernelRun0_A
  dsimp only
  sl_unfold_words
  simp only [View.readCov, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, ld_256x128, ld_128x128, ld_128x512, ld_128x1024, ld_1x128, pay8_eq, pay9_eq, pay12_eq, pay13_eq]
  exact shift_at _ _ _ _ _ _ _ _ _ _ _ _ _ _ _ _ _ _ (dup35 _) (dup38 _) (dup40 _) (dup42 _) (pay1_at _) g k hk l

/-- What case B leaves of the values in the first half of the rows: the new rows. -/
theorem sout_B_1 (c : Dev nD) (i : grid0.Coords) (arg2 : Memref sig .tc .smem S16 .f32) (harg2 : arg2.IsWhole) (arg3 : Memref sig .tc .vmem S128x1024 .bf16) (harg3 : arg3.IsWhole) (arg4 : Memref sig .tc .vmem S128x512 .bf16) (harg4 : arg4.IsWhole) (arg5 : Memref sig .tc .vmem S128x1024 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .bf16) (harg11 : arg11.IsWhole) (arg12 : Memref sig .tc .vmem S128x1024 .bf16) (harg12 : arg12.IsWhole) (arg13 : Memref sig .tc .vmem S1x128x256 .f32) (harg13 : arg13.IsWhole) (arg14 : Memref sig .tc .vmem S1x128x256 .f32) (harg14 : arg14.IsWhole) (arg15 : Memref sig .tc .vmem S1x4x256x128 .bf16) (harg15 : arg15.IsWhole) (arg16 : Memref sig .tc .vmem S1x4x256x128 .bf16) (harg16 : arg16.IsWhole) (arg17 : Memref sig .tc .vmem S128x1024 .f32) (harg17 : arg17.IsWhole) (hc0 : ¬cond0_0 i) (hc1 : ¬cond0_1 i)
    (x0 : Vec Ideal S16 .f32) (x1 : Vec Ideal S128x1024 .bf16) (x2 : Vec Ideal S128x512 .bf16) (x3 : Vec Ideal S128x1024 .bf16) (x4 : Vec Ideal S128x128 .f32) (x5 : Vec Ideal S128x128 .f32) (x6 : Vec Ideal S128x128 .f32) (x7 : Vec Ideal S1x128 .f32) (x8 : Vec Ideal S1x128 .f32) (x9 : Vec Ideal S256x128 .bf16) (xs0 : Vec Ideal S1x4x256x128 .bf16) (xs1 : Vec Ideal S1x4x256x128 .bf16) (g : Fin 4) (k : Fin 256) (hk : k.val < 128) (l : Fin 128) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 (ix4 0 g k l) = newV x2 g ⟨k.val, hk⟩ l := by
  unfold sout0_B_1 kernelRun0_B
  dsimp only
  sl_unfold_words
  simp only [View.readCov, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, ld_256x128, ld_128x128, ld_128x512, ld_128x1024, ld_1x128, pay8_eq, pay9_eq, pay12_eq, pay13_eq]
  exact shift_at _ _ _ _ _ _ _ _ _ _ _ _ _ _ _ _ _ _ (dup35 _) (dup38 _) (dup40 _) (dup42 _) (pay1_at _) g k hk l

/-- What case C leaves of the keys in the first half of the rows: the new rows. -/
theorem sout_C_0 (c : Dev nD) (i : grid0.Coords) (arg2 : Memref sig .tc .smem S16 .f32) (harg2 : arg2.IsWhole) (arg3 : Memref sig .tc .vmem S128x1024 .bf16) (harg3 : arg3.IsWhole) (arg4 : Memref sig .tc .vmem S128x512 .bf16) (harg4 : arg4.IsWhole) (arg5 : Memref sig .tc .vmem S128x1024 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .bf16) (harg11 : arg11.IsWhole) (arg12 : Memref sig .tc .vmem S128x1024 .bf16) (harg12 : arg12.IsWhole) (arg13 : Memref sig .tc .vmem S1x128x256 .f32) (harg13 : arg13.IsWhole) (arg14 : Memref sig .tc .vmem S1x128x256 .f32) (harg14 : arg14.IsWhole) (arg15 : Memref sig .tc .vmem S1x4x256x128 .bf16) (harg15 : arg15.IsWhole) (arg16 : Memref sig .tc .vmem S1x4x256x128 .bf16) (harg16 : arg16.IsWhole) (arg17 : Memref sig .tc .vmem S128x1024 .f32) (harg17 : arg17.IsWhole) (hc0 : ¬cond0_0 i) (hc1 : cond0_1 i)
    (x0 : Vec Ideal S16 .f32) (x1 : Vec Ideal S128x1024 .bf16) (x2 : Vec Ideal S128x512 .bf16) (x3 : Vec Ideal S128x1024 .bf16) (x4 : Vec Ideal S128x128 .f32) (x5 : Vec Ideal S128x128 .f32) (x6 : Vec Ideal S128x128 .f32) (x7 : Vec Ideal S1x128 .f32) (x8 : Vec Ideal S1x128 .f32) (x9 : Vec Ideal S256x128 .bf16) (xs0 : Vec Ideal S1x4x256x128 .bf16) (xs1 : Vec Ideal S1x4x256x128 .bf16) (g : Fin 4) (k : Fin 256) (hk : k.val < 128) (l : Fin 128) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 (ix4 0 g k l) = newK x2 x4 x5 x6 x8 x9 g ⟨k.val, hk⟩ l := by
  unfold sout0_C_0 kernelRun0_C
  dsimp only
  sl_unfold_words
  simp only [View.readCov, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, ld_256x128, ld_128x128, ld_128x512, ld_128x1024, ld_1x128, pay8_eq, pay9_eq, pay12_eq, pay13_eq]
  exact shift_at _ _ _ _ _ _ _ _ _ _ _ _ _ _ _ _ _ _ (dup34 _) (dup36 _) (dup39 _) (dup41 _) (pay122_at _) g k hk l

/-- What case C leaves of the values in the first half of the rows: the new rows. -/
theorem sout_C_1 (c : Dev nD) (i : grid0.Coords) (arg2 : Memref sig .tc .smem S16 .f32) (harg2 : arg2.IsWhole) (arg3 : Memref sig .tc .vmem S128x1024 .bf16) (harg3 : arg3.IsWhole) (arg4 : Memref sig .tc .vmem S128x512 .bf16) (harg4 : arg4.IsWhole) (arg5 : Memref sig .tc .vmem S128x1024 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .bf16) (harg11 : arg11.IsWhole) (arg12 : Memref sig .tc .vmem S128x1024 .bf16) (harg12 : arg12.IsWhole) (arg13 : Memref sig .tc .vmem S1x128x256 .f32) (harg13 : arg13.IsWhole) (arg14 : Memref sig .tc .vmem S1x128x256 .f32) (harg14 : arg14.IsWhole) (arg15 : Memref sig .tc .vmem S1x4x256x128 .bf16) (harg15 : arg15.IsWhole) (arg16 : Memref sig .tc .vmem S1x4x256x128 .bf16) (harg16 : arg16.IsWhole) (arg17 : Memref sig .tc .vmem S128x1024 .f32) (harg17 : arg17.IsWhole) (hc0 : ¬cond0_0 i) (hc1 : cond0_1 i)
    (x0 : Vec Ideal S16 .f32) (x1 : Vec Ideal S128x1024 .bf16) (x2 : Vec Ideal S128x512 .bf16) (x3 : Vec Ideal S128x1024 .bf16) (x4 : Vec Ideal S128x128 .f32) (x5 : Vec Ideal S128x128 .f32) (x6 : Vec Ideal S128x128 .f32) (x7 : Vec Ideal S1x128 .f32) (x8 : Vec Ideal S1x128 .f32) (x9 : Vec Ideal S256x128 .bf16) (xs0 : Vec Ideal S1x4x256x128 .bf16) (xs1 : Vec Ideal S1x4x256x128 .bf16) (g : Fin 4) (k : Fin 256) (hk : k.val < 128) (l : Fin 128) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 (ix4 0 g k l) = newV x2 g ⟨k.val, hk⟩ l := by
  unfold sout0_C_1 kernelRun0_C
  dsimp only
  sl_unfold_words
  simp only [View.readCov, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, ld_256x128, ld_128x128, ld_128x512, ld_128x1024, ld_1x128, pay8_eq, pay9_eq, pay12_eq, pay13_eq]
  exact shift_at _ _ _ _ _ _ _ _ _ _ _ _ _ _ _ _ _ _ (dup35 _) (dup38 _) (dup40 _) (dup42 _) (pay1_at _) g k hk l

/-- What case B stores as the attention's output: at a first block no row before, else the rows the point before left. -/
theorem out_B (c : Dev nD) (i : grid0.Coords) (arg2 : Memref sig .tc .smem S16 .f32) (harg2 : arg2.IsWhole) (arg3 : Memref sig .tc .vmem S128x1024 .bf16) (harg3 : arg3.IsWhole) (arg4 : Memref sig .tc .vmem S128x512 .bf16) (harg4 : arg4.IsWhole) (arg5 : Memref sig .tc .vmem S128x1024 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .bf16) (harg11 : arg11.IsWhole) (arg12 : Memref sig .tc .vmem S128x1024 .bf16) (harg12 : arg12.IsWhole) (arg13 : Memref sig .tc .vmem S1x128x256 .f32) (harg13 : arg13.IsWhole) (arg14 : Memref sig .tc .vmem S1x128x256 .f32) (harg14 : arg14.IsWhole) (arg15 : Memref sig .tc .vmem S1x4x256x128 .bf16) (harg15 : arg15.IsWhole) (arg16 : Memref sig .tc .vmem S1x4x256x128 .bf16) (harg16 : arg16.IsWhole) (arg17 : Memref sig .tc .vmem S128x1024 .f32) (harg17 : arg17.IsWhole) (hc0 : ¬cond0_0 i) (hc1 : ¬cond0_1 i)
    (x0 : Vec Ideal S16 .f32) (x1 : Vec Ideal S128x1024 .bf16) (x2 : Vec Ideal S128x512 .bf16) (x3 : Vec Ideal S128x1024 .bf16) (x4 : Vec Ideal S128x128 .f32) (x5 : Vec Ideal S128x128 .f32) (x6 : Vec Ideal S128x128 .f32) (x7 : Vec Ideal S1x128 .f32) (x8 : Vec Ideal S1x128 .f32) (x9 : Vec Ideal S256x128 .bf16) (xs0 : Vec Ideal S1x4x256x128 .bf16) (xs1 : Vec Ideal S1x4x256x128 .bf16) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 = outv x0 x1 x3 x4 x5 x6 x7 x9 (okmask i) (kvec (fun g k l => xs0 (ix4 0 g ⟨k.val, by omega⟩ l)) (newK x2 x4 x5 x6 x8 x9)) (kvec (fun g k l => xs1 (ix4 0 g ⟨k.val, by omega⟩ l)) (newV x2)) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1)]
  unfold kernelRun0_B
  dsimp only
  sl_unfold_words
  simp only [View.readCov, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, ld_256x128, ld_128x128, ld_128x512, ld_128x1024, ld_1x128, pay8_eq, pay9_eq, pay12_eq, pay13_eq]
  rw [View.canon_unit_zero (S := S128x1024) zeros2]
  rw [kvec_read arg15.view _ _ _ _ _ (k0_pay41 k0_pay6 (kr x2 x4 x5 x6 x8 x9 1 (by omega))) (k0_pay39 k0_pay6 (kr x2 x4 x5 x6 x8 x9 1 (by omega))) (k0_pay36 k0_pay6 (kr x2 x4 x5 x6 x8 x9 0 (by omega))) (k0_pay34 k0_pay6 (kr x2 x4 x5 x6 x8 x9 0 (by omega))) _ (fun g k l => xs0 (ix4 0 g ⟨k.val, by omega⟩ l)) (newK x2 x4 x5 x6 x8 x9) (dup34 _) (dup36 _) (dup39 _) (dup41 _) (rest0 _ _ xs0 (harg15.read_unread _))]
  rw [kvec_read arg16.view _ _ _ _ _ (k0_pay42 k0_pay6 (kchunk x2 3 (by omega))) (k0_pay40 k0_pay6 (kchunk x2 3 (by omega))) (k0_pay38 (k0_pay37 k0_pay6 (kchunk x2 2 (by omega)))) (k0_pay35 k0_pay6 (kchunk x2 2 (by omega))) _ (fun g k l => xs1 (ix4 0 g ⟨k.val, by omega⟩ l)) (newV x2) (dup35 _) (dup38 _) (dup40 _) (dup42 _) (rest0 _ _ xs1 (harg16.read_unread _))]
  unfold outv
  refine congrArg (fun z => k0_pay119 (F := Ideal) z x3) ?_
  refine tiles_out _ _ _ _ _ _ _ _ _ _ _ _ _ _ _ _ _ _ ?_ ?_ ?_ ?_ ?_ ?_ ?_ ?_
  · intro r l C hC
    refine (congrFun (tile896 x1 x4 x5 x6 x7 x9 _ _ _ _ _ _ _) (ix2 r l)).trans ?_
    exact tileHi x0 x1 x4 x5 x6 x7 x9 _ _ _ 3 768 896 12 13 14 15 (by omega) rfl rfl rfl rfl rfl rfl _ _ _ _ _ _ _ _ _ _ _ _ r l C hC
  · intro r l C hC
    refine (congrFun (tile768 x1 x4 x5 x6 x7 x9 _ _ _ _ _ _ _) (ix2 r l)).trans ?_
    exact tileLo x0 x1 x4 x5 x6 x7 x9 _ _ _ 3 768 896 12 13 14 15 (by omega) rfl rfl rfl rfl rfl rfl _ _ _ _ _ _ _ _ _ _ _ _ r l C hC
  · intro r l C hC
    refine (congrFun (tile640 x1 x4 x5 x6 x7 x9 _ _ _ _ _ _ _) (ix2 r l)).trans ?_
    exact tileHi x0 x1 x4 x5 x6 x7 x9 _ _ _ 2 512 640 8 9 10 11 (by omega) rfl rfl rfl rfl rfl rfl _ _ _ _ _ _ _ _ _ _ _ _ r l C hC
  · intro r l C hC
    refine (congrFun (tile512 x1 x4 x5 x6 x7 x9 _ _ _ _ _ _ _) (ix2 r l)).trans ?_
    exact tileLo x0 x1 x4 x5 x6 x7 x9 _ _ _ 2 512 640 8 9 10 11 (by omega) rfl rfl rfl rfl rfl rfl _ _ _ _ _ _ _ _ _ _ _ _ r l C hC
  · intro r l C hC
    refine (congrFun (tile384 x1 x4 x5 x6 x7 x9 _ _ _ _ _ _ _) (ix2 r l)).trans ?_
    exact tileHi x0 x1 x4 x5 x6 x7 x9 _ _ _ 1 256 384 4 5 6 7 (by omega) rfl rfl rfl rfl rfl rfl _ _ _ _ _ _ _ _ _ _ _ _ r l C hC
  · intro r l C hC
    refine (congrFun (tile256 x1 x4 x5 x6 x7 x9 _ _ _ _ _ _ _) (ix2 r l)).trans ?_
    exact tileLo x0 x1 x4 x5 x6 x7 x9 _ _ _ 1 256 384 4 5 6 7 (by omega) rfl rfl rfl rfl rfl rfl _ _ _ _ _ _ _ _ _ _ _ _ r l C hC
  · intro r l C hC
    refine (congrFun (tile128 x1 x4 x5 x6 x7 x9 _ _ _ _ _ _ _) (ix2 r l)).trans ?_
    exact tileHi x0 x1 x4 x5 x6 x7 x9 _ _ _ 0 0 128 0 1 2 3 (by omega) rfl rfl rfl rfl rfl rfl _ _ _ _ _ _ _ _ _ _ _ _ r l C hC
  · intro r l C hC
    refine (congrFun (tile0 x1 x4 x5 x6 x7 x9 _ _ _ _ _ _ _) (ix2 r l)).trans ?_
    exact tileLo x0 x1 x4 x5 x6 x7 x9 _ _ _ 0 0 128 0 1 2 3 (by omega) rfl rfl rfl rfl rfl rfl _ _ _ _ _ _ _ _ _ _ _ _ r l C hC

/-- What case C stores as the attention's output: at a first block no row before, else the rows the point before left. -/
theorem out_C (c : Dev nD) (i : grid0.Coords) (arg2 : Memref sig .tc .smem S16 .f32) (harg2 : arg2.IsWhole) (arg3 : Memref sig .tc .vmem S128x1024 .bf16) (harg3 : arg3.IsWhole) (arg4 : Memref sig .tc .vmem S128x512 .bf16) (harg4 : arg4.IsWhole) (arg5 : Memref sig .tc .vmem S128x1024 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .bf16) (harg11 : arg11.IsWhole) (arg12 : Memref sig .tc .vmem S128x1024 .bf16) (harg12 : arg12.IsWhole) (arg13 : Memref sig .tc .vmem S1x128x256 .f32) (harg13 : arg13.IsWhole) (arg14 : Memref sig .tc .vmem S1x128x256 .f32) (harg14 : arg14.IsWhole) (arg15 : Memref sig .tc .vmem S1x4x256x128 .bf16) (harg15 : arg15.IsWhole) (arg16 : Memref sig .tc .vmem S1x4x256x128 .bf16) (harg16 : arg16.IsWhole) (arg17 : Memref sig .tc .vmem S128x1024 .f32) (harg17 : arg17.IsWhole) (hc0 : ¬cond0_0 i) (hc1 : cond0_1 i)
    (x0 : Vec Ideal S16 .f32) (x1 : Vec Ideal S128x1024 .bf16) (x2 : Vec Ideal S128x512 .bf16) (x3 : Vec Ideal S128x1024 .bf16) (x4 : Vec Ideal S128x128 .f32) (x5 : Vec Ideal S128x128 .f32) (x6 : Vec Ideal S128x128 .f32) (x7 : Vec Ideal S1x128 .f32) (x8 : Vec Ideal S1x128 .f32) (x9 : Vec Ideal S256x128 .bf16) (xs0 : Vec Ideal S1x4x256x128 .bf16) (xs1 : Vec Ideal S1x4x256x128 .bf16) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 = outv x0 x1 x3 x4 x5 x6 x7 x9 (okmask i) (kvec (fun g k l => xs0 (ix4 0 g ⟨k.val, by omega⟩ l)) (newK x2 x4 x5 x6 x8 x9)) (kvec (fun g k l => xs1 (ix4 0 g ⟨k.val, by omega⟩ l)) (newV x2)) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1)]
  unfold kernelRun0_C
  dsimp only
  sl_unfold_words
  simp only [View.readCov, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, ld_256x128, ld_128x128, ld_128x512, ld_128x1024, ld_1x128, pay8_eq, pay9_eq, pay12_eq, pay13_eq]
  rw [View.canon_unit_zero (S := S128x1024) zeros2]
  rw [kvec_read arg15.view _ _ _ _ _ (k0_pay41 k0_pay6 (kr x2 x4 x5 x6 x8 x9 1 (by omega))) (k0_pay39 k0_pay6 (kr x2 x4 x5 x6 x8 x9 1 (by omega))) (k0_pay36 k0_pay6 (kr x2 x4 x5 x6 x8 x9 0 (by omega))) (k0_pay34 k0_pay6 (kr x2 x4 x5 x6 x8 x9 0 (by omega))) _ (fun g k l => xs0 (ix4 0 g ⟨k.val, by omega⟩ l)) (newK x2 x4 x5 x6 x8 x9) (dup34 _) (dup36 _) (dup39 _) (dup41 _) (rest0 _ _ xs0 (harg15.read_unread _))]
  rw [kvec_read arg16.view _ _ _ _ _ (k0_pay42 k0_pay6 (kchunk x2 3 (by omega))) (k0_pay40 k0_pay6 (kchunk x2 3 (by omega))) (k0_pay38 (k0_pay37 k0_pay6 (kchunk x2 2 (by omega)))) (k0_pay35 k0_pay6 (kchunk x2 2 (by omega))) _ (fun g k l => xs1 (ix4 0 g ⟨k.val, by omega⟩ l)) (newV x2) (dup35 _) (dup38 _) (dup40 _) (dup42 _) (rest0 _ _ xs1 (harg16.read_unread _))]
  unfold outv
  refine congrArg (fun z => k0_pay119 (F := Ideal) z x3) ?_
  refine tiles_out _ _ _ _ _ _ _ _ _ _ _ _ _ _ _ _ _ _ ?_ ?_ ?_ ?_ ?_ ?_ ?_ ?_
  · intro r l C hC
    refine (congrFun (tile896 x1 x4 x5 x6 x7 x9 _ _ _ _ _ _ _) (ix2 r l)).trans ?_
    exact tileHi x0 x1 x4 x5 x6 x7 x9 _ _ _ 3 768 896 12 13 14 15 (by omega) rfl rfl rfl rfl rfl rfl _ _ _ _ _ _ _ _ _ _ _ _ r l C hC
  · intro r l C hC
    refine (congrFun (tile768 x1 x4 x5 x6 x7 x9 _ _ _ _ _ _ _) (ix2 r l)).trans ?_
    exact tileLo x0 x1 x4 x5 x6 x7 x9 _ _ _ 3 768 896 12 13 14 15 (by omega) rfl rfl rfl rfl rfl rfl _ _ _ _ _ _ _ _ _ _ _ _ r l C hC
  · intro r l C hC
    refine (congrFun (tile640 x1 x4 x5 x6 x7 x9 _ _ _ _ _ _ _) (ix2 r l)).trans ?_
    exact tileHi x0 x1 x4 x5 x6 x7 x9 _ _ _ 2 512 640 8 9 10 11 (by omega) rfl rfl rfl rfl rfl rfl _ _ _ _ _ _ _ _ _ _ _ _ r l C hC
  · intro r l C hC
    refine (congrFun (tile512 x1 x4 x5 x6 x7 x9 _ _ _ _ _ _ _) (ix2 r l)).trans ?_
    exact tileLo x0 x1 x4 x5 x6 x7 x9 _ _ _ 2 512 640 8 9 10 11 (by omega) rfl rfl rfl rfl rfl rfl _ _ _ _ _ _ _ _ _ _ _ _ r l C hC
  · intro r l C hC
    refine (congrFun (tile384 x1 x4 x5 x6 x7 x9 _ _ _ _ _ _ _) (ix2 r l)).trans ?_
    exact tileHi x0 x1 x4 x5 x6 x7 x9 _ _ _ 1 256 384 4 5 6 7 (by omega) rfl rfl rfl rfl rfl rfl _ _ _ _ _ _ _ _ _ _ _ _ r l C hC
  · intro r l C hC
    refine (congrFun (tile256 x1 x4 x5 x6 x7 x9 _ _ _ _ _ _ _) (ix2 r l)).trans ?_
    exact tileLo x0 x1 x4 x5 x6 x7 x9 _ _ _ 1 256 384 4 5 6 7 (by omega) rfl rfl rfl rfl rfl rfl _ _ _ _ _ _ _ _ _ _ _ _ r l C hC
  · intro r l C hC
    refine (congrFun (tile128 x1 x4 x5 x6 x7 x9 _ _ _ _ _ _ _) (ix2 r l)).trans ?_
    exact tileHi x0 x1 x4 x5 x6 x7 x9 _ _ _ 0 0 128 0 1 2 3 (by omega) rfl rfl rfl rfl rfl rfl _ _ _ _ _ _ _ _ _ _ _ _ r l C hC
  · intro r l C hC
    refine (congrFun (tile0 x1 x4 x5 x6 x7 x9 _ _ _ _ _ _ _) (ix2 r l)).trans ?_
    exact tileLo x0 x1 x4 x5 x6 x7 x9 _ _ _ 0 0 128 0 1 2 3 (by omega) rfl rfl rfl rfl rfl rfl _ _ _ _ _ _ _ _ _ _ _ _ r l C hC

/-- What case A stores as the attention's output: at a first block no row before, else the rows the point before left. -/
theorem out_A (c : Dev nD) (i : grid0.Coords) (arg2 : Memref sig .tc .smem S16 .f32) (harg2 : arg2.IsWhole) (arg3 : Memref sig .tc .vmem S128x1024 .bf16) (harg3 : arg3.IsWhole) (arg4 : Memref sig .tc .vmem S128x512 .bf16) (harg4 : arg4.IsWhole) (arg5 : Memref sig .tc .vmem S128x1024 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .bf16) (harg11 : arg11.IsWhole) (arg12 : Memref sig .tc .vmem S128x1024 .bf16) (harg12 : arg12.IsWhole) (arg13 : Memref sig .tc .vmem S1x128x256 .f32) (harg13 : arg13.IsWhole) (arg14 : Memref sig .tc .vmem S1x128x256 .f32) (harg14 : arg14.IsWhole) (arg15 : Memref sig .tc .vmem S1x4x256x128 .bf16) (harg15 : arg15.IsWhole) (arg16 : Memref sig .tc .vmem S1x4x256x128 .bf16) (harg16 : arg16.IsWhole) (arg17 : Memref sig .tc .vmem S128x1024 .f32) (harg17 : arg17.IsWhole) (hc0 : cond0_0 i) (hc1 : ¬cond0_1 i)
    (x0 : Vec Ideal S16 .f32) (x1 : Vec Ideal S128x1024 .bf16) (x2 : Vec Ideal S128x512 .bf16) (x3 : Vec Ideal S128x1024 .bf16) (x4 : Vec Ideal S128x128 .f32) (x5 : Vec Ideal S128x128 .f32) (x6 : Vec Ideal S128x128 .f32) (x7 : Vec Ideal S1x128 .f32) (x8 : Vec Ideal S1x128 .f32) (x9 : Vec Ideal S256x128 .bf16) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = outv x0 x1 x3 x4 x5 x6 x7 x9 (okmask i) (kvec (fun _ _ _ => 0) (newK x2 x4 x5 x6 x8 x9)) (kvec (fun _ _ _ => 0) (newV x2)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9)]
  unfold kernelRun0_A
  dsimp only
  sl_unfold_words
  simp only [View.readCov, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, ld_256x128, ld_128x128, ld_128x512, ld_128x1024, ld_1x128, pay8_eq, pay9_eq, pay12_eq, pay13_eq]
  rw [View.canon_unit_zero (S := S128x1024) zeros2]
  rw [kvec_read arg15.view _ _ _ _ _ (k0_pay41 k0_pay6 (kr x2 x4 x5 x6 x8 x9 1 (by omega))) (k0_pay39 k0_pay6 (kr x2 x4 x5 x6 x8 x9 1 (by omega))) (k0_pay36 k0_pay6 (kr x2 x4 x5 x6 x8 x9 0 (by omega))) (k0_pay34 k0_pay6 (kr x2 x4 x5 x6 x8 x9 0 (by omega))) _ (fun _ _ _ => 0) (newK x2 x4 x5 x6 x8 x9) (dup34 _) (dup36 _) (dup39 _) (dup41 _) (fun g k hk l => (first_at _ _ _ _ _ g k hk l).trans (pay30_at _))]
  rw [kvec_read arg16.view _ _ _ _ _ (k0_pay42 k0_pay6 (kchunk x2 3 (by omega))) (k0_pay40 k0_pay6 (kchunk x2 3 (by omega))) (k0_pay38 (k0_pay37 k0_pay6 (kchunk x2 2 (by omega)))) (k0_pay35 k0_pay6 (kchunk x2 2 (by omega))) _ (fun _ _ _ => 0) (newV x2) (dup35 _) (dup38 _) (dup40 _) (dup42 _) (fun g k hk l => (first_at _ _ _ _ _ g k hk l).trans (pay31_at _))]
  unfold outv
  refine congrArg (fun z => k0_pay119 (F := Ideal) z x3) ?_
  refine tiles_out _ _ _ _ _ _ _ _ _ _ _ _ _ _ _ _ _ _ ?_ ?_ ?_ ?_ ?_ ?_ ?_ ?_
  · intro r l C hC
    refine (congrFun (tile896 x1 x4 x5 x6 x7 x9 _ _ _ _ _ _ _) (ix2 r l)).trans ?_
    exact tileHi x0 x1 x4 x5 x6 x7 x9 _ _ _ 3 768 896 12 13 14 15 (by omega) rfl rfl rfl rfl rfl rfl _ _ _ _ _ _ _ _ _ _ _ _ r l C hC
  · intro r l C hC
    refine (congrFun (tile768 x1 x4 x5 x6 x7 x9 _ _ _ _ _ _ _) (ix2 r l)).trans ?_
    exact tileLo x0 x1 x4 x5 x6 x7 x9 _ _ _ 3 768 896 12 13 14 15 (by omega) rfl rfl rfl rfl rfl rfl _ _ _ _ _ _ _ _ _ _ _ _ r l C hC
  · intro r l C hC
    refine (congrFun (tile640 x1 x4 x5 x6 x7 x9 _ _ _ _ _ _ _) (ix2 r l)).trans ?_
    exact tileHi x0 x1 x4 x5 x6 x7 x9 _ _ _ 2 512 640 8 9 10 11 (by omega) rfl rfl rfl rfl rfl rfl _ _ _ _ _ _ _ _ _ _ _ _ r l C hC
  · intro r l C hC
    refine (congrFun (tile512 x1 x4 x5 x6 x7 x9 _ _ _ _ _ _ _) (ix2 r l)).trans ?_
    exact tileLo x0 x1 x4 x5 x6 x7 x9 _ _ _ 2 512 640 8 9 10 11 (by omega) rfl rfl rfl rfl rfl rfl _ _ _ _ _ _ _ _ _ _ _ _ r l C hC
  · intro r l C hC
    refine (congrFun (tile384 x1 x4 x5 x6 x7 x9 _ _ _ _ _ _ _) (ix2 r l)).trans ?_
    exact tileHi x0 x1 x4 x5 x6 x7 x9 _ _ _ 1 256 384 4 5 6 7 (by omega) rfl rfl rfl rfl rfl rfl _ _ _ _ _ _ _ _ _ _ _ _ r l C hC
  · intro r l C hC
    refine (congrFun (tile256 x1 x4 x5 x6 x7 x9 _ _ _ _ _ _ _) (ix2 r l)).trans ?_
    exact tileLo x0 x1 x4 x5 x6 x7 x9 _ _ _ 1 256 384 4 5 6 7 (by omega) rfl rfl rfl rfl rfl rfl _ _ _ _ _ _ _ _ _ _ _ _ r l C hC
  · intro r l C hC
    refine (congrFun (tile128 x1 x4 x5 x6 x7 x9 _ _ _ _ _ _ _) (ix2 r l)).trans ?_
    exact tileHi x0 x1 x4 x5 x6 x7 x9 _ _ _ 0 0 128 0 1 2 3 (by omega) rfl rfl rfl rfl rfl rfl _ _ _ _ _ _ _ _ _ _ _ _ r l C hC
  · intro r l C hC
    refine (congrFun (tile0 x1 x4 x5 x6 x7 x9 _ _ _ _ _ _ _) (ix2 r l)).trans ?_
    exact tileLo x0 x1 x4 x5 x6 x7 x9 _ _ _ 0 0 128 0 1 2 3 (by omega) rfl rfl rfl rfl rfl rfl _ _ _ _ _ _ _ _ _ _ _ _ r l C hC

/-- The last block's key rows, stored as a result. -/
theorem out_C_11 (c : Dev nD) (i : grid0.Coords) (arg2 : Memref sig .tc .smem S16 .f32) (harg2 : arg2.IsWhole) (arg3 : Memref sig .tc .vmem S128x1024 .bf16) (harg3 : arg3.IsWhole) (arg4 : Memref sig .tc .vmem S128x512 .bf16) (harg4 : arg4.IsWhole) (arg5 : Memref sig .tc .vmem S128x1024 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .bf16) (harg11 : arg11.IsWhole) (arg12 : Memref sig .tc .vmem S128x1024 .bf16) (harg12 : arg12.IsWhole) (arg13 : Memref sig .tc .vmem S1x128x256 .f32) (harg13 : arg13.IsWhole) (arg14 : Memref sig .tc .vmem S1x128x256 .f32) (harg14 : arg14.IsWhole) (arg15 : Memref sig .tc .vmem S1x4x256x128 .bf16) (harg15 : arg15.IsWhole) (arg16 : Memref sig .tc .vmem S1x4x256x128 .bf16) (harg16 : arg16.IsWhole) (arg17 : Memref sig .tc .vmem S128x1024 .f32) (harg17 : arg17.IsWhole) (hc0 : ¬cond0_0 i) (hc1 : cond0_1 i)
    (x0 : Vec Ideal S16 .f32) (x1 : Vec Ideal S128x1024 .bf16) (x2 : Vec Ideal S128x512 .bf16) (x3 : Vec Ideal S128x1024 .bf16) (x4 : Vec Ideal S128x128 .f32) (x5 : Vec Ideal S128x128 .f32) (x6 : Vec Ideal S128x128 .f32) (x7 : Vec Ideal S1x128 .f32) (x8 : Vec Ideal S1x128 .f32) (x9 : Vec Ideal S256x128 .bf16) (xs0 : Vec Ideal S1x4x256x128 .bf16) (xs1 : Vec Ideal S1x4x256x128 .bf16) (r : Fin 128) (l : Fin 256) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 (ix3 0 r l) = kr x2 x4 x5 x6 x8 x9 (l.val / 128) (by omega) (ix2 r (⟨l.val % 128, by omega⟩ : Fin 128)) := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1)]
  unfold kernelRun0_C
  dsimp only
  sl_unfold_words
  simp only [View.readCov, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, ld_256x128, ld_128x128, ld_128x512, ld_128x1024, ld_1x128, pay8_eq, pay9_eq, pay12_eq, pay13_eq]
  rw [View.canon_unit_zero (S := S1x128x256) zeros3]
  exact pay120_at (kr x2 x4 x5 x6 x8 x9 0 (by omega)) (kr x2 x4 x5 x6 x8 x9 1 (by omega)) (fun q hq => kr x2 x4 x5 x6 x8 x9 q (by omega)) rfl rfl r l

/-- The last block's value rows, stored as a result. -/
theorem out_C_12 (c : Dev nD) (i : grid0.Coords) (arg2 : Memref sig .tc .smem S16 .f32) (harg2 : arg2.IsWhole) (arg3 : Memref sig .tc .vmem S128x1024 .bf16) (harg3 : arg3.IsWhole) (arg4 : Memref sig .tc .vmem S128x512 .bf16) (harg4 : arg4.IsWhole) (arg5 : Memref sig .tc .vmem S128x1024 .bf16) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .bf16) (harg11 : arg11.IsWhole) (arg12 : Memref sig .tc .vmem S128x1024 .bf16) (harg12 : arg12.IsWhole) (arg13 : Memref sig .tc .vmem S1x128x256 .f32) (harg13 : arg13.IsWhole) (arg14 : Memref sig .tc .vmem S1x128x256 .f32) (harg14 : arg14.IsWhole) (arg15 : Memref sig .tc .vmem S1x4x256x128 .bf16) (harg15 : arg15.IsWhole) (arg16 : Memref sig .tc .vmem S1x4x256x128 .bf16) (harg16 : arg16.IsWhole) (arg17 : Memref sig .tc .vmem S128x1024 .f32) (harg17 : arg17.IsWhole) (hc0 : ¬cond0_0 i) (hc1 : cond0_1 i)
    (x0 : Vec Ideal S16 .f32) (x1 : Vec Ideal S128x1024 .bf16) (x2 : Vec Ideal S128x512 .bf16) (x3 : Vec Ideal S128x1024 .bf16) (x4 : Vec Ideal S128x128 .f32) (x5 : Vec Ideal S128x128 .f32) (x6 : Vec Ideal S128x128 .f32) (x7 : Vec Ideal S1x128 .f32) (x8 : Vec Ideal S1x128 .f32) (x9 : Vec Ideal S256x128 .bf16) (xs0 : Vec Ideal S1x4x256x128 .bf16) (xs1 : Vec Ideal S1x4x256x128 .bf16) (r : Fin 128) (l : Fin 256) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1 (ix3 0 r l) = kchunk x2 (2 + l.val / 128) (by omega) (ix2 r (⟨l.val % 128, by omega⟩ : Fin 128)) := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 xs1)]
  unfold kernelRun0_C
  dsimp only
  sl_unfold_words
  simp only [View.readCov, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, ld_256x128, ld_128x128, ld_128x512, ld_128x1024, ld_1x128, pay8_eq, pay9_eq, pay12_eq, pay13_eq]
  rw [View.canon_unit_zero (S := S1x128x256) zeros3]
  exact pay121_at (kchunk x2 2 (by omega)) (kchunk x2 3 (by omega)) (fun q hq => kchunk x2 (2 + q) (by omega)) rfl rfl r l

end Cert.Attn
end
-- ==== Proof.AttnPoint.lean ====
/- What each point of the grid stores, case by case put together: no induction is needed, for what a point keeps for the
   next are its own new rows. -/
module

public import proofs.«01_k».proof.Proof.AttnCase
public import proofs.«01_k».proof.Proof.Gen.KernelIdeal.Value

@[expose] public section

set_option maxRecDepth 16384

noncomputable section

namespace Cert.Attn

open Cert.KernelIdeal Cert.KernelIdeal.Gen Cert.KernelIdeal.Value Idealize.ShloMosaic Idealize.SL.Sem

variable (m : (ℓ : Loc nD τ sig) → Buf (Elt Ideal) ℓ)

/-- The doubled key rows of the block of point `t`. -/
def nK (c : Dev nD) (t : Fin cfg0.N) : Fin 4 → Fin 128 → Fin 128 → EReal :=
  newK (iblk m c 2 t) (iblk m c 4 t) (iblk m c 5 t) (iblk m c 6 t) (iblk m c 8 t) (iblk m c 9 t)

/-- The doubled value rows of the block of point `t`. -/
def nV (c : Dev nD) (t : Fin cfg0.N) : Fin 4 → Fin 128 → Fin 128 → EReal := newV (iblk m c 2 t)

/-- The point before. -/
def prevPt (t : Fin cfg0.N) : Fin cfg0.N := ⟨t.val - 1, Nat.lt_of_le_of_lt (Nat.sub_le _ _) t.isLt⟩

/-- What a point keeps of the keys are its new rows. -/
theorem scratch0 (c : Dev nD) (t : Fin cfg0.N) (g : Fin 4) (k : Fin 256) (hk : k.val < 128) (l : Fin 128) :
    (outsAt0 m c t.val t.isLt).2.2.2.1 (ix4 0 g k l) = nK m c t g ⟨k.val, hk⟩ l := by
  by_cases h0 : t.val % 16 = 0
  · rw [outsAt0_A m c t h0 (by omega)]
    dsimp only
    exact sout_A_0 _ _ _ _ _ _ _ _ _ _ _ _ _ _ _ _ _ _ _ _ _ _ _ _ _ _ _ _ _ _ _ _ _ _ _ _ _ _ _ _ _ _ _ _ _ _ g k hk l
  · by_cases h1 : t.val % 16 = 15
    · rw [outsAt0_C m c t h0 h1]
      dsimp only
      exact sout_C_0 _ _ _ _ _ _ _ _ _ _ _ _ _ _ _ _ _ _ _ _ _ _ _ _ _ _ _ _ _ _ _ _ _ _ _ _ _ _ _ _ _ _ _ _ _ _ _ _ g k hk l
    · rw [outsAt0_B m c t h0 h1]
      dsimp only
      exact sout_B_0 _ _ _ _ _ _ _ _ _ _ _ _ _ _ _ _ _ _ _ _ _ _ _ _ _ _ _ _ _ _ _ _ _ _ _ _ _ _ _ _ _ _ _ _ _ _ _ _ g k hk l

/-- What a point keeps of the values are its new rows. -/
theorem scratch1 (c : Dev nD) (t : Fin cfg0.N) (g : Fin 4) (k : Fin 256) (hk : k.val < 128) (l : Fin 128) :
    (outsAt0 m c t.val t.isLt).2.2.2.2 (ix4 0 g k l) = nV m c t g ⟨k.val, hk⟩ l := by
  by_cases h0 : t.val % 16 = 0
  · rw [outsAt0_A m c t h0 (by omega)]
    dsimp only
    exact sout_A_1 _ _ _ _ _ _ _ _ _ _ _ _ _ _ _ _ _ _ _ _ _ _ _ _ _ _ _ _ _ _ _ _ _ _ _ _ _ _ _ _ _ _ _ _ _ _ g k hk l
  · by_cases h1 : t.val % 16 = 15
    · rw [outsAt0_C m c t h0 h1]
      dsimp only
      exact sout_C_1 _ _ _ _ _ _ _ _ _ _ _ _ _ _ _ _ _ _ _ _ _ _ _ _ _ _ _ _ _ _ _ _ _ _ _ _ _ _ _ _ _ _ _ _ _ _ _ _ g k hk l
    · rw [outsAt0_B m c t h0 h1]
      dsimp only
      exact sout_B_1 _ _ _ _ _ _ _ _ _ _ _ _ _ _ _ _ _ _ _ _ _ _ _ _ _ _ _ _ _ _ _ _ _ _ _ _ _ _ _ _ _ _ _ _ _ _ _ _ g k hk l

/-- The rows before the block of point `t`, doubled: none at a sequence's first block. -/
def pK (c : Dev nD) (t : Fin cfg0.N) : Fin 4 → Fin 128 → Fin 128 → EReal :=
  if t.val % 16 = 0 then fun _ _ _ => 0 else nK m c (prevPt t)

/-- The rows before the block of point `t`, doubled: none at a sequence's first block. -/
def pV (c : Dev nD) (t : Fin cfg0.N) : Fin 4 → Fin 128 → Fin 128 → EReal :=
  if t.val % 16 = 0 then fun _ _ _ => 0 else nV m c (prevPt t)

/-- The attention's output block at a point. -/
theorem oa_at (c : Dev nD) (t : Fin cfg0.N) :
    (outsAt0 m c t.val t.isLt).1 = outv (iblk m c 0 t) (X0_1 m c t) (X0_3 m c t) (iblk m c 4 t) (iblk m c 5 t) (iblk m c 6 t) (iblk m c 7 t) (iblk m c 9 t)
      (okmask (grid0.coords t)) (kvec (pK m c t) (nK m c t)) (kvec (pV m c t) (nV m c t)) := by
  by_cases h0 : t.val % 16 = 0
  · rw [outsAt0_A m c t h0 (by omega)]
    unfold pK pV
    rw [if_pos h0, if_pos h0]
    dsimp only
    exact out_A _ _ _ _ _ _ _ _ _ _ _ _ _ _ _ _ _ _ _ _ _ _ _ _ _ _ _ _ _ _ _ _ _ _ _ _ _ _ _ _ _ _ _ _ _ _
  · unfold pK pV
    rw [if_neg h0, if_neg h0]
    have e0 : (fun (g : Fin 4) (k l : Fin 128) => (outsAt0 m c (t.val - 1) (Nat.lt_of_le_of_lt (Nat.sub_le _ _) t.isLt)).2.2.2.1 (ix4 0 g ⟨k.val, by omega⟩ l)) = nK m c (prevPt t) :=
      funext fun g => funext fun k => funext fun l => scratch0 m c (prevPt t) g ⟨k.val, by omega⟩ k.isLt l
    have e1 : (fun (g : Fin 4) (k l : Fin 128) => (outsAt0 m c (t.val - 1) (Nat.lt_of_le_of_lt (Nat.sub_le _ _) t.isLt)).2.2.2.2 (ix4 0 g ⟨k.val, by omega⟩ l)) = nV m c (prevPt t) :=
      funext fun g => funext fun k => funext fun l => scratch1 m c (prevPt t) g ⟨k.val, by omega⟩ k.isLt l
    rw [← e0, ← e1]
    by_cases h1 : t.val % 16 = 15
    · rw [outsAt0_C m c t h0 h1]
      dsimp only
      exact out_C _ _ _ _ _ _ _ _ _ _ _ _ _ _ _ _ _ _ _ _ _ _ _ _ _ _ _ _ _ _ _ _ _ _ _ _ _ _ _ _ _ _ _ _ _ _ _ _
    · rw [outsAt0_B m c t h0 h1]
      dsimp only
      exact out_B _ _ _ _ _ _ _ _ _ _ _ _ _ _ _ _ _ _ _ _ _ _ _ _ _ _ _ _ _ _ _ _ _ _ _ _ _ _ _ _ _ _ _ _ _ _ _ _

/-- The key rows of the window, at a sequence's last block. -/
theorem kwin_at (c : Dev nD) (t : Fin cfg0.N) (h0 : ¬t.val % 16 = 0) (h1 : t.val % 16 = 15) (r : Fin 128) (l : Fin 256) :
    (outsAt0 m c t.val t.isLt).2.1 (ix3 0 r l)
      = kr (iblk m c 2 t) (iblk m c 4 t) (iblk m c 5 t) (iblk m c 6 t) (iblk m c 8 t) (iblk m c 9 t) (l.val / 128) (by omega) (ix2 r (⟨l.val % 128, by omega⟩ : Fin 128)) := by
  rw [outsAt0_C m c t h0 h1]
  dsimp only
  exact out_C_11 _ _ _ _ _ _ _ _ _ _ _ _ _ _ _ _ _ _ _ _ _ _ _ _ _ _ _ _ _ _ _ _ _ _ _ _ _ _ _ _ _ _ _ _ _ _ _ _  r l

/-- The value rows of the window, at a sequence's last block. -/
theorem vwin_at (c : Dev nD) (t : Fin cfg0.N) (h0 : ¬t.val % 16 = 0) (h1 : t.val % 16 = 15) (r : Fin 128) (l : Fin 256) :
    (outsAt0 m c t.val t.isLt).2.2.1 (ix3 0 r l) = kchunk (iblk m c 2 t) (2 + l.val / 128) (by omega) (ix2 r (⟨l.val % 128, by omega⟩ : Fin 128)) := by
  rw [outsAt0_C m c t h0 h1]
  dsimp only
  exact out_C_12 _ _ _ _ _ _ _ _ _ _ _ _ _ _ _ _ _ _ _ _ _ _ _ _ _ _ _ _ _ _ _ _ _ _ _ _ _ _ _ _ _ _ _ _ _ _ _ _  r l

end Cert.Attn
end
-- ==== Proof.AttnRef.lean ====
/- The reference's stages at an entry. -/
module

public import proofs.«01_k».proof.Proof.Gen.ReferenceIdeal.Read
public import proofs.«01_k».proof.Proof.AttnMath

@[expose] public section

set_option maxRecDepth 16384

noncomputable section

namespace Cert.Attn.Ref

open Cert.ReferenceIdeal Cert.ReferenceIdeal.Gen Cert.ReferenceIdeal.Read Idealize.ShloMosaic Idealize.SL.Sem

/-- A query head's row of the projected array. -/
def qrow (x0 : Vec Ideal S32768x9728 .bf16) (b : Fin 16) (l : Fin 2048) (h : Fin 16) (d : Fin 64) : EReal :=
  x0 (ix2 ⟨b.val * 2048 + l.val, by omega⟩ ⟨4096 + (h.val * 64 + d.val), by omega⟩)

/-- A key head's row of the projected array. -/
def krow (x0 : Vec Ideal S32768x9728 .bf16) (b : Fin 16) (l : Fin 2048) (g : Fin 4) (d : Fin 64) : EReal :=
  x0 (ix2 ⟨b.val * 2048 + l.val, by omega⟩ ⟨9216 + (g.val * 64 + d.val), by omega⟩)

/-- A norm's weight. -/
def wrow (w : Vec Ideal S1x64 .f32) (d : Fin 64) : EReal := w (ix2 0 d)

/-- The reference's table. -/
theorem cos39 (l : Fin 2048) (d : Fin 8) :
    val_main_v39 (F := Ideal) (ix2 l d) = Ideal.cos (ang l d) := by
  simp only [val_main_v39, val_main_v38, val_main_v37, val_main_v36, val_main_v35, val_main_v34, val_main_v33, val_main_v32, val_main_v31, val_main_cst_3, val_main_v30, val_main_v29, val_main_cst_2, val_main_v28, val_main_v27, val_main_v12]
  pointwise []
  rfl

/-- The reference's table. -/
theorem sin41 (l : Fin 2048) (d : Fin 8) :
    val_main_v41 (F := Ideal) (ix2 l d) = Ideal.sin (ang l d) := by
  simp only [val_main_v41, val_main_v38, val_main_v37, val_main_v36, val_main_v35, val_main_v34, val_main_v33, val_main_v32, val_main_v31, val_main_cst_3, val_main_v30, val_main_v29, val_main_cst_2, val_main_v28, val_main_v27, val_main_v12]
  pointwise []
  rfl

/-- The reference's table. -/
theorem cos83 (l : Fin 2048) (d : Fin 8) :
    val_main_v83 (F := Ideal) (ix2 l d) = Ideal.cos (ang l d) := by
  simp only [val_main_v83, val_main_v82, val_main_v81, val_main_v80, val_main_v79, val_main_v78, val_main_v77, val_main_v76, val_main_v75, val_main_cst_8, val_main_v74, val_main_v73, val_main_cst_7, val_main_v72, val_main_v71, val_main_v12]
  pointwise []
  rfl

/-- The reference's table. -/
theorem sin85 (l : Fin 2048) (d : Fin 8) :
    val_main_v85 (F := Ideal) (ix2 l d) = Ideal.sin (ang l d) := by
  simp only [val_main_v85, val_main_v82, val_main_v81, val_main_v80, val_main_v79, val_main_v78, val_main_v77, val_main_v76, val_main_v75, val_main_cst_8, val_main_v74, val_main_v73, val_main_cst_7, val_main_v72, val_main_v71, val_main_v12]
  pointwise []
  rfl

/-- The queries. -/
theorem raw2 (x0 : Vec Ideal S32768x9728 .bf16) (b : Fin 16) (l : Fin 2048) (h : Fin 16) (d : Fin 64) :
    val_main_v2 (F := Ideal) x0 (ix4 b l h d) = qrow x0 b l h d := by
  simp only [val_main_v2, val_main_v1, val_main_v0]
  pointwise []
  rfl

/-- The keys. -/
theorem raw8 (x0 : Vec Ideal S32768x9728 .bf16) (b : Fin 16) (l : Fin 2048) (g : Fin 4) (d : Fin 64) :
    val_main_v8 (F := Ideal) x0 (ix4 b l g d) = krow x0 b l g d := by
  simp only [val_main_v8, val_main_v7, val_main_v6]
  pointwise []
  rfl

/-- The values. -/
theorem raw11 (x0 : Vec Ideal S32768x9728 .bf16) (b : Fin 16) (l : Fin 2048) (g : Fin 4) (d : Fin 64) :
    val_main_v11 (F := Ideal) x0 (ix4 b l g d) = x0 (ix2 ⟨b.val * 2048 + l.val, by omega⟩ ⟨9472 + (g.val * 64 + d.val), by omega⟩) := by
  simp only [val_main_v11, val_main_v10, val_main_v9]
  pointwise []

/-- The queries over their norm. -/
theorem norm26 (x0 : Vec Ideal S32768x9728 .bf16) (x1 : Vec Ideal S1x64 .f32) (b : Fin 16) (l : Fin 2048) (h : Fin 16) (d : Fin 64) :
    val_main_v26 (F := Ideal) x0 x1 (ix4 b l h d) = nrm (qrow x0 b l h) (wrow x1) d := by
  simp only [val_main_v26, val_main_v25, val_main_v24, val_main_v23, val_main_v22, val_main_v21, val_main_v20, val_main_v19, val_main_cst_1, val_main_v18, val_main_v17, val_main_cst_0, val_main_v16, val_main_v15, val_main_cst, val_main_v14, val_main_v13]
  pointwise [zero_add]
  simp only [raw2]
  rfl

/-- The keys over their norm. -/
theorem norm70 (x0 : Vec Ideal S32768x9728 .bf16) (x2 : Vec Ideal S1x64 .f32) (b : Fin 16) (l : Fin 2048) (g : Fin 4) (d : Fin 64) :
    val_main_v70 (F := Ideal) x0 x2 (ix4 b l g d) = nrm (krow x0 b l g) (wrow x2) d := by
  simp only [val_main_v70, val_main_v69, val_main_v68, val_main_v67, val_main_v66, val_main_v65, val_main_v64, val_main_v63, val_main_cst_6, val_main_v62, val_main_v61, val_main_cst_5, val_main_v60, val_main_v59, val_main_cst_4, val_main_v58, val_main_v57]
  pointwise [zero_add]
  simp only [raw8]
  rfl

/-- The queries turned. -/
theorem rope56 (x0 : Vec Ideal S32768x9728 .bf16) (x1 : Vec Ideal S1x64 .f32) (b : Fin 16) (l : Fin 2048) (h : Fin 16) (d : Fin 64) :
    val_main_v56 (F := Ideal) x0 x1 (ix4 b l h d) = rope (nrm (qrow x0 b l h) (wrow x1)) l d := by
  simp only [val_main_v56, val_main_v55, val_main_v54, val_main_v53, val_main_v52, val_main_v51, val_main_v50, val_main_v49, val_main_v48, val_main_v47, val_main_v46, val_main_v45, val_main_v44, val_main_v43, val_main_v42, val_main_v40]
  pointwise []
  simp only [norm26, cos39, sin41]
  rfl

/-- The keys turned. -/
theorem rope100 (x0 : Vec Ideal S32768x9728 .bf16) (x2 : Vec Ideal S1x64 .f32) (b : Fin 16) (l : Fin 2048) (g : Fin 4) (d : Fin 64) :
    val_main_v100 (F := Ideal) x0 x2 (ix4 b l g d) = rope (nrm (krow x0 b l g) (wrow x2)) l d := by
  simp only [val_main_v100, val_main_v99, val_main_v98, val_main_v97, val_main_v96, val_main_v95, val_main_v94, val_main_v93, val_main_v92, val_main_v91, val_main_v90, val_main_v89, val_main_v88, val_main_v87, val_main_v86, val_main_v84]
  pointwise []
  simp only [norm70, cos83, sin85]
  rfl

end Cert.Attn.Ref
end
-- ==== Proof.AttnRefBand.lean ====
/- The reference's masked scores and its two bands at an entry. -/
module

public import proofs.«01_k».proof.Proof.AttnRef

@[expose] public section

set_option maxRecDepth 16384

noncomputable section

namespace Cert.Attn.Ref

open Cert.ReferenceIdeal Cert.ReferenceIdeal.Gen Cert.ReferenceIdeal.Read Idealize.ShloMosaic Idealize.SL.Sem

/-- Whether a key of the band may be looked at: not after the query's place, fewer than 128 places before it, and not before the sequence's start. -/
def okAt (n : Fin 16) (r : Fin 128) (y : Fin 256) : BitVec 1 :=
  IntOp.andi (IntOp.andi (IntOp.cmpi .sgt (BitVec.ofNat 32 y.val) (BitVec.ofNat 32 r.val)) (IntOp.cmpi .sle (BitVec.ofNat 32 y.val) (IntOp.addi (BitVec.ofNat 32 r.val) 128#32)))
    (IntOp.ori (IntOp.cmpi .sge (BitVec.ofNat 32 y.val) 128#32) (IntOp.cmpi .sgt (BitVec.ofNat 32 n.val) 0#32))

theorem shift_sub (a r y k : BitVec 32) : a + r - (a - k + y) = r + k - y := by
  grind

theorem sitofp_zero : FloatOps.sitofp (F := Ideal) FTy.f32 0#32 = (0 : EReal) := by
  show (((0#32 : BitVec 32).toInt : ℝ) : EReal) = 0
  simp

theorem near_eq : ∀ (r : Fin 128) (y : Fin 256),
    IntOp.andi (IntOp.cmpi .sge (BitVec.ofNat 32 r.val + 128#32 - BitVec.ofNat 32 y.val) 0#32) (IntOp.cmpi .slt (BitVec.ofNat 32 r.val + 128#32 - BitVec.ofNat 32 y.val) 128#32)
      = IntOp.andi (IntOp.cmpi .sgt (BitVec.ofNat 32 y.val) (BitVec.ofNat 32 r.val)) (IntOp.cmpi .sle (BitVec.ofNat 32 y.val) (IntOp.addi (BitVec.ofNat 32 r.val) 128#32)) := by
  decide +kernel

theorem inside_eq : ∀ (n : Fin 16) (y : Fin 256),
    IntOp.cmpi .sge (IntOp.addi (IntOp.subi (IntOp.muli (BitVec.ofNat 32 n.val) 128#32) 128#32) (BitVec.ofNat 32 y.val)) 0#32
      = IntOp.ori (IntOp.cmpi .sge (BitVec.ofNat 32 y.val) 128#32) (IntOp.cmpi .sgt (BitVec.ofNat 32 n.val) 0#32) := by
  decide +kernel

/-- The keys of a block and of the block before it. -/
theorem band137 (x0 : Vec Ideal S32768x9728 .bf16) (x2 : Vec Ideal S1x64 .f32) (b n : Fin 16) (y : Fin 256) (g : Fin 4) (d : Fin 64) :
    val_main_v137 (F := Ideal) x0 x2 (ix5 b n y g d) = if h : y.val < 128 then (if n.val = 0 then 0 else val_main_v100 (F := Ideal) x0 x2 (ix4 b ⟨(n.val - 1) * 128 + y.val, by omega⟩ g d))
      else val_main_v100 (F := Ideal) x0 x2 (ix4 b ⟨n.val * 128 + (y.val - 128), by omega⟩ g d) := by
  simp only [val_main_v137, val_main_v136, val_main_v135, val_main_call0_v0, val_main_c_13, val_main_v134]
  pointwise []
  by_cases hy : y.val < 128
  · rw [dif_pos hy, dif_pos hy]
    by_cases hn : n.val = 0
    · have hc : ¬ ((1 ≤ n.val ∧ n.val - 1 < 16) ∧ y.val < 128) := by omega
      simp only [hn, if_true]
      simp only [hn] at hc
      rw [dif_neg hc]
      exact sitofp_zero
    · have hc : (1 ≤ n.val ∧ n.val - 1 < 16) ∧ y.val < 128 := by omega
      simp only [hn, hc, if_false, and_self, dite_true]
  · rw [dif_neg hy, dif_neg hy]

/-- The values of a block and of the block before it. -/
theorem band141 (x0 : Vec Ideal S32768x9728 .bf16) (b n : Fin 16) (y : Fin 256) (g : Fin 4) (d : Fin 64) :
    val_main_v141 (F := Ideal) x0 (ix5 b n y g d) = if h : y.val < 128 then (if n.val = 0 then 0 else val_main_v11 (F := Ideal) x0 (ix4 b ⟨(n.val - 1) * 128 + y.val, by omega⟩ g d))
      else val_main_v11 (F := Ideal) x0 (ix4 b ⟨n.val * 128 + (y.val - 128), by omega⟩ g d) := by
  simp only [val_main_v141, val_main_v140, val_main_v139, val_main_call1_v0, val_main_c_14, val_main_v138]
  pointwise []
  by_cases hy : y.val < 128
  · rw [dif_pos hy, dif_pos hy]
    by_cases hn : n.val = 0
    · have hc : ¬ ((1 ≤ n.val ∧ n.val - 1 < 16) ∧ y.val < 128) := by omega
      simp only [hn, if_true]
      simp only [hn] at hc
      rw [dif_neg hc]
      exact sitofp_zero
    · have hc : (1 ≤ n.val ∧ n.val - 1 < 16) ∧ y.val < 128 := by omega
      simp only [hn, hc, if_false, and_self, dite_true]
  · rw [dif_neg hy, dif_neg hy]

/-- The mask. -/
theorem mask133 (n : Fin 16) (r : Fin 128) (y : Fin 256) :
    val_main_v133 (F := Ideal) (ix3 n r y) = okAt n r y := by
  simp only [val_main_v133, val_main_v132, val_main_v131, val_main_v130, val_main_c_12, val_main_v129, val_main_v128, val_main_v127, val_main_v126, val_main_c_11, val_main_v125, val_main_v124, val_main_c_10, val_main_v123, val_main_v122, val_main_v121, val_main_v120, val_main_v119, val_main_v118, val_main_v117, val_main_v116, val_main_v115, val_main_v114, val_main_v113, val_main_v112, val_main_c_9, val_main_v111, val_main_v110, val_main_v109, val_main_v108, val_main_v107, val_main_v106, val_main_v105, val_main_c, val_main_v104, val_main_v103]
  pointwise []
  have e : IntOp.subi (IntOp.addi (IntOp.muli (BitVec.ofNat 32 n.val) 128#32) (BitVec.ofNat 32 r.val))
      (IntOp.addi (IntOp.subi (IntOp.muli (BitVec.ofNat 32 n.val) 128#32) 128#32) (BitVec.ofNat 32 y.val))
      = BitVec.ofNat 32 r.val + 128#32 - BitVec.ofNat 32 y.val := by
    exact shift_sub _ _ _ _
  rw [e, near_eq, inside_eq]
  rfl

/-- The masked scores. -/
theorem score147 (x0 : Vec Ideal S32768x9728 .bf16) (x1 x2 : Vec Ideal S1x64 .f32) (b n : Fin 16) (g jj : Fin 4) (r : Fin 128) (y : Fin 256) :
    val_main_v147 (F := Ideal) x0 x1 x2 (ix6 b n g jj r y) = Scalar.select (val_main_v133 (F := Ideal) (ix3 n r y))
      ((∑ x : Fin 64, val_main_v137 (F := Ideal) x0 x2 (ix5 b n y g x) * val_main_v56 (F := Ideal) x0 x1 (ix4 b ⟨n.val * 128 + r.val, by omega⟩ ⟨g.val * 4 + jj.val, by omega⟩ x))
        * Ideal.ofBits .f32 1040187392#32) ⊥ := by
  simp only [val_main_v147, val_main_call2_v2, val_main_call2_v1, val_main_call2_v0, val_main_cst_16, val_main_v146, val_main_v145, val_main_v144, val_main_cst_15, val_main_v143, val_main_v142, val_main_v102]
  pointwise [dot_S16x16x256x4x64_S16x16x128x4x4x64_S16x16x4x256x128x4_4_5_2_24_013_013]
  exact congrArg _ bits_bot

end Cert.Attn.Ref
end
-- ==== Proof.AttnRefSoft.lean ====
/- The reference's weights and weighted values at an entry. -/
module

public import proofs.«01_k».proof.Proof.AttnRefBand

@[expose] public section

set_option maxRecDepth 16384

noncomputable section

namespace Cert.Attn.Ref

open Cert.ReferenceIdeal Cert.ReferenceIdeal.Gen Cert.ReferenceIdeal.Read Idealize.ShloMosaic Idealize.SL.Sem

/-- The whole array's indices that the reduction along its last axis sends to one place. -/
theorem fiber6 (b n : Fin 16) (g jj : Fin 4) (r : Fin 128) (i : S16x16x4x4x128x256.Idx) :
    reducesTo_S16x16x4x4x128x256_S16x16x4x4x128_d5.drop i = ix5 b n g jj r ↔ ∃ k : Fin 256, ix6 b n g jj r k = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

/-- A maximum along the last axis. -/
theorem max6 (v : FVec Ideal S16x16x4x4x128x256 .f32) (c : FVec Ideal S_ .f32) (b n : Fin 16) (g jj : Fin 4) (r : Fin 128) :
    Host.reduce FloatOps.maximumf v c reducesTo_S16x16x4x4x128x256_S16x16x4x4x128_d5 h_S_ (ix5 b n g jj r)
      = Finset.univ.fold max (c (Shape.Idx.first h_S_)) fun k : Fin 256 => v (ix6 b n g jj r k) := by
  rw [Host.reduce_eq_fold]
  exact Finset.fold_filter_eq_fold_of_fiber max _ (fun k : Fin 256 => ix6 b n g jj r k) (fun _ _ e => congrFun e 5) (fiber6 b n g jj r) _ v

/-- The masked scores of one query row. -/
def mrow (x0 : Vec Ideal S32768x9728 .bf16) (x1 x2 : Vec Ideal S1x64 .f32) (b n : Fin 16) (g jj : Fin 4) (r : Fin 128) (y : Fin 256) : EReal :=
  val_main_v147 (F := Ideal) x0 x1 x2 (ix6 b n g jj r y)

/-- A head's sink. -/
def sink (x3 : Vec Ideal S1x16 .f32) (g jj : Fin 4) : EReal := x3 (ix2 0 ⟨g.val * 4 + jj.val, by omega⟩)

theorem max150 (x0 : Vec Ideal S32768x9728 .bf16) (x1 x2 : Vec Ideal S1x64 .f32) (b n : Fin 16) (g jj : Fin 4) (r : Fin 128) :
    val_main_v150 (F := Ideal) x0 x1 x2 (ix5 b n g jj r) = Finset.univ.fold max (Ideal.ofBits .f32 4286578688#32) (mrow x0 x1 x2 b n g jj r) := by
  unfold val_main_v150
  rw [max6]
  rfl

theorem col151 (v : FVec Ideal S16x16x4x4x128 .f32) (b n : Fin 16) (g jj : Fin 4) (r : Fin 128) :
    broadcastInDim S16x16x4x4x128x1 ![0, 1, 2, 3, 4] bcast_S16x16x4x4x128_S16x16x4x4x128x1_0_1_2_3_4 v (ix6 b n g jj r 0) = v (ix5 b n g jj r) := by
  pointwise

/-- The sinks along the rows. -/
theorem sink153 (x3 : Vec Ideal S1x16 .f32) (b n : Fin 16) (g jj : Fin 4) (r : Fin 128) :
    val_main_v153 (F := Ideal) x3 (ix6 b n g jj r 0) = sink x3 g jj := by
  simp only [val_main_v153, val_main_v152, val_main_v149, val_main_v148, val_main_v101]
  pointwise []
  rfl

/-- The largest score or the sink. -/
theorem top154 (x0 : Vec Ideal S32768x9728 .bf16) (x1 x2 : Vec Ideal S1x64 .f32) (x3 : Vec Ideal S1x16 .f32) (b n : Fin 16) (g jj : Fin 4) (r : Fin 128) :
    val_main_v154 (F := Ideal) x0 x1 x2 x3 (ix6 b n g jj r 0) = top (mrow x0 x1 x2 b n g jj r) (sink x3 g jj) := by
  rw [val_main_v154_apply, sink153]
  unfold val_main_v151
  rw [col151, max150]
  rfl

/-- The weights. -/
theorem exp157 (x0 : Vec Ideal S32768x9728 .bf16) (x1 x2 : Vec Ideal S1x64 .f32) (x3 : Vec Ideal S1x16 .f32) (b n : Fin 16) (g jj : Fin 4) (r : Fin 128) (y : Fin 256) :
    val_main_v157 (F := Ideal) x0 x1 x2 x3 (ix6 b n g jj r y) = Ideal.exp (mrow x0 x1 x2 b n g jj r y - top (mrow x0 x1 x2 b n g jj r) (sink x3 g jj)) := by
  simp only [val_main_v157, val_main_v156, val_main_v155]
  pointwise [top154]
  rfl

/-- The sum of the weights. -/
theorem sum158 (x0 : Vec Ideal S32768x9728 .bf16) (x1 x2 : Vec Ideal S1x64 .f32) (x3 : Vec Ideal S1x16 .f32) (b n : Fin 16) (g jj : Fin 4) (r : Fin 128) :
    val_main_v158 (F := Ideal) x0 x1 x2 x3 (ix5 b n g jj r) = ∑ y, Ideal.exp (mrow x0 x1 x2 b n g jj r y - top (mrow x0 x1 x2 b n g jj r) (sink x3 g jj)) := by
  rw [val_main_v158_apply]
  have z : val_main_cst_18 (F := Ideal) (Shape.Idx.first h_S_) = (0 : EReal) := bits_zero
  rw [z, zero_add]
  refine Finset.sum_congr rfl fun y _ => ?_
  rw [← exp157]
  congr 1
  funext a
  match a with
  | ⟨0, _⟩ => rfl
  | ⟨1, _⟩ => rfl
  | ⟨2, _⟩ => rfl
  | ⟨3, _⟩ => rfl
  | ⟨4, _⟩ => rfl
  | ⟨5, _⟩ => rfl

/-- The sum of the weights, the sink's among them. -/
theorem den164 (x0 : Vec Ideal S32768x9728 .bf16) (x1 x2 : Vec Ideal S1x64 .f32) (x3 : Vec Ideal S1x16 .f32) (b n : Fin 16) (g jj : Fin 4) (r : Fin 128) :
    val_main_v164 (F := Ideal) x0 x1 x2 x3 (ix6 b n g jj r 0) = den (mrow x0 x1 x2 b n g jj r) (sink x3 g jj) := by
  simp only [val_main_v164, val_main_v163, val_main_v162, val_main_v161, val_main_v160, val_main_v159, val_main_v149, val_main_v148, val_main_v101]
  pointwise [sum158, top154]
  rfl

/-- The weights over their sum. -/
theorem quot166 (x0 : Vec Ideal S32768x9728 .bf16) (x1 x2 : Vec Ideal S1x64 .f32) (x3 : Vec Ideal S1x16 .f32) (b n : Fin 16) (g jj : Fin 4) (r : Fin 128) (y : Fin 256) :
    val_main_v166 (F := Ideal) x0 x1 x2 x3 (ix6 b n g jj r y) = Ideal.div (Ideal.exp (mrow x0 x1 x2 b n g jj r y - top (mrow x0 x1 x2 b n g jj r) (sink x3 g jj))) (den (mrow x0 x1 x2 b n g jj r) (sink x3 g jj)) := by
  simp only [val_main_v166, val_main_v165]
  pointwise [exp157, den164]

/-- The weighted values. -/
theorem out169 (x0 : Vec Ideal S32768x9728 .bf16) (x1 x2 : Vec Ideal S1x64 .f32) (x3 : Vec Ideal S1x16 .f32) (b : Fin 16) (l : Fin 2048) (j : Fin 1024) :
    val_main_v169 (F := Ideal) x0 x1 x2 x3 (ix3 b l j) = ∑ y : Fin 256, val_main_v141 (F := Ideal) x0 (ix5 b ⟨l.val / 128, by omega⟩ y ⟨j.val / 256, by omega⟩ ⟨j.val % 64, by omega⟩)
      * Ideal.div (Ideal.exp (mrow x0 x1 x2 b ⟨l.val / 128, by omega⟩ ⟨j.val / 256, by omega⟩ ⟨j.val / 64 % 4, by omega⟩ ⟨l.val % 128, by omega⟩ y - top (mrow x0 x1 x2 b ⟨l.val / 128, by omega⟩ ⟨j.val / 256, by omega⟩ ⟨j.val / 64 % 4, by omega⟩ ⟨l.val % 128, by omega⟩) (sink x3 ⟨j.val / 256, by omega⟩ ⟨j.val / 64 % 4, by omega⟩)))
        (den (mrow x0 x1 x2 b ⟨l.val / 128, by omega⟩ ⟨j.val / 256, by omega⟩ ⟨j.val / 64 % 4, by omega⟩ ⟨l.val % 128, by omega⟩) (sink x3 ⟨j.val / 256, by omega⟩ ⟨j.val / 64 % 4, by omega⟩)) := by
  simp only [val_main_v169, val_main_v168, val_main_v167]
  pointwise [dot_S16x16x256x4x64_S16x16x4x4x128x256_S16x16x4x64x4x128_2_5_4_34_013_012]
  simp only [quot166]

theorem flat172 (y : FVec Ideal S16x2048x1024 .f32) (R : Fin 32768) (j : Fin 1024) :
    truncf .bf16 (shapeCast S32768x1024 y shapeCasts_S16x2048x1024_S32768x1024) bitsLt_bf16_f32 (ix2 R j) = y (ix3 ⟨R.val / 2048, by omega⟩ ⟨R.val % 2048, by omega⟩ j) := by
  pointwise

/-- The gate. -/
theorem silu170 (x0 : Vec Ideal S32768x9728 .bf16) (b : Fin 16) (l : Fin 2048) (j : Fin 1024) :
    val_main_v170 (F := Ideal) x0 (ix3 b l j) = x0 (ix2 ⟨b.val * 2048 + l.val, by omega⟩ ⟨5120 + j.val, by omega⟩)
      * Ideal.div (Ideal.ofBits .f32 1065353216#32) (Ideal.ofBits .f32 1065353216#32 + Ideal.exp (-x0 (ix2 ⟨b.val * 2048 + l.val, by omega⟩ ⟨5120 + j.val, by omega⟩))) := by
  simp only [val_main_v170, val_main_call3_v5, val_main_call3_v4, val_main_call3_cst_0, val_main_call3_v3, val_main_call3_v2, val_main_call3_cst, val_main_call3_v1, val_main_call3_v0, val_main_v5, val_main_v4, val_main_v3]
  pointwise []

/-- The gated result. -/
theorem gate173 (x0 : Vec Ideal S32768x9728 .bf16) (x1 x2 : Vec Ideal S1x64 .f32) (x3 : Vec Ideal S1x16 .f32) (R : Fin 32768) (j : Fin 1024) :
    val_main_v173 (F := Ideal) x0 x1 x2 x3 (ix2 R j) = val_main_v169 (F := Ideal) x0 x1 x2 x3 (ix3 ⟨R.val / 2048, by omega⟩ ⟨R.val % 2048, by omega⟩ j)
      * val_main_v170 (F := Ideal) x0 (ix3 ⟨R.val / 2048, by omega⟩ ⟨R.val % 2048, by omega⟩ j) := by
  unfold val_main_v173 val_main_v172
  rw [flat172, val_main_v171_apply, Ideal.mulf_def]

/-- The last keys. -/
theorem kwin175 (x0 : Vec Ideal S32768x9728 .bf16) (x2 : Vec Ideal S1x64 .f32) (b : Fin 16) (r : Fin 128) (j : Fin 256) :
    val_main_v175 (F := Ideal) x0 x2 (ix3 b r j) = val_main_v100 (F := Ideal) x0 x2 (ix4 b ⟨1920 + r.val, by omega⟩ ⟨j.val / 64, by omega⟩ ⟨j.val % 64, by omega⟩) := by
  simp only [val_main_v175, val_main_v174]
  pointwise []

/-- The last values. -/
theorem vwin177 (x0 : Vec Ideal S32768x9728 .bf16) (b : Fin 16) (r : Fin 128) (j : Fin 256) :
    val_main_v177 (F := Ideal) x0 (ix3 b r j) = x0 (ix2 ⟨b.val * 2048 + (1920 + r.val), by omega⟩ ⟨9472 + j.val, by omega⟩) := by
  simp only [val_main_v177, val_main_v176, val_main_v11, val_main_v10, val_main_v9]
  pointwise []

end Cert.Attn.Ref
end
-- ==== Proof.AttnRow.lean ====
/- The rows the body makes at a point are the reference's rows. -/
module

public import proofs.«01_k».proof.Proof.AttnChunk
public import proofs.«01_k».proof.Proof.AttnPoint
public import proofs.«01_k».proof.Proof.AttnRead
public import proofs.«01_k».proof.Proof.AttnRefSoft

@[expose] public section

set_option maxRecDepth 16384

noncomputable section

namespace Cert.Attn

open Cert.KernelIdeal Cert.KernelIdeal.Gen Cert.KernelIdeal.Value Idealize.ShloMosaic Idealize.ShloMosaic.TcCoe Idealize.SL.Sem

theorem pay2_at (v : Vec Ideal S256x128 .bf16) (j : Fin 256) (l : Fin 128) : k0_pay2 v (ix2 j l) = v (ix2 j l) := by
  unfold k0_pay2
  pointwise []

theorem pay3_at (v : Vec Ideal S128x128 .f32) (j l : Fin 128) : k0_pay3 v (ix2 j l) = v (ix2 j l) := by
  unfold k0_pay3
  pointwise []

theorem pay4_at (v : Vec Ideal S128x128 .f32) (j l : Fin 128) : k0_pay4 v (ix2 j l) = v (ix2 j l) := by
  unfold k0_pay4
  pointwise []

theorem pay5_at (v : Vec Ideal S128x128 .f32) (j l : Fin 128) : k0_pay5 v (ix2 j l) = v (ix2 j l) := by
  unfold k0_pay5
  pointwise []

theorem pay10_at (v : Vec Ideal S1x128 .f32) (l : Fin 128) : k0_pay10 v (ix2 0 l) = v (ix2 0 l) := by
  unfold k0_pay10
  pointwise []

/-- The sequence of a point. -/
abbrev seqOf (t : Fin cfg0.N) : Fin 16 := ⟨t.val / 16, by have := lt_of_lt_of_eq t.isLt N_0; omega⟩

/-- The block of a point in its sequence. -/
abbrev blkOf (t : Fin cfg0.N) : Fin 16 := ⟨t.val % 16, by omega⟩

variable (m : (ℓ : Loc nD τ sig) → Buf (Elt Ideal) ℓ)

/-- The four arguments hold real numbers. -/
structure Real (c : Dev nD) : Prop where
  r0 : ∀ i, ∃ x : ℝ, m ((c : Thread nD τ).loc main_arg0) i = (x : EReal)
  r1 : ∀ i, ∃ x : ℝ, m ((c : Thread nD τ).loc main_arg1) i = (x : EReal)
  r2 : ∀ i, ∃ x : ℝ, m ((c : Thread nD τ).loc main_arg2) i = (x : EReal)
  r3 : ∀ i, ∃ x : ℝ, m ((c : Thread nD τ).loc main_arg3) i = (x : EReal)

/-- The reference's key rows. -/
def refK (c : Dev nD) (b : Fin 16) (l : Fin 2048) (g : Fin 4) (d : Fin 64) : EReal :=
  Cert.ReferenceIdeal.Read.val_main_v100 (F := Ideal) (m ((c : Thread nD τ).loc main_arg0)) (m ((c : Thread nD τ).loc main_arg2)) (ix4 b l g d)

/-- The reference's value rows. -/
def refV (c : Dev nD) (b : Fin 16) (l : Fin 2048) (g : Fin 4) (d : Fin 64) : EReal :=
  Cert.ReferenceIdeal.Read.val_main_v11 (F := Ideal) (m ((c : Thread nD τ).loc main_arg0)) (ix4 b l g d)

/-- The reference's query rows. -/
def refQ (c : Dev nD) (b : Fin 16) (l : Fin 2048) (h : Fin 16) (d : Fin 64) : EReal :=
  Cert.ReferenceIdeal.Read.val_main_v56 (F := Ideal) (m ((c : Thread nD τ).loc main_arg0)) (m ((c : Thread nD τ).loc main_arg1)) (ix4 b l h d)

/-- The body's key rows are the reference's. -/
theorem kr_at (c : Dev nD) (R : Real m c) (t : Fin cfg0.N) (ch : ℕ) (hc : ch < 2) (r : Fin 128) (h : ℕ) (hh : h < 2) (d : Fin 64) :
    kr (iblk m c 2 t) (iblk m c 4 t) (iblk m c 5 t) (iblk m c 6 t) (iblk m c 8 t) (iblk m c 9 t) ch (by omega) (ix2 r ⟨64 * h + d.val, by omega⟩)
      = refK m c (seqOf t) (pos t r) ⟨2 * ch + h, by omega⟩ d := by
  have hx : ∀ l : Fin 128, kchunk (iblk m c 2 t) ch (by omega) (ix2 r l) = m ((c : Thread nD τ).loc main_arg0) (ix2 (row t r) ⟨9216 + (128 * ch + l.val), by omega⟩) :=
    fun l => blk2 m c t r ⟨128 * ch + l.val, by omega⟩
  rw [refK, Ref.rope100]
  unfold kr
  rw [pay11_at _ _ _ _ _ _ (Ref.wrow (m ((c : Thread nD τ).loc main_arg2))) (pos t r) r
    (fun j l => (pay2_at _ j l).trans (blk9 m c t j l)) (fun l => (pay3_at _ r l).trans (blk4 m c t r l)) (fun l => (pay4_at _ r l).trans (blk5 m c t r l))
    (fun l => (pay5_at _ r l).trans (blk6 m c t r l)) (fun l => ⟨_, (hx l).trans (R.r0 _).choose_spec⟩) (fun l => (pay10_at _ l).trans (blk8 m c t l)) h hh d]
  refine congrArg (fun z => rope (nrm z _) _ _) (funext fun d' => (hx _).trans ?_)
  unfold Ref.krow
  refine congrArg _ (congrArg₂ ix2 (Fin.ext ?_) (Fin.ext ?_))
  · show t.val * 128 + r.val = t.val / 16 * 2048 + (t.val % 16 * 128 + r.val)
    omega
  · show 9216 + (128 * ch + (64 * h + d'.val)) = 9216 + ((2 * ch + h) * 64 + d'.val)
    omega

/-- The body's query rows are the reference's, scaled. -/
theorem qf_at (c : Dev nD) (R : Real m c) (t : Fin cfg0.N) (ch : ℕ) (hc : ch < 8) (r : Fin 128) (h : ℕ) (hh : h < 2) (d : Fin 64) :
    k0_pay11 (F := Ideal) (k0_pay2 (iblk m c 9 t)) (k0_pay3 (iblk m c 4 t)) (k0_pay4 (iblk m c 5 t)) (k0_pay5 (iblk m c 6 t)) (chunk (X0_1 m c t) ch hc) (k0_pay10 (iblk m c 7 t)) (ix2 r ⟨64 * h + d.val, by omega⟩)
      = refQ m c (seqOf t) (pos t r) ⟨2 * ch + h, by omega⟩ d := by
  have hx : ∀ l : Fin 128, chunk (X0_1 m c t) ch hc (ix2 r l) = m ((c : Thread nD τ).loc main_arg0) (ix2 (row t r) ⟨4096 + (128 * ch + l.val), by omega⟩) :=
    fun l => blk1 m c t r ⟨128 * ch + l.val, by omega⟩
  rw [refQ, Ref.rope56]
  rw [pay11_at _ _ _ _ _ _ (Ref.wrow (m ((c : Thread nD τ).loc main_arg1))) (pos t r) r
    (fun j l => (pay2_at _ j l).trans (blk9 m c t j l)) (fun l => (pay3_at _ r l).trans (blk4 m c t r l)) (fun l => (pay4_at _ r l).trans (blk5 m c t r l))
    (fun l => (pay5_at _ r l).trans (blk6 m c t r l)) (fun l => ⟨_, (hx l).trans (R.r0 _).choose_spec⟩) (fun l => (pay10_at _ l).trans (blk7 m c t l)) h hh d]
  refine congrArg (fun z => rope (nrm z _) _ _) (funext fun d' => (hx _).trans ?_)
  unfold Ref.qrow
  refine congrArg _ (congrArg₂ ix2 (Fin.ext ?_) (Fin.ext ?_))
  · show t.val * 128 + r.val = t.val / 16 * 2048 + (t.val % 16 * 128 + r.val)
    omega
  · show 4096 + (128 * ch + (64 * h + d'.val)) = 4096 + ((2 * ch + h) * 64 + d'.val)
    omega

/-- The body's value rows are the reference's. -/
theorem kchunk_at (c : Dev nD) (t : Fin cfg0.N) (ch : ℕ) (hc : ch < 2) (r : Fin 128) (h : ℕ) (hh : h < 2) (d : Fin 64) :
    kchunk (iblk m c 2 t) (2 + ch) (by omega) (ix2 r ⟨64 * h + d.val, by omega⟩) = refV m c (seqOf t) (pos t r) ⟨2 * ch + h, by omega⟩ d := by
  refine (blk2 m c t r ⟨128 * (2 + ch) + (64 * h + d.val), by omega⟩).trans ?_
  rw [refV, Ref.raw11]
  refine congrArg _ (congrArg₂ ix2 (Fin.ext ?_) (Fin.ext ?_))
  · show t.val * 128 + r.val = t.val / 16 * 2048 + (t.val % 16 * 128 + r.val)
    omega
  · show 9216 + (128 * (2 + ch) + (64 * h + d.val)) = 9472 + ((2 * ch + h) * 64 + d.val)
    omega

theorem dup_lane (u : ℕ) (hu : u < 2) (l : Fin 128) : dupLane u l = ⟨64 * u + l.val % 64, by omega⟩ :=
  Fin.ext (by show (64 * u + l.val % 64) % 128 = 64 * u + l.val % 64; omega)

/-- The doubled key rows of a point. -/
theorem nK_at (c : Dev nD) (R : Real m c) (t : Fin cfg0.N) (g : Fin 4) (r l : Fin 128) :
    nK m c t g r l = refK m c (seqOf t) (pos t r) g ⟨l.val % 64, by omega⟩ := by
  unfold nK newK
  rw [dup_lane _ (by omega) l]
  refine (kr_at m c R t (g.val / 2) (by omega) r (g.val % 2) (by omega) ⟨l.val % 64, by omega⟩).trans ?_
  exact congrArg (fun z => refK m c (seqOf t) (pos t r) z _) (Fin.ext (by show 2 * (g.val / 2) + g.val % 2 = g.val; omega))

/-- The doubled value rows of a point. -/
theorem nV_at (c : Dev nD) (t : Fin cfg0.N) (g : Fin 4) (r l : Fin 128) :
    nV m c t g r l = refV m c (seqOf t) (pos t r) g ⟨l.val % 64, by omega⟩ := by
  unfold nV newV
  rw [dup_lane _ (by omega) l]
  refine (kchunk_at m c t (g.val / 2) (by omega) r (g.val % 2) (by omega) ⟨l.val % 64, by omega⟩).trans ?_
  exact congrArg (fun z => refV m c (seqOf t) (pos t r) z _) (Fin.ext (by show 2 * (g.val / 2) + g.val % 2 = g.val; omega))

/-- A band of rows: those of the block before, zero at the first block, then those of the block. -/
def band (f : Fin 16 → Fin 2048 → Fin 4 → Fin 64 → EReal) (b n : Fin 16) (y : Fin 256) (g : Fin 4) (d : Fin 64) : EReal :=
  if h : y.val < 128 then (if n.val = 0 then 0 else f b ⟨(n.val - 1) * 128 + y.val, by omega⟩ g d) else f b ⟨n.val * 128 + (y.val - 128), by omega⟩ g d

/-- What the body keeps and what it makes, one over the other, are a band. -/
theorem kvec_band (f : Fin 16 → Fin 2048 → Fin 4 → Fin 64 → EReal) (N : Fin cfg0.N → Fin 4 → Fin 128 → Fin 128 → EReal)
    (hN : ∀ t g r l, N t g r l = f (seqOf t) (pos t r) g ⟨l.val % 64, by omega⟩) (t : Fin cfg0.N) (g : Fin 4) (y : Fin 256) (l : Fin 128) :
    kvec (if t.val % 16 = 0 then fun _ _ _ => 0 else N (prevPt t)) (N t) (ix4 0 g y l) = band f (seqOf t) (blkOf t) y g ⟨l.val % 64, by omega⟩ := by
  show (if h : 128 ≤ y.val then N t g ⟨y.val - 128, by omega⟩ l else (if t.val % 16 = 0 then fun _ _ _ => 0 else N (prevPt t)) g ⟨y.val, by omega⟩ l) = _
  unfold band
  by_cases hy : y.val < 128
  · rw [dif_neg (by omega), dif_pos hy]
    by_cases hn : t.val % 16 = 0
    · rw [if_pos hn, if_pos hn]
    · rw [if_neg hn, if_neg hn, hN]
      have e1 : seqOf (prevPt t) = seqOf t := Fin.ext (by show (t.val - 1) / 16 = t.val / 16; omega)
      have e2 : pos (prevPt t) ⟨y.val, by omega⟩ = ⟨(t.val % 16 - 1) * 128 + y.val, by omega⟩ := Fin.ext (by show (t.val - 1) % 16 * 128 + y.val = _; congr 2; omega)
      rw [e1, e2]
  · rw [dif_pos (by omega), dif_neg hy, hN]

/-- The keys a point's rows look at. -/
theorem kband (c : Dev nD) (R : Real m c) (t : Fin cfg0.N) (g : Fin 4) (y : Fin 256) (l : Fin 128) :
    kvec (pK m c t) (nK m c t) (ix4 0 g y l) = band (refK m c) (seqOf t) (blkOf t) y g ⟨l.val % 64, by omega⟩ :=
  kvec_band (refK m c) (nK m c) (nK_at m c R) t g y l

/-- The values a point's rows look at. -/
theorem vband (c : Dev nD) (t : Fin cfg0.N) (g : Fin 4) (y : Fin 256) (l : Fin 128) :
    kvec (pV m c t) (nV m c t) (ix4 0 g y l) = band (refV m c) (seqOf t) (blkOf t) y g ⟨l.val % 64, by omega⟩ :=
  kvec_band (refV m c) (nV m c) (nV_at m c) t g y l

/-- Which keys a row may see. -/
theorem okmask_at (t : Fin cfg0.N) (r : Fin 128) (y : Fin 256) : okmask (grid0.coords t) (ix2 r y) = Ref.okAt (blkOf t) r y := by
  have h := (idx_all t).2.2.2.2.2.2.2.2.2.2.2.2.2.2
  unfold okmask
  rw [h]
  unfold k0_pay33 k0_pay32
  pointwise []
  rfl

end Cert.Attn

end
-- ==== Proof.AttnHead.lean ====
/- A head's output in the body is the reference's. -/
module

public import proofs.«01_k».proof.Proof.AttnRow

@[expose] public section

set_option maxRecDepth 16384

noncomputable section

namespace Cert.Attn

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The reference's scores of a row. -/
def refM (c : Dev nD) (b n : Fin 16) (g jj : Fin 4) (r : Fin 128) (y : Fin 256) : EReal :=
  Ref.mrow (m ((c : Thread nD τ).loc main_arg0)) (m ((c : Thread nD τ).loc main_arg1)) (m ((c : Thread nD τ).loc main_arg2)) b n g jj r y

/-- The reference's score from its rows. -/
theorem refM_eq (c : Dev nD) (b n : Fin 16) (g jj : Fin 4) (r : Fin 128) (y : Fin 256) :
    refM m c b n g jj r y = Scalar.select (Ref.okAt n r y) ((∑ x : Fin 64, band (refK m c) b n y g x * refQ m c b ⟨n.val * 128 + r.val, by omega⟩ ⟨g.val * 4 + jj.val, by omega⟩ x)
      * Ideal.ofBits .f32 1040187392#32) ⊥ := by
  unfold refM Ref.mrow
  rw [Ref.score147, Ref.mask133]
  refine congrArg (fun z => Scalar.select _ (z * _) _) (Finset.sum_congr rfl fun x _ => ?_)
  rw [Ref.band137]
  rfl

theorem refQ_real (c : Dev nD) (R : Real m c) (b : Fin 16) (l : Fin 2048) (h : Fin 16) (d : Fin 64) : ∃ x : ℝ, refQ m c b l h d = (x : EReal) := by
  rw [refQ, Ref.rope56]
  exact rope_real _ (nrm_real _ _ (fun d => R.r0 _) (fun d => R.r1 _)) l d

theorem refK_real (c : Dev nD) (R : Real m c) (b : Fin 16) (l : Fin 2048) (g : Fin 4) (d : Fin 64) : ∃ x : ℝ, refK m c b l g d = (x : EReal) := by
  rw [refK, Ref.rope100]
  exact rope_real _ (nrm_real _ _ (fun d => R.r0 _) (fun d => R.r2 _)) l d

theorem band_real (f : Fin 16 → Fin 2048 → Fin 4 → Fin 64 → EReal) (hf : ∀ b l g d, ∃ x : ℝ, f b l g d = (x : EReal)) (b n : Fin 16) (y : Fin 256) (g : Fin 4) (d : Fin 64) :
    ∃ x : ℝ, band f b n y g d = (x : EReal) := by
  unfold band
  split
  · split
    · exact ⟨0, rfl⟩
    · exact hf _ _ _ _
  · exact hf _ _ _ _

theorem select_ne_top (ok : BitVec 1) (a : EReal) (ha : a ≠ ⊤) : Scalar.select ok a ⊥ ≠ ⊤ := by
  unfold Scalar.select
  split
  · exact ha
  · exact bot_ne_top

theorem refM_ne_top (c : Dev nD) (R : Real m c) (b n : Fin 16) (g jj : Fin 4) (r : Fin 128) (y : Fin 256) : refM m c b n g jj r y ≠ ⊤ := by
  rw [refM_eq]
  refine select_ne_top _ _ ?_
  obtain ⟨s, hs⟩ := sum_real Finset.univ (fun x : Fin 64 => band (refK m c) b n y g x * refQ m c b ⟨n.val * 128 + r.val, by omega⟩ ⟨g.val * 4 + jj.val, by omega⟩ x) fun x => by
    obtain ⟨u, hu⟩ := band_real (refK m c) (refK_real m c R) b n y g x
    obtain ⟨v, hv⟩ := refQ_real m c R b ⟨n.val * 128 + r.val, by omega⟩ ⟨g.val * 4 + jj.val, by omega⟩ x
    exact ⟨u * v, by rw [hu, hv, EReal.coe_mul]⟩
  rw [hs, bits_eighth, ← EReal.coe_mul]
  exact EReal.coe_ne_top _

/-- The body's scores are the reference's. -/
theorem score_at (c : Dev nD) (R : Real m c) (t : Fin cfg0.N) (r : Fin 128) (C : Fin 1024) (y : Fin 256) :
    score (okmask (grid0.coords t) (ix2 r y)) (if C.val % 128 < 64 then 0#1 else 1#1)
        (qf (X0_1 m c t) (iblk m c 4 t) (iblk m c 5 t) (iblk m c 6 t) (iblk m c 7 t) (iblk m c 9 t) (C.val / 128) (by omega) r)
        (fun x => kvec (pK m c t) (nK m c t) (ix4 0 (⟨C.val / 256, by omega⟩ : Fin 4) y x))
      = refM m c (seqOf t) (blkOf t) ⟨C.val / 256, by omega⟩ ⟨C.val / 64 % 4, by omega⟩ r y := by
  have hup : (if C.val % 128 < 64 then 0#1 else 1#1) = if C.val / 64 % 2 = 0 then 0#1 else 1#1 := by
    by_cases h : C.val % 128 < 64
    · rw [if_pos h, if_pos (by omega)]
    · rw [if_neg h, if_neg (by omega)]
  rw [hup, okmask_at, refM_eq]
  refine (score_half _ (C.val / 64 % 2) (by omega) (fun x => k0_pay11 (F := Ideal) (k0_pay2 (iblk m c 9 t)) (k0_pay3 (iblk m c 4 t)) (k0_pay4 (iblk m c 5 t)) (k0_pay5 (iblk m c 6 t))
    (chunk (X0_1 m c t) (C.val / 128) (by omega)) (k0_pay10 (iblk m c 7 t)) (ix2 r x)) _).trans ?_
  refine congrArg (fun z => Scalar.select _ (z * _) _) (Finset.sum_congr rfl fun x _ => ?_)
  refine congrArg₂ (· * ·) ((kband m c R t _ y _).trans (congrArg _ (Fin.ext ?_))) ((qf_at m c R t _ _ r _ (by omega) x).trans ?_)
  · show (64 * (C.val / 64 % 2) + x.val) % 64 = x.val
    omega
  · exact congrArg (fun z => refQ m c (seqOf t) (pos t r) z x) (Fin.ext (by show 2 * (C.val / 128) + C.val / 64 % 2 = C.val / 256 * 4 + C.val / 64 % 4; omega))

/-- The body's output before the gate is the reference's. -/
theorem oscr_at (c : Dev nD) (R : Real m c) (t : Fin cfg0.N) (r : Fin 128) (C : Fin 1024) :
    oscr (iblk m c 0 t) (X0_1 m c t) (iblk m c 4 t) (iblk m c 5 t) (iblk m c 6 t) (iblk m c 7 t) (iblk m c 9 t) (okmask (grid0.coords t)) (kvec (pK m c t) (nK m c t)) (kvec (pV m c t) (nV m c t)) r C
      = Cert.ReferenceIdeal.Read.val_main_v169 (F := Ideal) (m ((c : Thread nD τ).loc main_arg0)) (m ((c : Thread nD τ).loc main_arg1)) (m ((c : Thread nD τ).loc main_arg2)) (m ((c : Thread nD τ).loc main_arg3)) (ix3 (seqOf t) (pos t r) C) := by
  have e1 : (⟨(pos t r).val / 128, by omega⟩ : Fin 16) = blkOf t := Fin.ext (by show (t.val % 16 * 128 + r.val) / 128 = t.val % 16; omega)
  have e2 : (⟨(pos t r).val % 128, by omega⟩ : Fin 128) = r := Fin.ext (by show (t.val % 16 * 128 + r.val) % 128 = r.val; omega)
  have e3 : iblk m c 0 t (ix1 (⟨C.val / 64, by omega⟩ : Fin 16)) = Ref.sink (m ((c : Thread nD τ).loc main_arg3)) ⟨C.val / 256, by omega⟩ ⟨C.val / 64 % 4, by omega⟩ := by
    refine (blk0 m c t _).trans ?_
    unfold Ref.sink
    exact congrArg (fun z => m ((c : Thread nD τ).loc main_arg3) (ix2 0 z)) (Fin.ext (by show C.val / 64 = C.val / 256 * 4 + C.val / 64 % 4; omega))
  have e4 : (fun y => score (okmask (grid0.coords t) (ix2 r y)) (if C.val % 128 < 64 then 0#1 else 1#1)
        (qf (X0_1 m c t) (iblk m c 4 t) (iblk m c 5 t) (iblk m c 6 t) (iblk m c 7 t) (iblk m c 9 t) (C.val / 128) (by omega) r)
        (fun x => kvec (pK m c t) (nK m c t) (ix4 0 (⟨C.val / 256, by omega⟩ : Fin 4) y x)))
      = refM m c (seqOf t) (blkOf t) ⟨C.val / 256, by omega⟩ ⟨C.val / 64 % 4, by omega⟩ r := funext fun y => score_at m c R t r C y
  rw [Ref.out169, e1, e2]
  unfold oscr headAt
  rw [e4, e3]
  refine (headOut_eq _ (refM_ne_top m c R _ _ _ _ _) _ (R.r3 _) _).trans ?_
  refine Finset.sum_congr rfl fun y _ => congrArg₂ (· * ·) ?_ rfl
  rw [Ref.band141]
  refine (vband m c t _ y _).trans ?_
  exact congrArg (fun z => band (refV m c) (seqOf t) (blkOf t) y _ z) (Fin.ext (by show C.val % 128 % 64 = C.val % 64; omega))

end Cert.Attn

end
-- ==== Proof.AttnValue.lean ====
/- The attention's three result arrays are the reference's. -/
module

public import proofs.«01_k».proof.Proof.AttnHead

@[expose] public section

set_option maxRecDepth 16384

noncomputable section

namespace Cert.Attn

open Cert.KernelIdeal Cert.KernelIdeal.Gen Cert.KernelIdeal.Value Idealize.ShloMosaic Idealize.ShloMosaic.TcCoe Idealize.SL.Sem

/-- The gate at an entry. -/
theorem pay119_at (v : Vec Ideal S128x1024 .f32) (z : Vec Ideal S128x1024 .bf16) (r : Fin 128) (C : Fin 1024) :
    k0_pay119 (F := Ideal) v z (ix2 r C) = v (ix2 r C) * (z (ix2 r C) * Ideal.div (Ideal.ofBits .f32 1065353216#32) (Ideal.ofBits .f32 1065353216#32 + Ideal.exp (-z (ix2 r C)))) := by
  unfold k0_pay119
  pointwise []
  rw [sub_eq_add_neg, zero_add]

variable (m : (ℓ : Loc nD τ sig) → Buf (Elt Ideal) ℓ)

/-- The reference's gated result. -/
def ref0 (c : Dev nD) : Vec Ideal S32768x1024 .bf16 :=
  Cert.ReferenceIdeal.Read.val_main_v173 (F := Ideal) (m ((c : Thread nD τ).loc main_arg0)) (m ((c : Thread nD τ).loc main_arg1)) (m ((c : Thread nD τ).loc main_arg2)) (m ((c : Thread nD τ).loc main_arg3))

/-- The reference's last keys. -/
def ref1 (c : Dev nD) : Vec Ideal S16x128x256 .bf16 :=
  Cert.ReferenceIdeal.Read.val_main_v175 (F := Ideal) (m ((c : Thread nD τ).loc main_arg0)) (m ((c : Thread nD τ).loc main_arg2))

/-- The reference's last values. -/
def ref2 (c : Dev nD) : Vec Ideal S16x128x256 .bf16 :=
  Cert.ReferenceIdeal.Read.val_main_v177 (F := Ideal) (m ((c : Thread nD τ).loc main_arg0))

/-- The body's output block is the reference's. -/
theorem oa_ref (c : Dev nD) (R : Real m c) (t : Fin cfg0.N) (r : Fin 128) (C : Fin 1024) :
    (outsAt0 m c t.val t.isLt).1 (ix2 r C) = ref0 m c (ix2 (row t r) C) := by
  have ht := lt_of_lt_of_eq t.isLt N_0
  have e1 : (⟨(row t r).val / 2048, by omega⟩ : Fin 16) = seqOf t := Fin.ext (by show (t.val * 128 + r.val) / 2048 = t.val / 16; omega)
  have e2 : (⟨(row t r).val % 2048, by omega⟩ : Fin 2048) = pos t r := Fin.ext (by show (t.val * 128 + r.val) % 2048 = t.val % 16 * 128 + r.val; omega)
  have e3 : (⟨(seqOf t).val * 2048 + (pos t r).val, by omega⟩ : Fin 32768) = row t r := Fin.ext (by show t.val / 16 * 2048 + (t.val % 16 * 128 + r.val) = t.val * 128 + r.val; omega)
  rw [oa_at, ref0, Ref.gate173, e1, e2, Ref.silu170, e3]
  unfold outv
  refine (pay119_at _ _ r C).trans ?_
  rw [blk3]
  exact congrArg (· * _) (oscr_at m c R t r C)

/-- The body's window of keys is the reference's. -/
theorem kwin_ref (c : Dev nD) (R : Real m c) (t : Fin cfg0.N) (h1 : t.val % 16 = 15) (r : Fin 128) (l : Fin 256) :
    (outsAt0 m c t.val t.isLt).2.1 (ix3 0 r l) = ref1 m c (ix3 (seqOf t) r l) := by
  rw [kwin_at m c t (by omega) h1, ref1, Ref.kwin175]
  have e : (⟨l.val % 128, by omega⟩ : Fin 128) = ⟨64 * (l.val % 128 / 64) + l.val % 64, by omega⟩ := Fin.ext (by show l.val % 128 = 64 * (l.val % 128 / 64) + l.val % 64; omega)
  rw [e]
  refine (kr_at m c R t (l.val / 128) (by omega) r (l.val % 128 / 64) (by omega) ⟨l.val % 64, by omega⟩).trans ?_
  have e1 : pos t r = ⟨1920 + r.val, by omega⟩ := Fin.ext (by show t.val % 16 * 128 + r.val = 1920 + r.val; omega)
  rw [e1]
  exact congrArg (fun z => refK m c (seqOf t) _ z _) (Fin.ext (by show 2 * (l.val / 128) + l.val % 128 / 64 = l.val / 64; omega))

/-- The body's window of values is the reference's. -/
theorem vwin_ref (c : Dev nD) (t : Fin cfg0.N) (h1 : t.val % 16 = 15) (r : Fin 128) (l : Fin 256) :
    (outsAt0 m c t.val t.isLt).2.2.1 (ix3 0 r l) = ref2 m c (ix3 (seqOf t) r l) := by
  rw [vwin_at m c t (by omega) h1, ref2, Ref.vwin177]
  refine (blk2 m c t r ⟨128 * (2 + l.val / 128) + l.val % 128, by omega⟩).trans ?_
  refine congrArg _ (congrArg₂ ix2 (Fin.ext ?_) (Fin.ext ?_))
  · show t.val * 128 + r.val = t.val / 16 * 2048 + (1920 + r.val)
    omega
  · show 9216 + (128 * (2 + l.val / 128) + l.val % 128) = 9472 + l.val
    omega

/-- The whole first result. -/
theorem arr0 (c : Dev nD) (R : Real m c) : (dats m 0 c).arrAt 10 cfg0.N = ref0 m c := by
  funext i
  obtain ⟨r, q, rfl⟩ : ∃ (r : Fin 32768) (q : Fin 1024), i = ix2 r q := ⟨i 0, i 1, by funext a; fin_cases a <;> rfl⟩
  let t : Fin cfg0.N := ⟨r.val / 128, lt_of_lt_of_eq (by omega : r.val / 128 < 256) N_0.symm⟩
  let p : Fin 128 := ⟨r.val % 128, by omega⟩
  have hr : r = row t p := Fin.ext (by show r.val = r.val / 128 * 128 + r.val % 128; omega)
  have h := congrFun (blocks10 m c t (idx_all t).2.2.2.2.2.2.2.2.2.2.2.2.2.1) (ix2 p q)
  rw [flushed10] at h
  have h' := (oa_ref m c R t p q).symm.trans h.symm
  rw [← hr] at h'
  rw [h']
  show _ = (dats m 0 c).arrAt 10 cfg0.N (((cfg0.win 10).blk t).view.emb (ix2 p q))
  congr 1
  have hx := (idx_all t).2.2.2.2.2.2.2.2.2.2.1
  funext a
  refine Fin.ext ?_
  fin_cases a
  · show r.val = win0_10.index t (0 : Fin 2) * 128 + 1 * p.val
    rw [hx, hr]; simp
  · show q.val = win0_10.index t (1 : Fin 2) * 1024 + 1 * q.val
    rw [hx]; simp

/-- The whole second result. -/
theorem arr1 (c : Dev nD) (R : Real m c) : (dats m 0 c).arrAt 11 cfg0.N = ref1 m c :=
  (dats m 0 c).arrAt_eq_of_cover 11 _ (fun t hf => by
    funext y
    obtain ⟨u, p, q, rfl⟩ : ∃ (u : Fin 1) (p : Fin 128) (q : Fin 256), y = ix3 u p q := ⟨y 0, y 1, y 2, by funext a; fin_cases a <;> rfl⟩
    obtain rfl : u = 0 := Subsingleton.elim _ _
    rw [flushed11]
    refine (kwin_ref m c R t ((flush0_11 t).mp hf) p q).trans ?_
    show _ = ref1 m c (((cfg0.win 11).blk t).view.emb (ix3 0 p q))
    have hx := (idx_all t).2.2.2.2.2.2.2.2.2.2.2.1
    congr 1
    funext a
    refine Fin.ext ?_
    fin_cases a
    · show t.val / 16 = win0_11.index t (0 : Fin 3) * 1 + 1 * 0
      rw [hx]; simp
    · show p.val = win0_11.index t (1 : Fin 3) * 128 + 1 * p.val
      rw [hx]; simp
    · show q.val = win0_11.index t (2 : Fin 3) * 256 + 1 * q.val
      rw [hx]; simp) (fun i => (covered_iff11 i).2 (by
    have h0 : (i 0).val < 16 := (i 0).isLt; have h1 : (i 1).val < 128 := (i 1).isLt; have h2 : (i 2).val < 256 := (i 2).isLt; omega))

/-- The whole third result. -/
theorem arr2 (c : Dev nD) : (dats m 0 c).arrAt 12 cfg0.N = ref2 m c :=
  (dats m 0 c).arrAt_eq_of_cover 12 _ (fun t hf => by
    funext y
    obtain ⟨u, p, q, rfl⟩ : ∃ (u : Fin 1) (p : Fin 128) (q : Fin 256), y = ix3 u p q := ⟨y 0, y 1, y 2, by funext a; fin_cases a <;> rfl⟩
    obtain rfl : u = 0 := Subsingleton.elim _ _
    rw [flushed12]
    refine (vwin_ref m c t ((flush0_12 t).mp hf) p q).trans ?_
    show _ = ref2 m c (((cfg0.win 12).blk t).view.emb (ix3 0 p q))
    have hx := (idx_all t).2.2.2.2.2.2.2.2.2.2.2.2.1
    congr 1
    funext a
    refine Fin.ext ?_
    fin_cases a
    · show t.val / 16 = win0_12.index t (0 : Fin 3) * 1 + 1 * 0
      rw [hx]; simp
    · show p.val = win0_12.index t (1 : Fin 3) * 128 + 1 * p.val
      rw [hx]; simp
    · show q.val = win0_12.index t (2 : Fin 3) * 256 + 1 * q.val
      rw [hx]; simp) (fun i => (covered_iff12 i).2 (by
    have h0 : (i 0).val < 16 := (i 0).isLt; have h1 : (i 1).val < 128 := (i 1).isLt; have h2 : (i 2).val < 256 := (i 2).isLt; omega))

end Cert.Attn

end
-- ==== Proof.AttnClaim.lean ====
/- The attention's value claim, assembled from the two runs. -/
module

public import proofs.«01_k».proof.Defs
public import proofs.«01_k».proof.Proof.AttnValue
public import proofs.«01_k».proof.Proof.Gen.ReferenceIdeal.Run
public import proofs.«01_k».proof.Proof.Gen.Pre_finite

@[expose] public section

noncomputable section

namespace Cert.Attn

open Idealize.ShloMosaic Idealize.SL.Sem

/-- A number whose size compares below infinity is real. -/
theorem real_of_cmp (x : EReal) (h : Ideal.cmp .olt (max x (-x)) (Ideal.ofBits .f32 2139095040#32) = 1#1) : ∃ r : ℝ, x = (r : EReal) := by
  have htop : Ideal.ofBits .f32 2139095040#32 = ⊤ := by simp [Ideal.ofBits, Ideal.ieee]
  rw [htop] at h
  induction x with
  | bot => simp [Ideal.cmp] at h
  | coe r => exact ⟨r, rfl⟩
  | top => simp [Ideal.cmp] at h

/-- The precondition says that the arguments hold real numbers. -/
theorem real_of_pre (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) : Real m c where
  r0 := fun i => real_of_cmp _ (congrFun (h c).1 i)
  r1 := fun i => real_of_cmp _ (congrFun (h c).2.1 i)
  r2 := fun i => real_of_cmp _ (congrFun (h c).2.2.1 i)
  r3 := fun i => real_of_cmp _ (congrFun (h c).2.2.2 i)

/-- Both runs end with the reference's stages of the arguments. -/
theorem algebraic : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m ρ m' ρ' hp hag
  refine ⟨fun c => ref0 m c, fun c => ref1 m c, fun c => ref2 m c,
    (θ_run _ _ _).mono (fun r h c => ⟨(h c).1.trans (arr0 m c (real_of_pre m hp c)), (h c).2.1.trans (arr1 m c (real_of_pre m hp c)), (h c).2.2.1.trans (arr2 m c), (h c).2.2.2⟩) (Cert.KernelIdeal.Value.run_blocks (F := Ideal) m ρ),
    (θ_run _ _ _).mono (fun r h c => ⟨(h c).1.trans ?_, (h c).2.1.trans ?_, (h c).2.2.1.trans ?_, (h c).2.2.2⟩) (Cert.ReferenceIdeal.Value.run (F := Ideal) m' ρ')⟩
  · obtain ⟨h0, h1, h2, h3⟩ := hag c
    exact (Cert.ReferenceIdeal.Read.val_main_v173_eq (F := Ideal) (StableHlo.launchContents m' c)).trans
      (congr (congr (congr (congrArg (Cert.ReferenceIdeal.Read.val_main_v173 (F := Ideal)) h0) h1) h2) h3)
  · obtain ⟨h0, h1, h2, h3⟩ := hag c
    exact (Cert.ReferenceIdeal.Read.val_main_v175_eq (F := Ideal) (StableHlo.launchContents m' c)).trans
      (congr (congrArg (Cert.ReferenceIdeal.Read.val_main_v175 (F := Ideal)) h0) h2)
  · obtain ⟨h0, h1, h2, h3⟩ := hag c
    exact (Cert.ReferenceIdeal.Read.val_main_v177_eq (F := Ideal) (StableHlo.launchContents m' c)).trans
      (congrArg (Cert.ReferenceIdeal.Read.val_main_v177 (F := Ideal)) h0)

end Cert.Attn

end
-- ==== Proof.InPayload.lean ====
/- What the input-projection body stores, at one entry: the normed row times the weight's column. -/
module

public import proofs.«01_k».proof.Proof.Gen.Kernel2Ideal.Value
public import Idealize.ShloMosaic.Lib.Pointwise
public import Idealize.ShloMosaic.Lib.ValueIdx

@[expose] public section

set_option maxRecDepth 16384

noncomputable section

namespace Cert.InProj

open Cert.Kernel2Ideal Cert.Kernel2Ideal.Gen Idealize.ShloMosaic Idealize.ShloMosaic.TcCoe Idealize.SL.Sem

variable {F : FTy → Type} [FloatOps F]

/-- The offsets of a whole block are zero. -/
theorem hz : (![0, 0] : Fin 2 → Nat) = fun _ => 0 := by
  funext a; fin_cases a <;> rfl

/-- The block left in the second output's staging buffer is the product of the normed rows with the small weight. -/
theorem out5_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x9728 .bf16) (harg3 : arg3.IsWhole) (arg4 : Memref sig .tc .vmem S1024x128 .bf16) (harg4 : arg4.IsWhole) (arg5 : Memref sig .tc .vmem S512x9728 .bf16) (harg5 : arg5.IsWhole) (arg6 : Memref sig .tc .vmem S512x128 .f32) (harg6 : arg6.IsWhole) (arg7 : Memref sig .tc .vmem S512x1024 .bf16) (harg7 : arg7.IsWhole)
    (x0 : Vec F S512x1024 .f32) (x1 : Vec F S1x1024 .f32) (x2 : Vec F S1024x9728 .bf16) (x3 : Vec F S1024x128 .bf16) :
    out0_A_5 c i arg1 harg1 arg2 harg2 arg3 harg3 arg4 harg4 arg5 harg5 arg6 harg6 arg7 harg7 x0 x1 x2 x3
      = k0_pay4 (k0_pay5 x0 x1) x3 := by
  unfold out0_A_5
  rw [View.read_writes_eq_canon _ _ _ (cover0_A_5 c i arg1 harg1 arg2 harg2 arg3 harg3 arg4 harg4 arg5 harg5 arg6 harg6 arg7 harg7 x0 x1 x2 x3)]
  unfold kernelRun0_A
  dsimp only
  sl_unfold_words
  simp only [View.readAt_eq_ld, harg1.read_unread, harg2.read_unread, harg3.read_unread, harg4.read_unread]
  refine (View.canon_unit_zero hz _ _).trans ?_
  rw [View.readCov_unit_zero _ hz, View.ld_unit_zero hz, View.ld_unit_zero hz, View.ld_unit_zero hz]

/-- The normed rows times the wide weight, at an index of the block. -/
def prod (x0 : Vec Ideal S512x1024 .f32) (x1 : Vec Ideal S1x1024 .f32) (x2 : Vec Ideal S1024x9728 .bf16) : Vec Ideal S512x9728 .bf16 :=
  fun y => ∑ k : Fin 1024, (k0_pay5 (F := Ideal) x0 x1 (ix2 (y 0) k) : EReal) * x2 (ix2 k (y 1))

/-- One column tile: the product with the tile of the weight is the tile of the product. -/
theorem tile_apply (x0 : Vec Ideal S512x1024 .f32) (x1 : Vec Ideal S1x1024 .f32) (x2 : Vec Ideal S1024x9728 .bf16) (o : Nat)
    (inb : ∀ a, (![0, o] : Fin 2 → Nat) a + (![1024, 512] : Fin 2 → Nat) a ≤ S1024x9728.size a)
    (inb' : ∀ a, (![0, o] : Fin 2 → Nat) a + (![512, 512] : Fin 2 → Nat) a ≤ S512x9728.size a) (x : (Rect.unit (s := S512x9728) ![0, o] ![512, 512] inb').shape.Idx) :
    k0_pay1 (F := Ideal) (k0_pay5 x0 x1) (View.ld x2 (Rect.unit ![0, o] ![1024, 512] inb)) x
      = prod x0 x1 x2 ((Rect.unit (s := S512x9728) ![0, o] ![512, 512] inb').emb x) := by
  obtain ⟨p, q, rfl⟩ : ∃ (p q : Fin 512), x = ix2 p q := ⟨x 0, x 1, eq_ix2 (n0 := 512) (n1 := 512) x⟩
  have e : k0_pay1 (F := Ideal) (k0_pay5 x0 x1) (View.ld x2 (Rect.unit ![0, o] ![1024, 512] inb)) (ix2 p q)
      = ∑ k : Fin 1024, (k0_pay5 (F := Ideal) x0 x1 (ix2 p k) : EReal) * View.ld x2 (Rect.unit ![0, o] ![1024, 512] inb) (ix2 k q) := by
    generalize k0_pay5 (F := Ideal) x0 x1 = h
    generalize View.ld x2 (Rect.unit ![0, o] ![1024, 512] inb) = w
    unfold k0_pay1
    pointwise [dot_S512x1024_S1024x512_S512x512_1_0_0_1_n_n]
  rw [e]
  unfold prod
  refine Finset.sum_congr rfl fun k _ => ?_
  have e1 : ((Rect.unit (s := S512x9728) ![0, o] ![512, 512] inb').emb (ix2 p q) (0 : Fin 2) : Fin 512) = p :=
    Fin.ext (by show 0 + 1 * p.val = p.val; omega)
  congr 1
  · exact congrArg (fun r : Fin 512 => k0_pay5 (F := Ideal) x0 x1 (ix2 r k)) e1.symm
  · refine congrArg x2 ?_
    funext a
    refine Fin.ext ?_
    fin_cases a
    · show 0 + 1 * k.val = k.val
      omega
    · rfl

/-- The block left in the first output's staging buffer, at an index: the nineteen column tiles are those of one product. -/
theorem out4_apply (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x9728 .bf16) (harg3 : arg3.IsWhole) (arg4 : Memref sig .tc .vmem S1024x128 .bf16) (harg4 : arg4.IsWhole) (arg5 : Memref sig .tc .vmem S512x9728 .bf16) (harg5 : arg5.IsWhole) (arg6 : Memref sig .tc .vmem S512x128 .f32) (harg6 : arg6.IsWhole) (arg7 : Memref sig .tc .vmem S512x1024 .bf16) (harg7 : arg7.IsWhole)
    (x0 : Vec Ideal S512x1024 .f32) (x1 : Vec Ideal S1x1024 .f32) (x2 : Vec Ideal S1024x9728 .bf16) (x3 : Vec Ideal S1024x128 .bf16) :
    out0_A_4 (F := Ideal) c i arg1 harg1 arg2 harg2 arg3 harg3 arg4 harg4 arg5 harg5 arg6 harg6 arg7 harg7 x0 x1 x2 x3 = prod x0 x1 x2 := by
  funext y
  have hc := cover0_A_4 (F := Ideal) c i arg1 harg1 arg2 harg2 arg3 harg3 arg4 harg4 arg5 harg5 arg6 harg6 arg7 harg7 x0 x1 x2 x3
  unfold out0_A_4
  rw [View.read_writes_eq_canon _ _ _ hc]
  refine View.canon_apply_of_pieces (prod x0 x1 x2) _ ?_ y (hc y)
  clear hc
  unfold kernelRun0_A
  dsimp only
  sl_unfold_words
  simp only [View.readAt_eq_ld, harg1.read_unread, harg2.read_unread, harg3.read_unread, harg4.read_unread]
  rw [View.readCov_unit_zero _ hz, View.ld_unit_zero hz, View.ld_unit_zero hz]
  repeat' refine List.forall_mem_cons.2 ⟨fun x => by dsimp only; exact tile_apply x0 x1 x2 _ _ _ x, ?_⟩
  exact fun _ h => absurd h List.not_mem_nil

/-- The second product, at an entry. -/
theorem pay4_apply (h : Vec Ideal S512x1024 .bf16) (w : Vec Ideal S1024x128 .bf16) (p : Fin 512) (q : Fin 128) :
    k0_pay4 (F := Ideal) h w (ix2 p q) = ∑ k : Fin 1024, (h (ix2 p k) : EReal) * w (ix2 k q) := by
  unfold k0_pay4
  pointwise [dot_S512x1024_S1024x128_S512x128_1_0_0_1_n_n]

/-- The normed row, at an entry. -/
theorem norm_apply (x : Vec Ideal S512x1024 .f32) (w : Vec Ideal S1x1024 .f32) (p : Fin 512) (q : Fin 1024) :
    k0_pay5 (F := Ideal) x w (ix2 p q) = (x (ix2 p q) : EReal)
      * Ideal.rsqrt (Ideal.div (∑ k : Fin 1024, (x (ix2 p k) : EReal) * x (ix2 p k)) (Ideal.ofBits .f32 1149239296#32) + Ideal.ofBits .f32 897988541#32)
      * w (ix2 0 q) := by
  unfold k0_pay5
  pointwise

end Cert.InProj

end
-- ==== Proof.InRef.lean ====
/- The input projection's reference at one entry. -/
module

public import proofs.«01_k».proof.Proof.Gen.Reference2Ideal.Read
public import Idealize.ShloMosaic.Lib.Pointwise

@[expose] public section

set_option maxRecDepth 16384

noncomputable section

namespace Cert.InProj

open Cert.Reference2Ideal Cert.Reference2Ideal.Read Idealize.ShloMosaic

/-- The normed row of the reference, at an entry. -/
theorem ref_norm (x0 : Vec Ideal S32768x1024 .f32) (x1 : Vec Ideal S1x1024 .f32) (p : Fin 32768) (q : Fin 1024) :
    val_main_v13 (F := Ideal) x0 x1 (ix2 p q) = (x0 (ix2 p q) : EReal)
      * Ideal.rsqrt (Ideal.div (∑ k : Fin 1024, (x0 (ix2 p k) : EReal) * x0 (ix2 p k)) (Ideal.ofBits .f32 1149239296#32) + Ideal.ofBits .f32 897988541#32)
      * x1 (ix2 0 q) := by
  simp only [val_main_v0, val_main_v1, val_main_cst, val_main_v2, val_main_v3, val_main_cst_0, val_main_v4, val_main_v5, val_main_cst_1, val_main_v6, val_main_v7, val_main_v8, val_main_v9, val_main_v10, val_main_v11, val_main_v12, val_main_v13]
  pointwise

/-- The wide product of the reference, at an entry. -/
theorem ref16 (x0 : Vec Ideal S32768x1024 .f32) (x1 : Vec Ideal S1x1024 .f32) (x2 : Vec Ideal S1024x9728 .bf16) (p : Fin 32768) (q : Fin 9728) :
    val_main_v16 (F := Ideal) x0 x1 x2 (ix2 p q) = ∑ k : Fin 1024, (val_main_v13 (F := Ideal) x0 x1 (ix2 p k) : EReal) * x2 (ix2 k q) := by
  simp only [val_main_v16, val_main_v15, val_main_v14]
  generalize val_main_v13 (F := Ideal) x0 x1 = h
  pointwise [dot_S32768x1024_S1024x9728_S32768x9728_1_0_0_1_n_n]

/-- The small product of the reference, at an entry. -/
theorem ref18 (x0 : Vec Ideal S32768x1024 .f32) (x1 : Vec Ideal S1x1024 .f32) (x2 : Vec Ideal S1024x128 .bf16) (p : Fin 32768) (q : Fin 128) :
    val_main_v18 (F := Ideal) x0 x1 x2 (ix2 p q) = ∑ k : Fin 1024, (val_main_v13 (F := Ideal) x0 x1 (ix2 p k) : EReal) * x2 (ix2 k q) := by
  simp only [val_main_v18, val_main_v17]
  generalize val_main_v13 (F := Ideal) x0 x1 = h
  pointwise [dot_S32768x1024_S1024x128_S32768x128_1_0_0_1_n_n]

end Cert.InProj

end
-- ==== Proof.InValue.lean ====
/- The input projection: what the kernel's two result arrays hold is the reference's results. -/
module

public import proofs.«01_k».proof.Proof.InPayload
public import proofs.«01_k».proof.Proof.InRef

@[expose] public section

set_option maxRecDepth 16384

noncomputable section

namespace Cert.InProj

open Cert.Kernel2Ideal Cert.Kernel2Ideal.Gen Cert.Kernel2Ideal.Value Idealize.ShloMosaic Idealize.ShloMosaic.TcCoe Idealize.SL.Sem

/-- A weight row flattened and shaped back is itself, at an index. -/
theorem reshape_at (x : FVec Ideal S1x1024 .f32) (q : Fin 1024) :
    shapeCast S1x1024 (shapeCast S1024 x shapeCasts_S1x1024_S1024) shapeCasts_S1024_S1x1024 (ix2 0 q) = x (ix2 0 q) := by
  pointwise

variable (m : (ℓ : Loc nD τ sig) → Buf (Elt Ideal) ℓ)

/-- The norm's weight as the kernel reads it. -/
theorem V_main_v1 (c : Dev nD) : (V m c main_v1 : FVec Ideal S1x1024 .f32) = shapeCast S1x1024 (shapeCast S1024 (m ((c : Thread nD τ).loc main_arg1)) shapeCasts_S1x1024_S1024) shapeCasts_S1024_S1x1024 := by
  unfold V hostOps0
  after_results_simp <;> rfl

/-- The block index of each window at a point. -/
theorem idx_all : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ (cfg0.win 4).flush t = true ∧ (cfg0.win 5).flush t = true :=
  (by decide +kernel : ∀ t : Fin grid0.N, _)

/-- A row of the whole array from its block and its place in the block. -/
abbrev row (t : Fin cfg0.N) (p : Fin 512) : Fin 32768 := ⟨t.val * 512 + p.val, by have := lt_of_lt_of_eq t.isLt N_0; omega⟩

/-- The block of the stream at a point. -/
theorem blk0 (c : Dev nD) (t : Fin cfg0.N) (p : Fin 512) (q : Fin 1024) :
    iblk m c 0 t (ix2 p q) = m ((c : Thread nD τ).loc main_arg0) (ix2 (row t p) q) := by
  show V m c main_arg0 (((cfg0.win 0).blk t).view.emb (ix2 p q)) = _
  rw [V_main_arg0]
  congr 1
  have h := (idx_all t).1
  funext a
  refine Fin.ext ?_
  fin_cases a
  · show win0_0.index t (0 : Fin 2) * 512 + 1 * p.val = t.val * 512 + p.val
    rw [h]; simp
  · show win0_0.index t (1 : Fin 2) * 1024 + 1 * q.val = q.val
    rw [h]; simp

/-- The block of the norm's weight is the whole weight. -/
theorem blk1 (c : Dev nD) (t : Fin cfg0.N) (q : Fin 1024) :
    iblk m c 1 t (ix2 0 q) = m ((c : Thread nD τ).loc main_arg1) (ix2 0 q) := by
  have e : ((cfg0.win 1).blk t).view.emb (ix2 0 q) = ix2 0 q := by
    have h := (idx_all t).2.1
    funext a
    refine Fin.ext ?_
    fin_cases a
    · show win0_1.index t (0 : Fin 2) * 1 + 1 * 0 = 0
      rw [h]; simp
    · show win0_1.index t (1 : Fin 2) * 1024 + 1 * q.val = q.val
      rw [h]; simp
  show (V m c main_v1 : FVec Ideal S1x1024 .f32) (((cfg0.win 1).blk t).view.emb (ix2 0 q)) = _
  rw [e, V_main_v1]
  exact reshape_at _ q

/-- The block of a product's weight is the whole weight. -/
theorem blk2 (c : Dev nD) (t : Fin cfg0.N) (p : Fin 1024) (q : Fin 9728) :
    iblk m c 2 t (ix2 p q) = m ((c : Thread nD τ).loc main_arg2) (ix2 p q) := by
  show V m c main_arg2 (((cfg0.win 2).blk t).view.emb (ix2 p q)) = _
  rw [V_main_arg2]
  congr 1
  have h := (idx_all t).2.2.1
  funext a
  refine Fin.ext ?_
  fin_cases a
  · show win0_2.index t (0 : Fin 2) * 1024 + 1 * p.val = p.val
    rw [h]; simp
  · show win0_2.index t (1 : Fin 2) * 9728 + 1 * q.val = q.val
    rw [h]; simp

/-- The block of a product's weight is the whole weight. -/
theorem blk3 (c : Dev nD) (t : Fin cfg0.N) (p : Fin 1024) (q : Fin 128) :
    iblk m c 3 t (ix2 p q) = m ((c : Thread nD τ).loc main_arg3) (ix2 p q) := by
  show V m c main_arg3 (((cfg0.win 3).blk t).view.emb (ix2 p q)) = _
  rw [V_main_arg3]
  congr 1
  have h := (idx_all t).2.2.2.1
  funext a
  refine Fin.ext ?_
  fin_cases a
  · show win0_3.index t (0 : Fin 2) * 1024 + 1 * p.val = p.val
    rw [h]; simp
  · show win0_3.index t (1 : Fin 2) * 128 + 1 * q.val = q.val
    rw [h]; simp

/-- The block's normed rows are the reference's. -/
theorem norm_blk (c : Dev nD) (t : Fin cfg0.N) (p : Fin 512) (k : Fin 1024) :
    k0_pay5 (F := Ideal) (iblk m c 0 t) (iblk m c 1 t) (ix2 p k) = Cert.Reference2Ideal.Read.val_main_v13 (F := Ideal) (m ((c : Thread nD τ).loc main_arg0)) (m ((c : Thread nD τ).loc main_arg1)) (ix2 (row t p) k) := by
  rw [ref_norm]
  refine (norm_apply _ _ p k).trans ?_
  simp only [blk0, blk1]

/-- What a point writes back to the first result, at an index of its block. -/
theorem flushed4_apply (c : Dev nD) (t : Fin cfg0.N) (p : Fin 512) (q : Fin 9728) :
    (dats m 0 c).flushed 4 t (ix2 p q) = Cert.Reference2Ideal.Read.val_main_v16 (F := Ideal) (m ((c : Thread nD τ).loc main_arg0)) (m ((c : Thread nD τ).loc main_arg1)) (m ((c : Thread nD τ).loc main_arg2)) (ix2 (row t p) q) := by
  rw [flushed4_A, out4_apply, ref16]
  show (∑ k : Fin 1024, (k0_pay5 (F := Ideal) (iblk m c 0 t) (iblk m c 1 t) (ix2 p k) : EReal) * iblk m c 2 t (ix2 k q)) = _
  simp only [norm_blk, blk2]

/-- What a point writes back to the second result, at an index of its block. -/
theorem flushed5_apply (c : Dev nD) (t : Fin cfg0.N) (p : Fin 512) (q : Fin 128) :
    (dats m 0 c).flushed 5 t (ix2 p q) = Cert.Reference2Ideal.Read.val_main_v18 (F := Ideal) (m ((c : Thread nD τ).loc main_arg0)) (m ((c : Thread nD τ).loc main_arg1)) (m ((c : Thread nD τ).loc main_arg3)) (ix2 (row t p) q) := by
  rw [flushed5_A, out5_eq, ref18]
  refine (pay4_apply _ _ p q).trans ?_
  simp only [norm_blk, blk3]

/-- The whole first result array. -/
theorem arr4_eq (c : Dev nD) :
    (dats m 0 c).arrAt 4 cfg0.N = Cert.Reference2Ideal.Read.val_main_v16 (F := Ideal) (m ((c : Thread nD τ).loc main_arg0)) (m ((c : Thread nD τ).loc main_arg1)) (m ((c : Thread nD τ).loc main_arg2)) := by
  funext i
  obtain ⟨r, q, rfl⟩ : ∃ (r : Fin 32768) (q : Fin 9728), i = ix2 r q := ⟨i 0, i 1, by funext a; fin_cases a <;> rfl⟩
  let t : Fin cfg0.N := ⟨r.val / 512, by have := N_0; exact lt_of_lt_of_eq (by omega : r.val / 512 < 64) N_0.symm⟩
  let p : Fin 512 := ⟨r.val % 512, by omega⟩
  have hr : r = row t p := Fin.ext (by show r.val = r.val / 512 * 512 + r.val % 512; omega)
  have h := congrFun (blocks4 m c t (idx_all t).2.2.2.2.2.2.1) (ix2 p q)
  rw [flushed4_apply, ← hr] at h
  rw [← h]
  show _ = (dats m 0 c).arrAt 4 cfg0.N (((cfg0.win 4).blk t).view.emb (ix2 p q))
  congr 1
  have hx := (idx_all t).2.2.2.2.1
  funext a
  refine Fin.ext ?_
  fin_cases a
  · show r.val = win0_4.index t (0 : Fin 2) * 512 + 1 * p.val
    rw [hx, hr]; simp
  · show q.val = win0_4.index t (1 : Fin 2) * 9728 + 1 * q.val
    rw [hx]; simp

/-- The whole second result array. -/
theorem arr5_eq (c : Dev nD) :
    (dats m 0 c).arrAt 5 cfg0.N = Cert.Reference2Ideal.Read.val_main_v18 (F := Ideal) (m ((c : Thread nD τ).loc main_arg0)) (m ((c : Thread nD τ).loc main_arg1)) (m ((c : Thread nD τ).loc main_arg3)) := by
  funext i
  obtain ⟨r, q, rfl⟩ : ∃ (r : Fin 32768) (q : Fin 128), i = ix2 r q := ⟨i 0, i 1, by funext a; fin_cases a <;> rfl⟩
  let t : Fin cfg0.N := ⟨r.val / 512, by have := N_0; exact lt_of_lt_of_eq (by omega : r.val / 512 < 64) N_0.symm⟩
  let p : Fin 512 := ⟨r.val % 512, by omega⟩
  have hr : r = row t p := Fin.ext (by show r.val = r.val / 512 * 512 + r.val % 512; omega)
  have h := congrFun (blocks5 m c t (idx_all t).2.2.2.2.2.2.2) (ix2 p q)
  rw [flushed5_apply, ← hr] at h
  rw [← h]
  show _ = (dats m 0 c).arrAt 5 cfg0.N (((cfg0.win 5).blk t).view.emb (ix2 p q))
  congr 1
  have hx := (idx_all t).2.2.2.2.2.1
  funext a
  refine Fin.ext ?_
  fin_cases a
  · show r.val = win0_5.index t (0 : Fin 2) * 512 + 1 * p.val
    rw [hx, hr]; simp
  · show q.val = win0_5.index t (1 : Fin 2) * 128 + 1 * q.val
    rw [hx]; simp

end Cert.InProj

end
-- ==== Proof.InClaim.lean ====
/- The input projection's value claim, assembled from the two runs. -/
module

public import proofs.«01_k».proof.Defs
public import proofs.«01_k».proof.Proof.InValue
public import proofs.«01_k».proof.Proof.Gen.Reference2Ideal.Run

@[expose] public section

set_option maxRecDepth 16384

noncomputable section

namespace Cert.InProj

open Idealize.ShloMosaic Idealize.SL.Sem

/-- Both runs end with the reference's stages of the arguments. -/
theorem algebraic : algebraic_Kernel2Ideal_Reference2Ideal (hKernel2Ideal := Cert.Kernel2Ideal.Gen.facts) (hReference2Ideal := Cert.Reference2Ideal.Gen.facts) := by
  intro m ρ m' ρ' _ hag
  refine ⟨fun c => Cert.Reference2Ideal.Read.val_main_v16 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    fun c => Cert.Reference2Ideal.Read.val_main_v18 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg3)),
    (θ_run _ _ _).mono (fun r h c => ⟨(h c).1.trans (arr4_eq m c), (h c).2.1.trans (arr5_eq m c), (h c).2.2⟩) (Cert.Kernel2Ideal.Value.run_blocks (F := Ideal) m ρ),
    (θ_run _ _ _).mono (fun r h c => ⟨(h c).1.trans ?_, (h c).2.1.trans ?_, (h c).2.2⟩) (Cert.Reference2Ideal.Value.run (F := Ideal) m' ρ')⟩ <;>
  obtain ⟨h0, h1, h2, h3⟩ := hag c
  · rw [h0, h1, h2]
    exact Cert.Reference2Ideal.Read.val_main_v16_eq (F := Ideal) _ _ _
  · rw [h0, h1, h3]
    exact Cert.Reference2Ideal.Read.val_main_v18_eq (F := Ideal) _ _ _

end Cert.InProj

end
-- ==== Proof.OutPayload.lean ====
/- What the output-projection body stores, at one entry: the residual plus the gated merge times the last weight. -/
module

public import proofs.«01_k».proof.Proof.Gen.Kernel3Ideal.Value
public import Idealize.ShloMosaic.Lib.Pointwise
public import Idealize.ShloMosaic.Lib.ValueIdx

@[expose] public section

set_option maxRecDepth 16384

noncomputable section

namespace Cert.OutProj

open Cert.Kernel3Ideal Cert.Kernel3Ideal.Gen Idealize.ShloMosaic Idealize.ShloMosaic.TcCoe Idealize.SL.Sem

variable {F : FTy → Type} [FloatOps F]

/-- The offsets of a whole block are zero. -/
theorem hz : (![0, 0] : Fin 2 → Nat) = fun _ => 0 := by
  funext a; fin_cases a <;> rfl

/-- The block left in the output's staging buffer is the payload of the input blocks. -/
theorem out_eq (c : Dev nD) (i : grid0.Coords) (arg1 : Memref sig .tc .vmem S512x1024 .f32) (harg1 : arg1.IsWhole) (arg2 : Memref sig .tc .vmem S512x2048 .bf16) (harg2 : arg2.IsWhole) (arg3 : Memref sig .tc .vmem S512x1024 .bf16) (harg3 : arg3.IsWhole) (arg4 : Memref sig .tc .vmem S512x2048 .bf16) (harg4 : arg4.IsWhole) (arg5 : Memref sig .tc .vmem S1024x1024 .bf16) (harg5 : arg5.IsWhole) (arg6 : Memref sig .tc .vmem S2048x1024 .bf16) (harg6 : arg6.IsWhole) (arg7 : Memref sig .tc .vmem S1024x1024 .bf16) (harg7 : arg7.IsWhole) (arg8 : Memref sig .tc .vmem S512x1024 .f32) (harg8 : arg8.IsWhole)
    (x0 : Vec F S512x1024 .f32) (x1 : Vec F S512x2048 .bf16) (x2 : Vec F S512x1024 .bf16) (x3 : Vec F S512x2048 .bf16) (x4 : Vec F S1024x1024 .bf16) (x5 : Vec F S2048x1024 .bf16) (x6 : Vec F S1024x1024 .bf16) :
    out0_A_7 c i arg1 harg1 arg2 harg2 arg3 harg3 arg4 harg4 arg5 harg5 arg6 harg6 arg7 harg7 arg8 harg8 x0 x1 x2 x3 x4 x5 x6
      = k0_pay1 x2 x4 x3 x5 x1 x0 x6 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread]
  refine (View.canon_unit_zero hz _ _).trans ?_
  congr 1 <;> exact View.ld_unit_zero hz _ _

/-- The payload at one entry: the residual plus the gated merge of the two branch products times the last weight. -/
theorem pay_apply (v0 : Vec Ideal S512x1024 .bf16) (v1 : Vec Ideal S1024x1024 .bf16) (v4 : Vec Ideal S512x2048 .bf16) (v5 : Vec Ideal S2048x1024 .bf16) (v8 : Vec Ideal S512x2048 .bf16) (v29 : Vec Ideal S512x1024 .f32) (v31 : Vec Ideal S1024x1024 .bf16) (p : Fin 512) (q : Fin 1024) :
    k0_pay1 (F := Ideal) v0 v1 v4 v5 v8 v29 v31 (ix2 p q) = (v29 (ix2 p q) : EReal) + ∑ x : Fin 1024,
      (Ideal.div 1 (1 + Ideal.exp (-(v8 (ix2 p ⟨x.val, by omega⟩) : EReal))) * ∑ y : Fin 1024, (v0 (ix2 p y) : EReal) * v1 (ix2 y x)
        + Ideal.div 1 (1 + Ideal.exp (-(v8 (ix2 p ⟨1024 + x.val, by omega⟩) : EReal))) * ∑ y : Fin 2048, (v4 (ix2 p y) : EReal) * v5 (ix2 y x))
      * v31 (ix2 x q) := by
  unfold_payloads
  pointwise [dot_S512x1024_S1024x1024_S512x1024_1_0_0_1_n_n, dot_S512x2048_S2048x1024_S512x1024_1_0_0_1_n_n, zero_sub]

end Cert.OutProj

end
-- ==== Proof.OutRef.lean ====
/- The output projection's reference at one entry. -/
module

public import proofs.«01_k».proof.Proof.Gen.Reference3Ideal.Read
public import Idealize.ShloMosaic.Lib.Pointwise

@[expose] public section

set_option maxRecDepth 16384

noncomputable section

namespace Cert.OutProj

open Cert.Reference3Ideal Cert.Reference3Ideal.Gen Cert.Reference3Ideal.Read Idealize.ShloMosaic Idealize.ShloMosaic.TcCoe Idealize.SL.Sem

/-- The reference's result at one entry. -/
theorem ref_apply (x0 : FVec Ideal S32768x1024 .f32) (x1 : FVec Ideal S32768x9728 .bf16) (x2 : FVec Ideal S32768x1024 .bf16) (x3 : FVec Ideal S32768x2048 .bf16)
    (x4 : FVec Ideal S1x1024x1024 .f32) (x5 : FVec Ideal S1x2048x1024 .f32) (x6 : FVec Ideal S1x1024x1024 .f32) (p : Fin 32768) (q : Fin 1024) :
    val_main_v27 (F := Ideal) x0 x1 x2 x3 x4 x5 x6 (ix2 p q) = (x0 (ix2 p q) : EReal) + ∑ x : Fin 1024,
      (Ideal.div 1 (1 + Ideal.exp (-(x1 (ix2 p ⟨2048 + x.val, by omega⟩) : EReal))) * ∑ y : Fin 1024, (x2 (ix2 p y) : EReal) * x4 (ix3 0 y x)
        + Ideal.div 1 (1 + Ideal.exp (-(x1 (ix2 p ⟨2048 + (1024 + x.val), by omega⟩) : EReal))) * ∑ y : Fin 2048, (x3 (ix2 p y) : EReal) * x5 (ix3 0 y x))
      * x6 (ix3 0 x q) := by
  simp only [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  pointwise [dot_S32768x1024_S1024x1024_S32768x1024_1_0_0_1_n_n, dot_S32768x2048_S2048x1024_S32768x1024_1_0_0_1_n_n]

end Cert.OutProj

end
-- ==== Proof.OutValue.lean ====
/- The output projection: what the kernel's result array holds is the reference's result. -/
module

public import proofs.«01_k».proof.Proof.OutPayload
public import proofs.«01_k».proof.Proof.OutRef

@[expose] public section

set_option maxRecDepth 16384

noncomputable section

namespace Cert.OutProj

open Cert.Kernel3Ideal Cert.Kernel3Ideal.Gen Cert.Kernel3Ideal.Value Idealize.ShloMosaic Idealize.ShloMosaic.TcCoe Idealize.SL.Sem

/-- A weight cast down with its batch axis dropped, at an index. -/
theorem cast_at (x : FVec Ideal S1x1024x1024 .f32) (p q : Fin 1024) :
    truncf (F := Ideal) .bf16 (shapeCast S1024x1024 x shapeCasts_S1x1024x1024_S1024x1024) bitsLt_bf16_f32 (ix2 p q) = x (ix3 0 p q) := by
  pointwise

theorem cast_at' (x : FVec Ideal S1x2048x1024 .f32) (p : Fin 2048) (q : Fin 1024) :
    truncf (F := Ideal) .bf16 (shapeCast S2048x1024 x shapeCasts_S1x2048x1024_S2048x1024) bitsLt_bf16_f32 (ix2 p q) = x (ix3 0 p q) := by
  pointwise

variable (m : (ℓ : Loc nD τ sig) → Buf (Elt Ideal) ℓ)

/-- The first branch's weight as the kernel reads it: the argument, its batch axis dropped. -/
theorem V_main_v1 (c : Dev nD) : (V m c main_v1 : FVec Ideal S1024x1024 .bf16) = truncf (F := Ideal) .bf16 (shapeCast S1024x1024 (m ((c : Thread nD τ).loc main_arg4)) shapeCasts_S1x1024x1024_S1024x1024) bitsLt_bf16_f32 := by
  unfold V hostOps0
  after_results_simp <;> rfl
/-- The second branch's weight. -/
theorem V_main_v3 (c : Dev nD) : (V m c main_v3 : FVec Ideal S2048x1024 .bf16) = truncf (F := Ideal) .bf16 (shapeCast S2048x1024 (m ((c : Thread nD τ).loc main_arg5)) shapeCasts_S1x2048x1024_S2048x1024) bitsLt_bf16_f32 := by
  unfold V hostOps0
  after_results_simp <;> rfl
/-- The last weight. -/
theorem V_main_v5 (c : Dev nD) : (V m c main_v5 : FVec Ideal S1024x1024 .bf16) = truncf (F := Ideal) .bf16 (shapeCast S1024x1024 (m ((c : Thread nD τ).loc main_arg6)) shapeCasts_S1x1024x1024_S1024x1024) bitsLt_bf16_f32 := by
  unfold V hostOps0
  after_results_simp <;> rfl

/-- The block index of each window at a point. -/
theorem idx_all : ∀ t : Fin cfg0.N, win0_0.index t = ![t.val, 0] ∧ win0_1.index t = ![t.val, 1] ∧ win0_2.index t = ![t.val, 0] ∧ win0_3.index t = ![t.val, 0]
    ∧ win0_4.index t = ![0, 0] ∧ win0_5.index t = ![0, 0] ∧ win0_6.index t = ![0, 0] ∧ win0_7.index t = ![t.val, 0] ∧ (cfg0.win 7).flush t = true :=
  (by decide +kernel : ∀ t : Fin grid0.N, _)

/-- A row of the whole array from its block and its place in the block. -/
abbrev row (t : Fin cfg0.N) (p : Fin 512) : Fin 32768 := ⟨t.val * 512 + p.val, by have := lt_of_lt_of_eq t.isLt N_0; omega⟩

/-- The block of the stream at a point. -/
theorem blk0 (c : Dev nD) (t : Fin cfg0.N) (p : Fin 512) (q : Fin 1024) :
    iblk m c 0 t (ix2 p q) = m ((c : Thread nD τ).loc main_arg0) (ix2 (row t p) q) := by
  show V m c main_arg0 (((cfg0.win 0).blk t).view.emb (ix2 p q)) = _
  rw [V_main_arg0]
  congr 1
  have h := (idx_all t).1
  funext a
  refine Fin.ext ?_
  fin_cases a
  · show win0_0.index t (0 : Fin 2) * 512 + 1 * p.val = t.val * 512 + p.val
    rw [h]; simp
  · show win0_0.index t (1 : Fin 2) * 1024 + 1 * q.val = q.val
    rw [h]; simp

/-- The block of the first branch at a point. -/
theorem blk2 (c : Dev nD) (t : Fin cfg0.N) (p : Fin 512) (q : Fin 1024) :
    iblk m c 2 t (ix2 p q) = m ((c : Thread nD τ).loc main_arg2) (ix2 (row t p) q) := by
  show V m c main_arg2 (((cfg0.win 2).blk t).view.emb (ix2 p q)) = _
  rw [V_main_arg2]
  congr 1
  have h := (idx_all t).2.2.1
  funext a
  refine Fin.ext ?_
  fin_cases a
  · show win0_2.index t (0 : Fin 2) * 512 + 1 * p.val = t.val * 512 + p.val
    rw [h]; simp
  · show win0_2.index t (1 : Fin 2) * 1024 + 1 * q.val = q.val
    rw [h]; simp

/-- The block of the second branch at a point. -/
theorem blk3 (c : Dev nD) (t : Fin cfg0.N) (p : Fin 512) (q : Fin 2048) :
    iblk m c 3 t (ix2 p q) = m ((c : Thread nD τ).loc main_arg3) (ix2 (row t p) q) := by
  show V m c main_arg3 (((cfg0.win 3).blk t).view.emb (ix2 p q)) = _
  rw [V_main_arg3]
  congr 1
  have h := (idx_all t).2.2.2.1
  funext a
  refine Fin.ext ?_
  fin_cases a
  · show win0_3.index t (0 : Fin 2) * 512 + 1 * p.val = t.val * 512 + p.val
    rw [h]; simp
  · show win0_3.index t (1 : Fin 2) * 2048 + 1 * q.val = q.val
    rw [h]; simp

/-- The block of a weight is the whole weight. -/
theorem blk4 (c : Dev nD) (t : Fin cfg0.N) (p : Fin 1024) (q : Fin 1024) :
    iblk m c 4 t (ix2 p q) = m ((c : Thread nD τ).loc main_arg4) (ix3 0 p q) := by
  have e : ((cfg0.win 4).blk t).view.emb (ix2 p q) = ix2 p q := by
    have h := (idx_all t).2.2.2.2.1
    funext a
    refine Fin.ext ?_
    fin_cases a
    · show win0_4.index t (0 : Fin 2) * 1024 + 1 * p.val = p.val
      rw [h]; simp
    · show win0_4.index t (1 : Fin 2) * 1024 + 1 * q.val = q.val
      rw [h]; simp
  show (V m c main_v1 : FVec Ideal S1024x1024 .bf16) (((cfg0.win 4).blk t).view.emb (ix2 p q)) = _
  rw [e, V_main_v1]
  exact cast_at _ p q

/-- The block of a weight is the whole weight. -/
theorem blk5 (c : Dev nD) (t : Fin cfg0.N) (p : Fin 2048) (q : Fin 1024) :
    iblk m c 5 t (ix2 p q) = m ((c : Thread nD τ).loc main_arg5) (ix3 0 p q) := by
  have e : ((cfg0.win 5).blk t).view.emb (ix2 p q) = ix2 p q := by
    have h := (idx_all t).2.2.2.2.2.1
    funext a
    refine Fin.ext ?_
    fin_cases a
    · show win0_5.index t (0 : Fin 2) * 2048 + 1 * p.val = p.val
      rw [h]; simp
    · show win0_5.index t (1 : Fin 2) * 1024 + 1 * q.val = q.val
      rw [h]; simp
  show (V m c main_v3 : FVec Ideal S2048x1024 .bf16) (((cfg0.win 5).blk t).view.emb (ix2 p q)) = _
  rw [e, V_main_v3]
  exact cast_at' _ p q

/-- The block of a weight is the whole weight. -/
theorem blk6 (c : Dev nD) (t : Fin cfg0.N) (p : Fin 1024) (q : Fin 1024) :
    iblk m c 6 t (ix2 p q) = m ((c : Thread nD τ).loc main_arg6) (ix3 0 p q) := by
  have e : ((cfg0.win 6).blk t).view.emb (ix2 p q) = ix2 p q := by
    have h := (idx_all t).2.2.2.2.2.2.1
    funext a
    refine Fin.ext ?_
    fin_cases a
    · show win0_6.index t (0 : Fin 2) * 1024 + 1 * p.val = p.val
      rw [h]; simp
    · show win0_6.index t (1 : Fin 2) * 1024 + 1 * q.val = q.val
      rw [h]; simp
  show (V m c main_v5 : FVec Ideal S1024x1024 .bf16) (((cfg0.win 6).blk t).view.emb (ix2 p q)) = _
  rw [e, V_main_v5]
  exact cast_at _ p q

/-- The block of the gate columns at a point: the columns from 2048 on. -/
theorem blk1 (c : Dev nD) (t : Fin cfg0.N) (p : Fin 512) (q : Fin 2048) :
    X0_1 m c t (ix2 p q) = m ((c : Thread nD τ).loc main_arg1) (ix2 (row t p) ⟨2048 + q.val, by omega⟩) := by
  unfold X0_1 Pipeline.Window.fill
  rw [dif_pos (moved0_1 t (ix2 p q))]
  show V m c main_arg1 _ = _
  rw [V_main_arg1]
  congr 1
  have h := (idx_all t).2.1
  funext a
  refine Fin.ext ?_
  fin_cases a
  · show win0_1.index t (0 : Fin 2) * 512 + 1 * p.val = t.val * 512 + p.val
    rw [h]; simp
  · show win0_1.index t (1 : Fin 2) * 2048 + 1 * q.val = 2048 + q.val
    rw [h]; simp

/-- What a point writes back, at an index of its block. -/
theorem flushed_apply (c : Dev nD) (t : Fin cfg0.N) (p : Fin 512) (q : Fin 1024) :
    (dats m 0 c).flushed 7 t (ix2 p q) = Cert.Reference3Ideal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t p) q) := by
  rw [flushed7_A, out_eq, ref_apply]
  refine (pay_apply _ _ _ _ _ _ _ p q).trans ?_
  simp only [blk0, blk1, blk2, blk3, blk4, blk5, blk6]

/-- The whole result array. -/
theorem arr_eq (c : Dev nD) :
    (dats m 0 c).arrAt 7 cfg0.N = Cert.Reference3Ideal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨r, q, rfl⟩ : ∃ (r : Fin 32768) (q : Fin 1024), i = ix2 r q := ⟨i 0, i 1, by funext a; fin_cases a <;> rfl⟩
  let t : Fin cfg0.N := ⟨r.val / 512, by have := N_0; exact lt_of_lt_of_eq (by omega : r.val / 512 < 64) N_0.symm⟩
  let p : Fin 512 := ⟨r.val % 512, by omega⟩
  have hr : r = row t p := Fin.ext (by show r.val = r.val / 512 * 512 + r.val % 512; omega)
  have h := congrFun (blocks7 m c t (idx_all t).2.2.2.2.2.2.2.2) (ix2 p q)
  rw [flushed_apply, ← hr] at h
  rw [← h]
  show _ = (dats m 0 c).arrAt 7 cfg0.N (((cfg0.win 7).blk t).view.emb (ix2 p q))
  congr 1
  have hx := (idx_all t).2.2.2.2.2.2.2.1
  funext a
  refine Fin.ext ?_
  fin_cases a
  · show r.val = win0_7.index t (0 : Fin 2) * 512 + 1 * p.val
    rw [hx, hr]; simp
  · show q.val = win0_7.index t (1 : Fin 2) * 1024 + 1 * q.val
    rw [hx]; simp

end Cert.OutProj

end
-- ==== Proof.OutClaim.lean ====
/- The output projection's value claim, assembled from the two runs. -/
module

public import proofs.«01_k».proof.Defs
public import proofs.«01_k».proof.Proof.OutValue
public import proofs.«01_k».proof.Proof.Gen.Reference3Ideal.Run

@[expose] public section

noncomputable section

namespace Cert.OutProj

open Idealize.ShloMosaic Idealize.SL.Sem

/-- Both runs end with the reference's stage of the arguments. -/
theorem algebraic : algebraic_Kernel3Ideal_Reference3Ideal (hKernel3Ideal := Cert.Kernel3Ideal.Gen.facts) (hReference3Ideal := Cert.Reference3Ideal.Gen.facts) := by
  intro m ρ m' ρ' _ hag
  refine ⟨fun c => Cert.Reference3Ideal.Read.val_main_v27 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)),
    (θ_run _ _ _).mono (fun r h c => ⟨(h c).1.trans (arr_eq m c), (h c).2⟩) (Cert.Kernel3Ideal.Value.run_blocks (F := Ideal) m ρ),
    (θ_run _ _ _).mono (fun r h c => ⟨(h c).1.trans ?_, (h c).2⟩) (Cert.Reference3Ideal.Value.run (F := Ideal) m' ρ')⟩
  obtain ⟨h0, h1, h2, h3, h4, h5, h6⟩ := hag c
  rw [h0, h1, h2, h3, h4, h5, h6]
  exact Cert.Reference3Ideal.Read.val_main_v27_eq (F := Ideal) _ _ _ _ _ _ _

end Cert.OutProj

end
-- ==== Proof.SsdConv.lean ====
/- What the state-space kernel leaves of its convolution's inputs: the last three rows of a sequence. -/
module

public import proofs.«01_k».proof.Proof.Gen.Kernel4Ideal.Value
public import proofs.«01_k».proof.Proof.Gen.Reference4Ideal.Read
public import Idealize.ShloMosaic.Lib.WritesUnit
public import Idealize.ShloMosaic.Lib.Pointwise

@[expose] public section

set_option maxRecDepth 16384

noncomputable section

namespace Cert.Ssd

open Cert.Kernel4Ideal Cert.Kernel4Ideal.Gen Idealize.ShloMosaic Idealize.SL.Sem

/-- The one piece that covers a result's block, read back. -/
theorem whole_at {sig : RefSig} {κ : Kind} {sp : Space} (v : View sig κ sp S1x3x3072 .f32) (f) (i) (w : Vec Ideal S1x3x3072 .f32) (p : Fin 3) (q : Fin 3072) :
    v.read (Elt Ideal) (v.writes (Elt Ideal) f [⟨Rect.unit (s := S1x3x3072) ![0, 0, 0] ![1, 3, 3072] i, w⟩]) (ix3 0 p q) = w (ix3 0 p q) :=
  View.read_writes_cons_unit_of_mem v f i w _ _ (ix3 0 p q) rfl (by
    intro a
    match a with
    | ⟨0, _⟩ => rfl
    | ⟨1, _⟩ => show p.val = 0 + p.val; omega
    | ⟨2, _⟩ => show q.val = 0 + q.val; omega)

/-- Rows from 8 on, read back where they were stored. -/
theorem rows_at {sig : RefSig} {κ : Kind} {sp : Space} (v : View sig κ sp S136x3072 .f32) (f) (i) (w : Vec Ideal S128x3072 .f32)
    (L : List (View.Piece (Elt Ideal) S136x3072 .f32)) (r : Fin 136) (k : Fin 128) (hk : r.val = 8 + k.val) (q : Fin 3072) :
    v.read (Elt Ideal) (v.writes (Elt Ideal) f (⟨Rect.unit (s := S136x3072) ![8, 0] ![128, 3072] i, w⟩ :: L)) (ix2 r q) = w (ix2 k q) :=
  View.read_writes_cons_unit_of_mem v f i w _ _ (ix2 k q) rfl (by
    intro a
    match a with
    | ⟨0, _⟩ => exact hk
    | ⟨1, _⟩ => show q.val = 0 + q.val; omega)

/-- The last three rows of the scratch, read. -/
theorem ld_last (K : Vec Ideal S136x3072 .f32) (i) (p : Fin 3) (q : Fin 3072) :
    View.ld K (Rect.unit (s := S136x3072) ![133, 0] ![3, 3072] i) (ix2 p q) = K (ix2 ⟨133 + p.val, by omega⟩ q) := by
  show K _ = K _
  congr 1
  funext a
  refine Fin.ext ?_
  match a with
  | ⟨0, _⟩ => show 133 + 1 * p.val = 133 + p.val; omega
  | ⟨1, _⟩ => show 0 + 1 * q.val = q.val; omega

/-- A block read whole. -/
theorem ld_block (x : Vec Ideal S128x3072 .bf16) (i) (r : Fin 128) (q : Fin 3072) :
    View.ld x (Rect.unit (s := S128x3072) ![0, 0] ![128, 3072] i) (ix2 r q) = x (ix2 r q) := by
  show x _ = x _
  congr 1
  funext a
  refine Fin.ext ?_
  match a with
  | ⟨0, _⟩ => show 0 + 1 * r.val = r.val; omega
  | ⟨1, _⟩ => show 0 + 1 * q.val = q.val; omega

/-- The state is the three rows, under a batch axis. -/
theorem pay24_at (v : Vec Ideal S3x3072 .f32) (p : Fin 3) (q : Fin 3072) : k0_pay24 (F := Ideal) v (ix3 0 p q) = v (ix2 p q) := by
  unfold k0_pay24
  pointwise []

/-- The block's rows, widened. -/
theorem pay7_at (v : Vec Ideal S128x3072 .bf16) (r : Fin 128) (q : Fin 3072) : k0_pay7 (F := Ideal) v (ix2 r q) = v (ix2 r q) := by
  unfold k0_pay7
  pointwise []

/-- A sequence's last point leaves the last three rows of the block it reads. -/
theorem out_C_12 (c : Dev nD) (i : grid0.Coords) (arg2 : Memref sig .tc .vmem S128x3072 .bf16) (harg2 : arg2.IsWhole) (arg3 : Memref sig .tc .vmem S128x2048 .bf16) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S128x128 .bf16) (harg12 : arg12.IsWhole) (arg13 : Memref sig .tc .vmem S128x2048 .bf16) (harg13 : arg13.IsWhole) (arg14 : Memref sig .tc .vmem S1x3x3072 .f32) (harg14 : arg14.IsWhole) (arg15 : Memref sig .tc .vmem S1x2048x128 .f32) (harg15 : arg15.IsWhole) (arg16 : Memref sig .tc .vmem S136x3072 .f32) (harg16 : arg16.IsWhole) (arg17 : Memref sig .tc .vmem S128x2048 .f32) (harg17 : arg17.IsWhole) (arg18 : Memref sig .tc .vmem S128x1024 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S4x128x512 .f32) (harg22 : arg22.IsWhole) (arg23 : Memref sig .tc .vmem S128x2048 .f32) (harg23 : arg23.IsWhole) (hc0 : ¬cond0_0 i) (hc1 : cond0_1 i) (hc2 : cond0_2 i)
    (x0 : Vec Ideal S128x3072 .bf16) (x1 : Vec Ideal S128x2048 .bf16) (x2 : Vec Ideal S128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (x9 : Vec Ideal S256x2048 .bf16) (x10 : Vec Ideal S128x128 .bf16) (xs0 : Vec Ideal S136x3072 .f32) (xs6 : Vec Ideal S4x128x512 .f32)
    (p : Fin 3) (q : Fin 3072) :
    out0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 xs0 xs6 (ix3 0 p q) = x0 (ix2 (⟨125 + p.val, by omega⟩ : Fin 128) q) := by
  unfold out0_C_12 kernelRun0_C
  dsimp only
  sl_unfold_words
  simp only [View.readCov, View.readAt_eq_ld, harg2.read_unread]
  rw [whole_at, pay24_at, ld_last, rows_at _ _ _ _ _ _ ⟨125 + p.val, by omega⟩ (by show 133 + p.val = 8 + (125 + p.val); omega), pay7_at]
  exact ld_block x0 _ _ q

end Cert.Ssd

end
-- ==== Proof.SsdPay.lean ====
/- The state-space kernel's stages, cell by cell: the convolution and the head groups' states. -/
module

public import proofs.«01_k».proof.Proof.SsdConv
public import proofs.«01_k».proof.Proof.AttnTab
public import proofs.«01_k».proof.Proof.Gen.Reference4Ideal.Read
public import Idealize.ShloMosaic.Lib.WritesUnit
public import Idealize.ShloMosaic.Lib.Pointwise

@[expose] public section

set_option maxRecDepth 16384

noncomputable section

namespace Cert.Ssd

open Cert.Kernel4Ideal Cert.Kernel4Ideal.Gen Idealize.ShloMosaic Idealize.SL.Sem

/-- The logistic unit as the kernel writes it. -/
def sil (z : EReal) : EReal := z * Ideal.div 1 (1 + Ideal.exp (0 - z))

/-- A cell of the convolution: the bias and four taps, through the logistic unit. -/
def act (b w0 x0 w1 x1 w2 x2 w3 x3 : EReal) : EReal := sil (b + w0 * x0 + w1 * x1 + w2 * x2 + w3 * x3)

theorem slab0 (b w0 w1 w2 w3 : Vec Ideal S1x512 .f32) (x0 x1 x2 x3 : Vec Ideal S128x512 .f32) (r : Fin 128) (q : Fin 512) :
    k0_pay10 (F := Ideal) (k0_pay8 b w0 x0 w1 x1 w2 x2) (k0_pay9 w3) x3 (ix2 r q)
      = act (b (ix2 0 q)) (w0 (ix2 0 q)) (x0 (ix2 r q)) (w1 (ix2 0 q)) (x1 (ix2 r q)) (w2 (ix2 0 q)) (x2 (ix2 r q)) (w3 (ix2 0 q)) (x3 (ix2 r q)) := by
  unfold k0_pay10 k0_pay8 k0_pay9 act sil
  pointwise [Cert.Attn.bits_zero, Cert.Attn.bits_one]

theorem slab1 (b w0 w1 w2 w3 : Vec Ideal S1x512 .f32) (x0 x1 x2 x3 : Vec Ideal S128x512 .f32) (r : Fin 128) (q : Fin 512) :
    k0_pay13 (F := Ideal) (k0_pay11 b w0 x0 w1 x1 w2 x2) (k0_pay12 w3) x3 (ix2 r q)
      = act (b (ix2 0 q)) (w0 (ix2 0 q)) (x0 (ix2 r q)) (w1 (ix2 0 q)) (x1 (ix2 r q)) (w2 (ix2 0 q)) (x2 (ix2 r q)) (w3 (ix2 0 q)) (x3 (ix2 r q)) :=
  slab0 b w0 w1 w2 w3 x0 x1 x2 x3 r q

theorem slab2 (b w0 w1 w2 w3 : Vec Ideal S1x512 .f32) (x0 x1 x2 x3 : Vec Ideal S128x512 .f32) (r : Fin 128) (q : Fin 512) :
    k0_pay15 (F := Ideal) (k0_pay14 b w0 x0 w1 x1 w2 x2) w3 x3 (ix2 r q)
      = act (b (ix2 0 q)) (w0 (ix2 0 q)) (x0 (ix2 r q)) (w1 (ix2 0 q)) (x1 (ix2 r q)) (w2 (ix2 0 q)) (x2 (ix2 r q)) (w3 (ix2 0 q)) (x3 (ix2 r q)) :=
  slab0 b w0 w1 w2 w3 x0 x1 x2 x3 r q

theorem slab3 (b w0 w1 w2 w3 : Vec Ideal S1x512 .f32) (x0 x1 x2 x3 : Vec Ideal S128x512 .f32) (r : Fin 128) (q : Fin 512) :
    k0_pay17 (F := Ideal) (k0_pay16 b w0 x0 w1 x1 w2 x2) w3 x3 (ix2 r q)
      = act (b (ix2 0 q)) (w0 (ix2 0 q)) (x0 (ix2 r q)) (w1 (ix2 0 q)) (x1 (ix2 r q)) (w2 (ix2 0 q)) (x2 (ix2 r q)) (w3 (ix2 0 q)) (x3 (ix2 r q)) :=
  slab0 b w0 w1 w2 w3 x0 x1 x2 x3 r q

theorem slab4 (b w0 w1 w2 w3 : Vec Ideal S1x512 .f32) (x0 x1 x2 x3 : Vec Ideal S128x512 .f32) (r : Fin 128) (q : Fin 512) :
    k0_pay20 (F := Ideal) (k0_pay18 b w0 x0 w1 x1) (k0_pay19 w2 x2) w3 x3 (ix2 r q)
      = act (b (ix2 0 q)) (w0 (ix2 0 q)) (x0 (ix2 r q)) (w1 (ix2 0 q)) (x1 (ix2 r q)) (w2 (ix2 0 q)) (x2 (ix2 r q)) (w3 (ix2 0 q)) (x3 (ix2 r q)) :=
  slab0 b w0 w1 w2 w3 x0 x1 x2 x3 r q

/-- Head group 0: the state decayed, and what the chunk adds to it. -/
theorem grp0 (w : FVec Ideal S128x2048 .f32) (d : FVec Ideal S1x2048 .f32) (B : Vec Ideal S128x128 .f32) (X : Vec Ideal S128x512 .f32) (H : Vec Ideal S1x128x512 .f32) (n : Fin 128) (q : Fin 512) :
    k0_pay56 (F := Ideal) w d B X H (ix3 0 n q) = H (ix3 0 n q) * d (ix2 0 ⟨0 + q.val, by omega⟩)
      + ∑ l : Fin 128, B (ix2 l n) * (X (ix2 l q) * w (ix2 l ⟨0 + q.val, by omega⟩)) := by
  unfold k0_pay56
  pointwise [Cert.Attn.bits_zero]

/-- Head group 1: the state decayed, and what the chunk adds to it. -/
theorem grp1 (w : FVec Ideal S128x2048 .f32) (d : FVec Ideal S1x2048 .f32) (B : Vec Ideal S128x128 .f32) (X : Vec Ideal S128x512 .f32) (H : Vec Ideal S1x128x512 .f32) (n : Fin 128) (q : Fin 512) :
    k0_pay70 (F := Ideal) w d B X H (ix3 0 n q) = H (ix3 0 n q) * d (ix2 0 ⟨512 + q.val, by omega⟩)
      + ∑ l : Fin 128, B (ix2 l n) * (X (ix2 l q) * w (ix2 l ⟨512 + q.val, by omega⟩)) := by
  unfold k0_pay70
  pointwise [Cert.Attn.bits_zero]

/-- Head group 2: the state decayed, and what the chunk adds to it. -/
theorem grp2 (w : FVec Ideal S128x2048 .f32) (d : FVec Ideal S1x2048 .f32) (B : Vec Ideal S128x128 .f32) (X : Vec Ideal S128x512 .f32) (H : Vec Ideal S1x128x512 .f32) (n : Fin 128) (q : Fin 512) :
    k0_pay86 (F := Ideal) w d B X H (ix3 0 n q) = H (ix3 0 n q) * d (ix2 0 ⟨1024 + q.val, by omega⟩)
      + ∑ l : Fin 128, B (ix2 l n) * (X (ix2 l q) * w (ix2 l ⟨1024 + q.val, by omega⟩)) := by
  unfold k0_pay86
  pointwise [Cert.Attn.bits_zero]

/-- Head group 3: the state decayed, and what the chunk adds to it. -/
theorem grp3 (w : FVec Ideal S128x2048 .f32) (d : FVec Ideal S1x2048 .f32) (B : Vec Ideal S128x128 .f32) (X : Vec Ideal S128x512 .f32) (H : Vec Ideal S1x128x512 .f32) (n : Fin 128) (q : Fin 512) :
    k0_pay100 (F := Ideal) w d B X H (ix3 0 n q) = H (ix3 0 n q) * d (ix2 0 ⟨1536 + q.val, by omega⟩)
      + ∑ l : Fin 128, B (ix2 l n) * (X (ix2 l q) * w (ix2 l ⟨1536 + q.val, by omega⟩)) := by
  unfold k0_pay100
  pointwise [Cert.Attn.bits_zero]

end Cert.Ssd

end
-- ==== Proof.SsdLoad.lean ====
/- Stores and loads of the state-space kernel's scratch arrays. -/
module

public import proofs.«01_k».proof.Proof.SsdPay
public import proofs.«01_k».proof.Proof.Gen.Reference4Ideal.Read
public import Idealize.ShloMosaic.Lib.WritesUnit
public import Idealize.ShloMosaic.Lib.Pointwise

@[expose] public section

set_option maxRecDepth 16384

noncomputable section

namespace Cert.Ssd

open Cert.Kernel4Ideal Cert.Kernel4Ideal.Gen Idealize.ShloMosaic Idealize.SL.Sem

/-- A stored head group's state, read back. -/
theorem ht_hit {sig : RefSig} {κ : Kind} {sp : Space} (v : View sig κ sp S4x128x512 .f32) (f) (o : ℕ) (i) (w : Vec Ideal S1x128x512 .f32) (L : List (View.Piece (Elt Ideal) S4x128x512 .f32))
    (g : Fin 4) (hg : g.val = o) (n : Fin 128) (q : Fin 512) :
    v.read (Elt Ideal) (v.writes (Elt Ideal) f (⟨Rect.unit (s := S4x128x512) ![o, 0, 0] ![1, 128, 512] i, w⟩ :: L)) (ix3 g n q) = w (ix3 0 n q) :=
  View.read_writes_cons_unit_of_mem v f i w _ _ (ix3 0 n q) rfl (by
    intro a
    match a with
    | ⟨0, _⟩ => show g.val = o + 0; omega
    | ⟨1, _⟩ => show n.val = 0 + n.val; omega
    | ⟨2, _⟩ => show q.val = 0 + q.val; omega)

/-- A store of another head group leaves this one. -/
theorem ht_miss {sig : RefSig} {κ : Kind} {sp : Space} (v : View sig κ sp S4x128x512 .f32) (f) (o : ℕ) (i) (w : Vec Ideal S1x128x512 .f32) (L : List (View.Piece (Elt Ideal) S4x128x512 .f32))
    (g : Fin 4) (hg : g.val ≠ o) (n : Fin 128) (q : Fin 512) :
    v.read (Elt Ideal) (v.writes (Elt Ideal) f (⟨Rect.unit (s := S4x128x512) ![o, 0, 0] ![1, 128, 512] i, w⟩ :: L)) (ix3 g n q)
      = v.read (Elt Ideal) (v.writes (Elt Ideal) f L) (ix3 g n q) :=
  View.read_writes_cons_unit_of_not_mem v f i w _ _ rfl 0 (by show g.val < o ∨ o + 1 ≤ g.val; omega)

/-- The states set to zero, read back. -/
theorem ht_zero {sig : RefSig} {κ : Kind} {sp : Space} (v : View sig κ sp S4x128x512 .f32) (f) (i) (L : List (View.Piece (Elt Ideal) S4x128x512 .f32)) (g : Fin 4) (n : Fin 128) (q : Fin 512) :
    v.read (Elt Ideal) (v.writes (Elt Ideal) f (⟨Rect.unit (s := S4x128x512) ![0, 0, 0] ![4, 128, 512] i, k0_pay6 (F := Ideal)⟩ :: L)) (ix3 g n q) = 0 := by
  refine (View.read_writes_cons_unit_of_mem v f i _ _ _ (ix3 g n q) rfl ?_).trans ?_
  · intro a
    match a with
    | ⟨0, _⟩ => show g.val = 0 + g.val; omega
    | ⟨1, _⟩ => show n.val = 0 + n.val; omega
    | ⟨2, _⟩ => show q.val = 0 + q.val; omega
  · unfold k0_pay6
    pointwise [Cert.Attn.bits_zero]

/-- A head group's state, loaded. -/
theorem ld_ht (H : Vec Ideal S4x128x512 .f32) (o : ℕ) (i) (g : Fin 4) (hg : g.val = o) (n : Fin 128) (q : Fin 512) :
    View.ld H (Rect.unit (s := S4x128x512) ![o, 0, 0] ![1, 128, 512] i) (ix3 0 n q) = H (ix3 g n q) := by
  show H _ = H _
  congr 1
  funext a
  refine Fin.ext ?_
  match a with
  | ⟨0, _⟩ => show o + 1 * 0 = g.val; omega
  | ⟨1, _⟩ => show 0 + 1 * n.val = n.val; omega
  | ⟨2, _⟩ => show 0 + 1 * q.val = q.val; omega

/-- A stored slice of columns, read back. -/
theorem xs_hit {sig : RefSig} {κ : Kind} {sp : Space} (v : View sig κ sp S128x2048 .f32) (f) (o : ℕ) (i) (w : Vec Ideal S128x512 .f32) (L : List (View.Piece (Elt Ideal) S128x2048 .f32))
    (r : Fin 128) (C : Fin 2048) (q : Fin 512) (hq : C.val = o + q.val) :
    v.read (Elt Ideal) (v.writes (Elt Ideal) f (⟨Rect.unit (s := S128x2048) ![0, o] ![128, 512] i, w⟩ :: L)) (ix2 r C) = w (ix2 r q) :=
  View.read_writes_cons_unit_of_mem v f i w _ _ (ix2 r q) rfl (by
    intro a
    match a with
    | ⟨0, _⟩ => show r.val = 0 + r.val; omega
    | ⟨1, _⟩ => exact hq)

/-- A store of later columns leaves these. -/
theorem xs_miss {sig : RefSig} {κ : Kind} {sp : Space} (v : View sig κ sp S128x2048 .f32) (f) (o : ℕ) (i) (w : Vec Ideal S128x512 .f32) (L : List (View.Piece (Elt Ideal) S128x2048 .f32))
    (r : Fin 128) (C : Fin 2048) (hq : C.val < o) :
    v.read (Elt Ideal) (v.writes (Elt Ideal) f (⟨Rect.unit (s := S128x2048) ![0, o] ![128, 512] i, w⟩ :: L)) (ix2 r C)
      = v.read (Elt Ideal) (v.writes (Elt Ideal) f L) (ix2 r C) :=
  View.read_writes_cons_unit_of_not_mem v f i w _ _ rfl 1 (Or.inl hq)

/-- A stored slice of columns, read back. -/
theorem bc_hit {sig : RefSig} {κ : Kind} {sp : Space} (v : View sig κ sp S128x1024 .f32) (f) (o : ℕ) (i) (w : Vec Ideal S128x512 .f32) (L : List (View.Piece (Elt Ideal) S128x1024 .f32))
    (r : Fin 128) (C : Fin 1024) (q : Fin 512) (hq : C.val = o + q.val) :
    v.read (Elt Ideal) (v.writes (Elt Ideal) f (⟨Rect.unit (s := S128x1024) ![0, o] ![128, 512] i, w⟩ :: L)) (ix2 r C) = w (ix2 r q) :=
  View.read_writes_cons_unit_of_mem v f i w _ _ (ix2 r q) rfl (by
    intro a
    match a with
    | ⟨0, _⟩ => show r.val = 0 + r.val; omega
    | ⟨1, _⟩ => exact hq)

/-- A store of later columns leaves these. -/
theorem bc_miss {sig : RefSig} {κ : Kind} {sp : Space} (v : View sig κ sp S128x1024 .f32) (f) (o : ℕ) (i) (w : Vec Ideal S128x512 .f32) (L : List (View.Piece (Elt Ideal) S128x1024 .f32))
    (r : Fin 128) (C : Fin 1024) (hq : C.val < o) :
    v.read (Elt Ideal) (v.writes (Elt Ideal) f (⟨Rect.unit (s := S128x1024) ![0, o] ![128, 512] i, w⟩ :: L)) (ix2 r C)
      = v.read (Elt Ideal) (v.writes (Elt Ideal) f L) (ix2 r C) :=
  View.read_writes_cons_unit_of_not_mem v f i w _ _ rfl 1 (Or.inl hq)

/-- A slice of columns, loaded. -/
theorem ld_xs (K : Vec Ideal S128x2048 .f32) (a o : ℕ) (i) (r : Fin 128) (q : Fin 512) (R : Fin 128) (C : Fin 2048) (hR : R.val = a + r.val) (hC : C.val = o + q.val) :
    View.ld K (Rect.unit (s := S128x2048) ![a, o] ![128, 512] i) (ix2 r q) = K (ix2 R C) := by
  show K _ = K _
  congr 1
  funext b
  refine Fin.ext ?_
  match b with
  | ⟨0, _⟩ => show a + 1 * r.val = R.val; omega
  | ⟨1, _⟩ => show o + 1 * q.val = C.val; omega

/-- A slice of columns, loaded. -/
theorem ld_bc (K : Vec Ideal S128x1024 .f32) (a o : ℕ) (i) (r : Fin 128) (q : Fin 128) (R : Fin 128) (C : Fin 1024) (hR : R.val = a + r.val) (hC : C.val = o + q.val) :
    View.ld K (Rect.unit (s := S128x1024) ![a, o] ![128, 128] i) (ix2 r q) = K (ix2 R C) := by
  show K _ = K _
  congr 1
  funext b
  refine Fin.ext ?_
  match b with
  | ⟨0, _⟩ => show a + 1 * r.val = R.val; omega
  | ⟨1, _⟩ => show o + 1 * q.val = C.val; omega

/-- A slice of columns, loaded. -/
theorem ld_xp (K : Vec Ideal S136x3072 .f32) (a o : ℕ) (i) (r : Fin 128) (q : Fin 512) (R : Fin 136) (C : Fin 3072) (hR : R.val = a + r.val) (hC : C.val = o + q.val) :
    View.ld K (Rect.unit (s := S136x3072) ![a, o] ![128, 512] i) (ix2 r q) = K (ix2 R C) := by
  show K _ = K _
  congr 1
  funext b
  refine Fin.ext ?_
  match b with
  | ⟨0, _⟩ => show a + 1 * r.val = R.val; omega
  | ⟨1, _⟩ => show o + 1 * q.val = C.val; omega

/-- A row of the convolution's constants, loaded. -/
theorem ld_w (K : Vec Ideal S4x3072 .f32) (a o : ℕ) (i) (q : Fin 512) (R : Fin 4) (C : Fin 3072) (hR : R.val = a) (hC : C.val = o + q.val) :
    View.ld K (Rect.unit (s := S4x3072) ![a, o] ![1, 512] i) (ix2 0 q) = K (ix2 R C) := by
  show K _ = K _
  congr 1
  funext b
  refine Fin.ext ?_
  match b with
  | ⟨0, _⟩ => show a + 1 * 0 = R.val; omega
  | ⟨1, _⟩ => show o + 1 * q.val = C.val; omega

/-- A row of the convolution's constants, loaded. -/
theorem ld_b (K : Vec Ideal S1x3072 .f32) (a o : ℕ) (i) (q : Fin 512) (R : Fin 1) (C : Fin 3072) (hR : R.val = a) (hC : C.val = o + q.val) :
    View.ld K (Rect.unit (s := S1x3072) ![a, o] ![1, 512] i) (ix2 0 q) = K (ix2 R C) := by
  show K _ = K _
  congr 1
  funext b
  refine Fin.ext ?_
  match b with
  | ⟨0, _⟩ => show a + 1 * 0 = R.val; omega
  | ⟨1, _⟩ => show o + 1 * q.val = C.val; omega

/-- A scratch row: the block's own from row 8 on, the carried ones before. -/
def xrow (T : Vec Ideal S136x3072 .f32) (x0 : Vec Ideal S128x3072 .bf16) (R : Fin 136) (C : Fin 3072) : EReal :=
  if h : 8 ≤ R.val then x0 (ix2 ⟨R.val - 8, by omega⟩ C) else T (ix2 R C)

/-- The scratch once the block is stored over its carried rows. -/
theorem xp_at {sig : RefSig} {κ : Kind} {sp : Space} (v : View sig κ sp S136x3072 .f32) (f) (i) (w : Vec Ideal S128x3072 .f32) (x0 : Vec Ideal S128x3072 .bf16) (hw : ∀ r q, w (ix2 r q) = x0 (ix2 r q)) (L : List (View.Piece (Elt Ideal) S136x3072 .f32))
    (T : Vec Ideal S136x3072 .f32) (R : Fin 136) (C : Fin 3072) (hT : R.val < 8 → v.read (Elt Ideal) (v.writes (Elt Ideal) f L) (ix2 R C) = T (ix2 R C)) :
    v.read (Elt Ideal) (v.writes (Elt Ideal) f (⟨Rect.unit (s := S136x3072) ![8, 0] ![128, 3072] i, w⟩ :: L)) (ix2 R C) = xrow T x0 R C := by
  unfold xrow
  split_ifs with h
  · rw [rows_at v f i w L R ⟨R.val - 8, by omega⟩ (by show R.val = 8 + (R.val - 8); omega), hw]
  · rw [View.read_writes_cons_unit_of_not_mem v f i w _ _ rfl 0 (Or.inl (by show R.val < 8; omega)), hT (by omega)]

/-- The rows set to zero, read back. -/
theorem xp_zero {sig : RefSig} {κ : Kind} {sp : Space} (v : View sig κ sp S136x3072 .f32) (f) (i) (L : List (View.Piece (Elt Ideal) S136x3072 .f32)) (R : Fin 136) (hR : R.val < 8) (C : Fin 3072) :
    v.read (Elt Ideal) (v.writes (Elt Ideal) f (⟨Rect.unit (s := S136x3072) ![0, 0] ![8, 3072] i, k0_pay5 (F := Ideal)⟩ :: L)) (ix2 R C) = 0 := by
  refine (View.read_writes_cons_unit_of_mem v f i _ _ _ (ix2 ⟨R.val, hR⟩ C) rfl ?_).trans ?_
  · intro a
    match a with
    | ⟨0, _⟩ => show R.val = 0 + R.val; omega
    | ⟨1, _⟩ => show C.val = 0 + C.val; omega
  · unfold k0_pay5
    pointwise [Cert.Attn.bits_zero]

/-- A cell of the convolution at row `r` and column `C` of the block. -/
def cell (T : Vec Ideal S136x3072 .f32) (x0 : Vec Ideal S128x3072 .bf16) (x3 : Vec Ideal S4x3072 .f32) (x4 : Vec Ideal S1x3072 .f32) (r : Fin 128) (C : Fin 3072) : EReal :=
  act (x4 (ix2 0 C)) (x3 (ix2 0 C)) (xrow T x0 ⟨5 + r.val, by omega⟩ C) (x3 (ix2 1 C)) (xrow T x0 ⟨6 + r.val, by omega⟩ C)
    (x3 (ix2 2 C)) (xrow T x0 ⟨7 + r.val, by omega⟩ C) (x3 (ix2 3 C)) (xrow T x0 ⟨8 + r.val, by omega⟩ C)

end Cert.Ssd

end
-- ==== Proof.SsdStep.lean ====
/- One chunk of the state-space kernel: the states of a middle chunk and of a first one. -/
module

public import proofs.«01_k».proof.Proof.SsdLoad
public import proofs.«01_k».proof.Proof.Gen.Reference4Ideal.Read
public import Idealize.ShloMosaic.Lib.WritesUnit
public import Idealize.ShloMosaic.Lib.Pointwise

@[expose] public section

set_option maxHeartbeats 2000000
set_option maxRecDepth 16384

noncomputable section

namespace Cert.Ssd

open Cert.Kernel4Ideal Cert.Kernel4Ideal.Gen Idealize.ShloMosaic Idealize.SL.Sem

section

variable (x2 : Vec Ideal S128x128 .f32) (x5 x6 : Vec Ideal S1x128 .f32) (x9 : Vec Ideal S256x2048 .bf16) (x10 : Vec Ideal S128x128 .bf16)

/-- The step sizes of a block, one lane per head. -/
def dtv : FVec Ideal S128x128 .f32 :=
  k0_pay30 (k0_pay27 (View.ld x2 (Rect.unit ![0, 0] ![128, 128] inb_S128x128_S128x128_0_0)) (View.ld x5 (Rect.unit ![0, 0] ![1, 128] inb_S1x128_S1x128_0_0)))
    (k0_pay28 (View.ld x2 (Rect.unit ![0, 0] ![128, 128] inb_S128x128_S128x128_0_0)) (View.ld x5 (Rect.unit ![0, 0] ![1, 128] inb_S1x128_S1x128_0_0))) k0_pay29

/-- The running sums of the decays' logarithms. -/
def acsv : FVec Ideal S128x128 .f32 :=
  k0_pay31 (k0_pay27 (View.ld x2 (Rect.unit ![0, 0] ![128, 128] inb_S128x128_S128x128_0_0)) (View.ld x5 (Rect.unit ![0, 0] ![1, 128] inb_S1x128_S1x128_0_0)))
    (k0_pay28 (View.ld x2 (Rect.unit ![0, 0] ![128, 128] inb_S128x128_S128x128_0_0)) (View.ld x5 (Rect.unit ![0, 0] ![1, 128] inb_S1x128_S1x128_0_0))) k0_pay29
    (View.ld x6 (Rect.unit ![0, 0] ![1, 128] inb_S1x128_S1x128_0_0)) (View.ld x10 (Rect.unit ![0, 0] ![128, 128] inb_S128x128_S128x128_0_0))

/-- The weight of each position in the chunk's state, spread over the columns. -/
def wst : FVec Ideal S128x2048 .f32 :=
  k0_pay37 (dtv x2 x5) (acsv x2 x5 x6 x10) (View.ld x9 (Rect.unit ![0, 0] ![256, 2048] inb_S256x2048_S256x2048_0_0))

/-- The decay of the whole chunk, spread over the columns. -/
def dec : FVec Ideal S1x2048 .f32 :=
  k0_pay38 (k0_pay35 (k0_pay27 (View.ld x2 (Rect.unit ![0, 0] ![128, 128] inb_S128x128_S128x128_0_0)) (View.ld x5 (Rect.unit ![0, 0] ![1, 128] inb_S1x128_S1x128_0_0)))
    (k0_pay28 (View.ld x2 (Rect.unit ![0, 0] ![128, 128] inb_S128x128_S128x128_0_0)) (View.ld x5 (Rect.unit ![0, 0] ![1, 128] inb_S1x128_S1x128_0_0))) k0_pay29
    (View.ld x6 (Rect.unit ![0, 0] ![1, 128] inb_S1x128_S1x128_0_0)) (View.ld x10 (Rect.unit ![0, 0] ![128, 128] inb_S128x128_S128x128_0_0)))
    (View.ld x9 (Rect.unit ![0, 0] ![256, 2048] inb_S256x2048_S256x2048_0_0))

/-- What a chunk makes of a state: decayed, and its own part added. -/
def upd (T : Vec Ideal S136x3072 .f32) (x0 : Vec Ideal S128x3072 .bf16) (x3 : Vec Ideal S4x3072 .f32) (x4 : Vec Ideal S1x3072 .f32)
    (s : EReal) (g : Fin 4) (n : Fin 128) (q : Fin 512) : EReal :=
  s * dec x2 x5 x6 x9 x10 (ix2 0 ⟨512 * g.val + q.val, by omega⟩)
    + ∑ l : Fin 128, cell T x0 x3 x4 l ⟨2048 + (128 * g.val + n.val), by omega⟩
      * (cell T x0 x3 x4 l ⟨512 * g.val + q.val, by omega⟩ * wst x2 x5 x6 x9 x10 (ix2 l ⟨512 * g.val + q.val, by omega⟩))

end

/-- A cell of the convolution from the rows loaded. -/
theorem cell_ld (T : Vec Ideal S136x3072 .f32) (x0 : Vec Ideal S128x3072 .bf16) (x3 : Vec Ideal S4x3072 .f32) (x4 : Vec Ideal S1x3072 .f32) (K K8 : Vec Ideal S136x3072 .f32)
    (hK : ∀ R C, K (ix2 R C) = xrow T x0 R C) (h8 : ∀ (R : Fin 136) C, 8 ≤ R.val → K8 (ix2 R C) = xrow T x0 R C)
    (o : ℕ) (i4 i0 k0 i1 k1 i2 k2 i3 k3) (r : Fin 128) (q : Fin 512) (C : Fin 3072) (hC : C.val = o + q.val) :
    act (View.ld x4 (Rect.unit (s := S1x3072) ![0, o] ![1, 512] i4) (ix2 0 q))
      (View.ld x3 (Rect.unit (s := S4x3072) ![0, o] ![1, 512] i0) (ix2 0 q)) (View.ld K (Rect.unit (s := S136x3072) ![5, o] ![128, 512] k0) (ix2 r q))
      (View.ld x3 (Rect.unit (s := S4x3072) ![1, o] ![1, 512] i1) (ix2 0 q)) (View.ld K (Rect.unit (s := S136x3072) ![6, o] ![128, 512] k1) (ix2 r q))
      (View.ld x3 (Rect.unit (s := S4x3072) ![2, o] ![1, 512] i2) (ix2 0 q)) (View.ld K (Rect.unit (s := S136x3072) ![7, o] ![128, 512] k2) (ix2 r q))
      (View.ld x3 (Rect.unit (s := S4x3072) ![3, o] ![1, 512] i3) (ix2 0 q)) (View.ld K8 (Rect.unit (s := S136x3072) ![8, o] ![128, 512] k3) (ix2 r q))
      = cell T x0 x3 x4 r C := by
  unfold cell
  rw [ld_b x4 0 o i4 q 0 C rfl hC, ld_w x3 0 o i0 q 0 C rfl hC, ld_w x3 1 o i1 q 1 C rfl hC, ld_w x3 2 o i2 q 2 C rfl hC, ld_w x3 3 o i3 q 3 C rfl hC,
    ld_xp K 5 o k0 r q ⟨5 + r.val, by omega⟩ C rfl hC, ld_xp K 6 o k1 r q ⟨6 + r.val, by omega⟩ C rfl hC, ld_xp K 7 o k2 r q ⟨7 + r.val, by omega⟩ C rfl hC,
    ld_xp K8 8 o k3 r q ⟨8 + r.val, by omega⟩ C rfl hC, hK, hK, hK, h8 _ _ (by show 8 ≤ 8 + r.val; omega)]

/-- A block loaded and widened. -/
theorem block_at (x0 : Vec Ideal S128x3072 .bf16) (i) (r : Fin 128) (q : Fin 3072) :
    k0_pay7 (F := Ideal) (View.ld x0 (Rect.unit (s := S128x3072) ![0, 0] ![128, 3072] i)) (ix2 r q) = x0 (ix2 r q) := by
  rw [pay7_at, ld_block]

/-- Head group 0 of a chunk, from what its loads are. -/
theorem upd0 (x2 : Vec Ideal S128x128 .f32) (x5 x6 : Vec Ideal S1x128 .f32) (x9 : Vec Ideal S256x2048 .bf16) (x10 : Vec Ideal S128x128 .bf16)
    (T : Vec Ideal S136x3072 .f32) (x0 : Vec Ideal S128x3072 .bf16) (x3 : Vec Ideal S4x3072 .f32) (x4 : Vec Ideal S1x3072 .f32)
    (B : Vec Ideal S128x128 .f32) (X : Vec Ideal S128x512 .f32) (H : Vec Ideal S1x128x512 .f32) (s : EReal) (g : Fin 4) (hg : g.val = 0) (n : Fin 128) (q : Fin 512)
    (hH : H (ix3 0 n q) = s) (hB : ∀ l, B (ix2 l n) = cell T x0 x3 x4 l ⟨2048 + (0 + n.val), by omega⟩)
    (hX : ∀ l, X (ix2 l q) = cell T x0 x3 x4 l ⟨0 + q.val, by omega⟩) :
    k0_pay56 (F := Ideal) (wst x2 x5 x6 x9 x10) (dec x2 x5 x6 x9 x10) B X H (ix3 0 n q) = upd x2 x5 x6 x9 x10 T x0 x3 x4 s g n q := by
  obtain rfl : g = 0 := Fin.ext hg
  rw [grp0, hH]
  exact congrArg (s * _ + ·) (Finset.sum_congr rfl fun l _ => by rw [hB, hX]; rfl)

/-- Head group 1 of a chunk, from what its loads are. -/
theorem upd1 (x2 : Vec Ideal S128x128 .f32) (x5 x6 : Vec Ideal S1x128 .f32) (x9 : Vec Ideal S256x2048 .bf16) (x10 : Vec Ideal S128x128 .bf16)
    (T : Vec Ideal S136x3072 .f32) (x0 : Vec Ideal S128x3072 .bf16) (x3 : Vec Ideal S4x3072 .f32) (x4 : Vec Ideal S1x3072 .f32)
    (B : Vec Ideal S128x128 .f32) (X : Vec Ideal S128x512 .f32) (H : Vec Ideal S1x128x512 .f32) (s : EReal) (g : Fin 4) (hg : g.val = 1) (n : Fin 128) (q : Fin 512)
    (hH : H (ix3 0 n q) = s) (hB : ∀ l, B (ix2 l n) = cell T x0 x3 x4 l ⟨2048 + (128 + n.val), by omega⟩)
    (hX : ∀ l, X (ix2 l q) = cell T x0 x3 x4 l ⟨512 + q.val, by omega⟩) :
    k0_pay70 (F := Ideal) (wst x2 x5 x6 x9 x10) (dec x2 x5 x6 x9 x10) B X H (ix3 0 n q) = upd x2 x5 x6 x9 x10 T x0 x3 x4 s g n q := by
  obtain rfl : g = 1 := Fin.ext hg
  rw [grp1, hH]
  exact congrArg (s * _ + ·) (Finset.sum_congr rfl fun l _ => by rw [hB, hX]; rfl)

/-- Head group 2 of a chunk, from what its loads are. -/
theorem upd2 (x2 : Vec Ideal S128x128 .f32) (x5 x6 : Vec Ideal S1x128 .f32) (x9 : Vec Ideal S256x2048 .bf16) (x10 : Vec Ideal S128x128 .bf16)
    (T : Vec Ideal S136x3072 .f32) (x0 : Vec Ideal S128x3072 .bf16) (x3 : Vec Ideal S4x3072 .f32) (x4 : Vec Ideal S1x3072 .f32)
    (B : Vec Ideal S128x128 .f32) (X : Vec Ideal S128x512 .f32) (H : Vec Ideal S1x128x512 .f32) (s : EReal) (g : Fin 4) (hg : g.val = 2) (n : Fin 128) (q : Fin 512)
    (hH : H (ix3 0 n q) = s) (hB : ∀ l, B (ix2 l n) = cell T x0 x3 x4 l ⟨2048 + (256 + n.val), by omega⟩)
    (hX : ∀ l, X (ix2 l q) = cell T x0 x3 x4 l ⟨1024 + q.val, by omega⟩) :
    k0_pay86 (F := Ideal) (wst x2 x5 x6 x9 x10) (dec x2 x5 x6 x9 x10) B X H (ix3 0 n q) = upd x2 x5 x6 x9 x10 T x0 x3 x4 s g n q := by
  obtain rfl : g = 2 := Fin.ext hg
  rw [grp2, hH]
  exact congrArg (s * _ + ·) (Finset.sum_congr rfl fun l _ => by rw [hB, hX]; rfl)

/-- Head group 3 of a chunk, from what its loads are. -/
theorem upd3 (x2 : Vec Ideal S128x128 .f32) (x5 x6 : Vec Ideal S1x128 .f32) (x9 : Vec Ideal S256x2048 .bf16) (x10 : Vec Ideal S128x128 .bf16)
    (T : Vec Ideal S136x3072 .f32) (x0 : Vec Ideal S128x3072 .bf16) (x3 : Vec Ideal S4x3072 .f32) (x4 : Vec Ideal S1x3072 .f32)
    (B : Vec Ideal S128x128 .f32) (X : Vec Ideal S128x512 .f32) (H : Vec Ideal S1x128x512 .f32) (s : EReal) (g : Fin 4) (hg : g.val = 3) (n : Fin 128) (q : Fin 512)
    (hH : H (ix3 0 n q) = s) (hB : ∀ l, B (ix2 l n) = cell T x0 x3 x4 l ⟨2048 + (384 + n.val), by omega⟩)
    (hX : ∀ l, X (ix2 l q) = cell T x0 x3 x4 l ⟨1536 + q.val, by omega⟩) :
    k0_pay100 (F := Ideal) (wst x2 x5 x6 x9 x10) (dec x2 x5 x6 x9 x10) B X H (ix3 0 n q) = upd x2 x5 x6 x9 x10 T x0 x3 x4 s g n q := by
  obtain rfl : g = 3 := Fin.ext hg
  rw [grp3, hH]
  exact congrArg (s * _ + ·) (Finset.sum_congr rfl fun l _ => by rw [hB, hX]; rfl)

/-- A middle chunk of a sequence: what it leaves of the states. -/
theorem stepB (c : Dev nD) (i : grid0.Coords) (arg2 : Memref sig .tc .vmem S128x3072 .bf16) (harg2 : arg2.IsWhole) (arg3 : Memref sig .tc .vmem S128x2048 .bf16) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S128x128 .bf16) (harg12 : arg12.IsWhole) (arg13 : Memref sig .tc .vmem S128x2048 .bf16) (harg13 : arg13.IsWhole) (arg14 : Memref sig .tc .vmem S1x3x3072 .f32) (harg14 : arg14.IsWhole) (arg15 : Memref sig .tc .vmem S1x2048x128 .f32) (harg15 : arg15.IsWhole) (arg16 : Memref sig .tc .vmem S136x3072 .f32) (harg16 : arg16.IsWhole) (arg17 : Memref sig .tc .vmem S128x2048 .f32) (harg17 : arg17.IsWhole) (arg18 : Memref sig .tc .vmem S128x1024 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S4x128x512 .f32) (harg22 : arg22.IsWhole) (arg23 : Memref sig .tc .vmem S128x2048 .f32) (harg23 : arg23.IsWhole) (hc0 : ¬cond0_0 i) (hc1 : ¬cond0_1 i) (hc2 : ¬cond0_2 i)
    (x0 : Vec Ideal S128x3072 .bf16) (x1 : Vec Ideal S128x2048 .bf16) (x2 : Vec Ideal S128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (x9 : Vec Ideal S256x2048 .bf16) (x10 : Vec Ideal S128x128 .bf16) (xs0 : Vec Ideal S136x3072 .f32) (xs6 : Vec Ideal S4x128x512 .f32)
    (g : Fin 4) (n : Fin 128) (q : Fin 512) :
    sout0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 xs0 xs6 (ix3 g n q) = upd x2 x5 x6 x9 x10 xs0 x0 x3 x4 (xs6 (ix3 g n q)) g n q := by
  have hK : ∀ R C, View.read (Elt Ideal) arg16.view (arg16.view.writes (Elt Ideal) (harg16.unread xs0)
      [⟨Rect.unit (s := S136x3072) ![8, 0] ![128, 3072] inb_S136x3072_S128x3072_8_0, k0_pay7 (View.ld x0 (Rect.unit ![0, 0] ![128, 3072] inb_S128x3072_S128x3072_0_0))⟩]) (ix2 R C) = xrow xs0 x0 R C :=
    fun R C => xp_at _ _ _ _ _ (block_at x0 _) _ _ _ _ (fun _ => congrFun (harg16.read_unread xs0) _)
  have h8 : ∀ (R : Fin 136) C, 8 ≤ R.val → View.read (Elt Ideal) arg16.view (arg16.view.writes (Elt Ideal) arg16.view.junk
      [⟨Rect.unit (s := S136x3072) ![8, 0] ![128, 3072] inb_S136x3072_S128x3072_8_0, k0_pay7 (View.ld x0 (Rect.unit ![0, 0] ![128, 3072] inb_S128x3072_S128x3072_0_0))⟩]) (ix2 R C) = xrow xs0 x0 R C :=
    fun R C h => xp_at _ _ _ _ _ (block_at x0 _) _ _ _ _ (fun h' => absurd h (by omega))
  unfold sout0_B_6 kernelRun0_B
  dsimp only
  sl_unfold_words
  simp only [View.readCov, View.readAt_eq_ld, harg2.read_unread, harg4.read_unread, harg5.read_unread, harg6.read_unread, harg7.read_unread, harg8.read_unread, harg11.read_unread, harg12.read_unread, harg22.read_unread]
  rcases g with ⟨_ | _ | _ | _ | _, hg⟩
  · refine (ht_miss _ _ 3 _ _ _ _ (by show 0 ≠ 3; decide) _ _).trans ?_
    refine (ht_miss _ _ 2 _ _ _ _ (by show 0 ≠ 2; decide) _ _).trans ?_
    refine (ht_miss _ _ 1 _ _ _ _ (by show 0 ≠ 1; decide) _ _).trans ?_
    refine (ht_hit _ _ 0 _ _ _ _ (by rfl) _ _).trans ?_
    refine upd0 _ _ _ _ _ _ _ _ _ _ _ _ _ _ rfl _ _ ?_ (fun l => ?_) (fun l => ?_)
    · exact (ld_ht xs6 0 _ ⟨0, by decide⟩ rfl n q)
    · refine (ld_bc _ 0 0 _ l n l ⟨0 + n.val, by omega⟩ (by omega) rfl).trans ?_
      refine (bc_miss _ _ _ _ _ _ _ _ (by show 0 + n.val < 512; omega)).trans ?_
      refine (bc_hit _ _ _ _ _ _ _ _ ⟨0 + n.val, by omega⟩ (by show 0 + n.val = 0 + (0 + n.val); omega)).trans ?_
      refine (slab4 ..).trans ?_
      exact cell_ld _ _ _ _ _ _ hK h8 _ _ _ _ _ _ _ _ _ _ _ _ _ rfl
    · refine (ld_xs _ 0 0 _ l q l ⟨0 + q.val, by omega⟩ (by omega) rfl).trans ?_
      refine (xs_miss _ _ _ _ _ _ _ _ (by show 0 + q.val < 1536; omega)).trans ?_
      refine (xs_miss _ _ _ _ _ _ _ _ (by show 0 + q.val < 1024; omega)).trans ?_
      refine (xs_miss _ _ _ _ _ _ _ _ (by show 0 + q.val < 512; omega)).trans ?_
      refine (xs_hit _ _ _ _ _ _ _ _ q rfl).trans ?_
      refine (slab0 ..).trans ?_
      exact cell_ld _ _ _ _ _ _ hK h8 _ _ _ _ _ _ _ _ _ _ _ _ _ rfl
  · refine (ht_miss _ _ 3 _ _ _ _ (by show 1 ≠ 3; decide) _ _).trans ?_
    refine (ht_miss _ _ 2 _ _ _ _ (by show 1 ≠ 2; decide) _ _).trans ?_
    refine (ht_hit _ _ 1 _ _ _ _ (by rfl) _ _).trans ?_
    refine upd1 _ _ _ _ _ _ _ _ _ _ _ _ _ _ rfl _ _ ?_ (fun l => ?_) (fun l => ?_)
    · exact (ld_ht xs6 1 _ ⟨1, by decide⟩ rfl n q)
    · refine (ld_bc _ 0 128 _ l n l ⟨128 + n.val, by omega⟩ (by omega) rfl).trans ?_
      refine (bc_miss _ _ _ _ _ _ _ _ (by show 128 + n.val < 512; omega)).trans ?_
      refine (bc_hit _ _ _ _ _ _ _ _ ⟨128 + n.val, by omega⟩ (by show 128 + n.val = 0 + (128 + n.val); omega)).trans ?_
      refine (slab4 ..).trans ?_
      exact cell_ld _ _ _ _ _ _ hK h8 _ _ _ _ _ _ _ _ _ _ _ _ _ rfl
    · refine (ld_xs _ 0 512 _ l q l ⟨512 + q.val, by omega⟩ (by omega) rfl).trans ?_
      refine (xs_miss _ _ _ _ _ _ _ _ (by show 512 + q.val < 1536; omega)).trans ?_
      refine (xs_miss _ _ _ _ _ _ _ _ (by show 512 + q.val < 1024; omega)).trans ?_
      refine (xs_hit _ _ _ _ _ _ _ _ q rfl).trans ?_
      refine (slab1 ..).trans ?_
      exact cell_ld _ _ _ _ _ _ hK h8 _ _ _ _ _ _ _ _ _ _ _ _ _ rfl
  · refine (ht_miss _ _ 3 _ _ _ _ (by show 2 ≠ 3; decide) _ _).trans ?_
    refine (ht_hit _ _ 2 _ _ _ _ (by rfl) _ _).trans ?_
    refine upd2 _ _ _ _ _ _ _ _ _ _ _ _ _ _ rfl _ _ ?_ (fun l => ?_) (fun l => ?_)
    · exact (ld_ht xs6 2 _ ⟨2, by decide⟩ rfl n q)
    · refine (ld_bc _ 0 256 _ l n l ⟨256 + n.val, by omega⟩ (by omega) rfl).trans ?_
      refine (bc_miss _ _ _ _ _ _ _ _ (by show 256 + n.val < 512; omega)).trans ?_
      refine (bc_hit _ _ _ _ _ _ _ _ ⟨256 + n.val, by omega⟩ (by show 256 + n.val = 0 + (256 + n.val); omega)).trans ?_
      refine (slab4 ..).trans ?_
      exact cell_ld _ _ _ _ _ _ hK h8 _ _ _ _ _ _ _ _ _ _ _ _ _ rfl
    · refine (ld_xs _ 0 1024 _ l q l ⟨1024 + q.val, by omega⟩ (by omega) rfl).trans ?_
      refine (xs_miss _ _ _ _ _ _ _ _ (by show 1024 + q.val < 1536; omega)).trans ?_
      refine (xs_hit _ _ _ _ _ _ _ _ q rfl).trans ?_
      refine (slab2 ..).trans ?_
      exact cell_ld _ _ _ _ _ _ hK h8 _ _ _ _ _ _ _ _ _ _ _ _ _ rfl
  · refine (ht_hit _ _ 3 _ _ _ _ (by rfl) _ _).trans ?_
    refine upd3 _ _ _ _ _ _ _ _ _ _ _ _ _ _ rfl _ _ ?_ (fun l => ?_) (fun l => ?_)
    · exact (ld_ht xs6 3 _ ⟨3, by decide⟩ rfl n q)
    · refine (ld_bc _ 0 384 _ l n l ⟨384 + n.val, by omega⟩ (by omega) rfl).trans ?_
      refine (bc_miss _ _ _ _ _ _ _ _ (by show 384 + n.val < 512; omega)).trans ?_
      refine (bc_hit _ _ _ _ _ _ _ _ ⟨384 + n.val, by omega⟩ (by show 384 + n.val = 0 + (384 + n.val); omega)).trans ?_
      refine (slab4 ..).trans ?_
      exact cell_ld _ _ _ _ _ _ hK h8 _ _ _ _ _ _ _ _ _ _ _ _ _ rfl
    · refine (ld_xs _ 0 1536 _ l q l ⟨1536 + q.val, by omega⟩ (by omega) rfl).trans ?_
      refine (xs_hit _ _ _ _ _ _ _ _ q rfl).trans ?_
      refine (slab3 ..).trans ?_
      exact cell_ld _ _ _ _ _ _ hK h8 _ _ _ _ _ _ _ _ _ _ _ _ _ rfl
  · omega

/-- The first chunk of a sequence: what it leaves of the states. -/
theorem stepA (c : Dev nD) (i : grid0.Coords) (arg2 : Memref sig .tc .vmem S128x3072 .bf16) (harg2 : arg2.IsWhole) (arg3 : Memref sig .tc .vmem S128x2048 .bf16) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S128x128 .bf16) (harg12 : arg12.IsWhole) (arg13 : Memref sig .tc .vmem S128x2048 .bf16) (harg13 : arg13.IsWhole) (arg14 : Memref sig .tc .vmem S1x3x3072 .f32) (harg14 : arg14.IsWhole) (arg15 : Memref sig .tc .vmem S1x2048x128 .f32) (harg15 : arg15.IsWhole) (arg16 : Memref sig .tc .vmem S136x3072 .f32) (harg16 : arg16.IsWhole) (arg17 : Memref sig .tc .vmem S128x2048 .f32) (harg17 : arg17.IsWhole) (arg18 : Memref sig .tc .vmem S128x1024 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S4x128x512 .f32) (harg22 : arg22.IsWhole) (arg23 : Memref sig .tc .vmem S128x2048 .f32) (harg23 : arg23.IsWhole) (hc0 : cond0_0 i) (hc1 : ¬cond0_1 i) (hc2 : ¬cond0_2 i)
    (x0 : Vec Ideal S128x3072 .bf16) (x1 : Vec Ideal S128x2048 .bf16) (x2 : Vec Ideal S128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (x9 : Vec Ideal S256x2048 .bf16) (x10 : Vec Ideal S128x128 .bf16)
    (g : Fin 4) (n : Fin 128) (q : Fin 512) :
    sout0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 (ix3 g n q) = upd x2 x5 x6 x9 x10 (fun _ => 0) x0 x3 x4 0 g n q := by
  have hK : ∀ R C, View.read (Elt Ideal) arg16.view (arg16.view.writes (Elt Ideal) arg16.view.junk
      [⟨Rect.unit (s := S136x3072) ![8, 0] ![128, 3072] inb_S136x3072_S128x3072_8_0, k0_pay7 (View.ld x0 (Rect.unit ![0, 0] ![128, 3072] inb_S128x3072_S128x3072_0_0))⟩,
        ⟨Rect.unit (s := S136x3072) ![0, 0] ![8, 3072] inb_S136x3072_S8x3072_0_0, k0_pay5 (F := Ideal)⟩]) (ix2 R C) = xrow (fun _ => 0) x0 R C :=
    fun R C => xp_at _ _ _ _ _ (block_at x0 _) _ _ _ _ (fun h => by exact xp_zero _ _ _ _ _ h _)
  have h8 : ∀ (R : Fin 136) C, 8 ≤ R.val → View.read (Elt Ideal) arg16.view (arg16.view.writes (Elt Ideal) arg16.view.junk
      [⟨Rect.unit (s := S136x3072) ![8, 0] ![128, 3072] inb_S136x3072_S128x3072_8_0, k0_pay7 (View.ld x0 (Rect.unit ![0, 0] ![128, 3072] inb_S128x3072_S128x3072_0_0))⟩,
        ⟨Rect.unit (s := S136x3072) ![0, 0] ![8, 3072] inb_S136x3072_S8x3072_0_0, k0_pay5 (F := Ideal)⟩]) (ix2 R C) = xrow (fun _ => 0) x0 R C :=
    fun R C _ => hK R C
  unfold sout0_A_6 kernelRun0_A
  dsimp only
  sl_unfold_words
  simp only [View.readCov, View.readAt_eq_ld, harg2.read_unread, harg4.read_unread, harg5.read_unread, harg6.read_unread, harg7.read_unread, harg8.read_unread, harg11.read_unread, harg12.read_unread]
  rcases g with ⟨_ | _ | _ | _ | _, hg⟩
  · refine (ht_miss _ _ 3 _ _ _ _ (by show 0 ≠ 3; decide) _ _).trans ?_
    refine (ht_miss _ _ 2 _ _ _ _ (by show 0 ≠ 2; decide) _ _).trans ?_
    refine (ht_miss _ _ 1 _ _ _ _ (by show 0 ≠ 1; decide) _ _).trans ?_
    refine (ht_hit _ _ 0 _ _ _ _ (by rfl) _ _).trans ?_
    refine upd0 _ _ _ _ _ _ _ _ _ _ _ _ _ _ rfl _ _ ?_ (fun l => ?_) (fun l => ?_)
    · exact ((ld_ht _ 0 _ ⟨0, by decide⟩ rfl n q).trans (ht_zero ..))
    · refine (ld_bc _ 0 0 _ l n l ⟨0 + n.val, by omega⟩ (by omega) rfl).trans ?_
      refine (bc_miss _ _ _ _ _ _ _ _ (by show 0 + n.val < 512; omega)).trans ?_
      refine (bc_hit _ _ _ _ _ _ _ _ ⟨0 + n.val, by omega⟩ (by show 0 + n.val = 0 + (0 + n.val); omega)).trans ?_
      refine (slab4 ..).trans ?_
      exact cell_ld _ _ _ _ _ _ hK h8 _ _ _ _ _ _ _ _ _ _ _ _ _ rfl
    · refine (ld_xs _ 0 0 _ l q l ⟨0 + q.val, by omega⟩ (by omega) rfl).trans ?_
      refine (xs_miss _ _ _ _ _ _ _ _ (by show 0 + q.val < 1536; omega)).trans ?_
      refine (xs_miss _ _ _ _ _ _ _ _ (by show 0 + q.val < 1024; omega)).trans ?_
      refine (xs_miss _ _ _ _ _ _ _ _ (by show 0 + q.val < 512; omega)).trans ?_
      refine (xs_hit _ _ _ _ _ _ _ _ q rfl).trans ?_
      refine (slab0 ..).trans ?_
      exact cell_ld _ _ _ _ _ _ hK h8 _ _ _ _ _ _ _ _ _ _ _ _ _ rfl
  · refine (ht_miss _ _ 3 _ _ _ _ (by show 1 ≠ 3; decide) _ _).trans ?_
    refine (ht_miss _ _ 2 _ _ _ _ (by show 1 ≠ 2; decide) _ _).trans ?_
    refine (ht_hit _ _ 1 _ _ _ _ (by rfl) _ _).trans ?_
    refine upd1 _ _ _ _ _ _ _ _ _ _ _ _ _ _ rfl _ _ ?_ (fun l => ?_) (fun l => ?_)
    · exact (((ld_ht _ 1 _ ⟨1, by decide⟩ rfl n q).trans (ht_miss _ _ _ _ _ _ _ (by show 1 ≠ 0; decide) _ _)).trans (ht_zero ..))
    · refine (ld_bc _ 0 128 _ l n l ⟨128 + n.val, by omega⟩ (by omega) rfl).trans ?_
      refine (bc_miss _ _ _ _ _ _ _ _ (by show 128 + n.val < 512; omega)).trans ?_
      refine (bc_hit _ _ _ _ _ _ _ _ ⟨128 + n.val, by omega⟩ (by show 128 + n.val = 0 + (128 + n.val); omega)).trans ?_
      refine (slab4 ..).trans ?_
      exact cell_ld _ _ _ _ _ _ hK h8 _ _ _ _ _ _ _ _ _ _ _ _ _ rfl
    · refine (ld_xs _ 0 512 _ l q l ⟨512 + q.val, by omega⟩ (by omega) rfl).trans ?_
      refine (xs_miss _ _ _ _ _ _ _ _ (by show 512 + q.val < 1536; omega)).trans ?_
      refine (xs_miss _ _ _ _ _ _ _ _ (by show 512 + q.val < 1024; omega)).trans ?_
      refine (xs_hit _ _ _ _ _ _ _ _ q rfl).trans ?_
      refine (slab1 ..).trans ?_
      exact cell_ld _ _ _ _ _ _ hK h8 _ _ _ _ _ _ _ _ _ _ _ _ _ rfl
  · refine (ht_miss _ _ 3 _ _ _ _ (by show 2 ≠ 3; decide) _ _).trans ?_
    refine (ht_hit _ _ 2 _ _ _ _ (by rfl) _ _).trans ?_
    refine upd2 _ _ _ _ _ _ _ _ _ _ _ _ _ _ rfl _ _ ?_ (fun l => ?_) (fun l => ?_)
    · exact ((((ld_ht _ 2 _ ⟨2, by decide⟩ rfl n q).trans (ht_miss _ _ _ _ _ _ _ (by show 2 ≠ 1; decide) _ _)).trans (ht_miss _ _ _ _ _ _ _ (by show 2 ≠ 0; decide) _ _)).trans (ht_zero ..))
    · refine (ld_bc _ 0 256 _ l n l ⟨256 + n.val, by omega⟩ (by omega) rfl).trans ?_
      refine (bc_miss _ _ _ _ _ _ _ _ (by show 256 + n.val < 512; omega)).trans ?_
      refine (bc_hit _ _ _ _ _ _ _ _ ⟨256 + n.val, by omega⟩ (by show 256 + n.val = 0 + (256 + n.val); omega)).trans ?_
      refine (slab4 ..).trans ?_
      exact cell_ld _ _ _ _ _ _ hK h8 _ _ _ _ _ _ _ _ _ _ _ _ _ rfl
    · refine (ld_xs _ 0 1024 _ l q l ⟨1024 + q.val, by omega⟩ (by omega) rfl).trans ?_
      refine (xs_miss _ _ _ _ _ _ _ _ (by show 1024 + q.val < 1536; omega)).trans ?_
      refine (xs_hit _ _ _ _ _ _ _ _ q rfl).trans ?_
      refine (slab2 ..).trans ?_
      exact cell_ld _ _ _ _ _ _ hK h8 _ _ _ _ _ _ _ _ _ _ _ _ _ rfl
  · refine (ht_hit _ _ 3 _ _ _ _ (by rfl) _ _).trans ?_
    refine upd3 _ _ _ _ _ _ _ _ _ _ _ _ _ _ rfl _ _ ?_ (fun l => ?_) (fun l => ?_)
    · exact (((((ld_ht _ 3 _ ⟨3, by decide⟩ rfl n q).trans (ht_miss _ _ _ _ _ _ _ (by show 3 ≠ 2; decide) _ _)).trans (ht_miss _ _ _ _ _ _ _ (by show 3 ≠ 1; decide) _ _)).trans (ht_miss _ _ _ _ _ _ _ (by show 3 ≠ 0; decide) _ _)).trans (ht_zero ..))
    · refine (ld_bc _ 0 384 _ l n l ⟨384 + n.val, by omega⟩ (by omega) rfl).trans ?_
      refine (bc_miss _ _ _ _ _ _ _ _ (by show 384 + n.val < 512; omega)).trans ?_
      refine (bc_hit _ _ _ _ _ _ _ _ ⟨384 + n.val, by omega⟩ (by show 384 + n.val = 0 + (384 + n.val); omega)).trans ?_
      refine (slab4 ..).trans ?_
      exact cell_ld _ _ _ _ _ _ hK h8 _ _ _ _ _ _ _ _ _ _ _ _ _ rfl
    · refine (ld_xs _ 0 1536 _ l q l ⟨1536 + q.val, by omega⟩ (by omega) rfl).trans ?_
      refine (xs_hit _ _ _ _ _ _ _ _ q rfl).trans ?_
      refine (slab3 ..).trans ?_
      exact cell_ld _ _ _ _ _ _ hK h8 _ _ _ _ _ _ _ _ _ _ _ _ _ rfl
  · omega

end Cert.Ssd

end
-- ==== Proof.SsdDt.lean ====
/- The step sizes and decays of the state-space kernel, cell by cell. -/
module

public import proofs.«01_k».proof.Proof.SsdStep
public import proofs.«01_k».proof.Proof.AttnMath
public import proofs.«01_k».proof.Proof.Gen.Reference4Ideal.Read
public import Idealize.ShloMosaic.Lib.WritesUnit
public import Idealize.ShloMosaic.Lib.Pointwise

@[expose] public section

set_option maxRecDepth 16384

noncomputable section

namespace Cert.Ssd

open Cert.Kernel4Ideal Cert.Kernel4Ideal.Gen Idealize.ShloMosaic Idealize.SL.Sem

/-- The softplus of a number, as the kernel writes it. -/
def sp (z : EReal) : EReal := max z 0 + Ideal.log1p (Ideal.exp (0 - FloatOps.absf (F := Ideal) (φ := .f32) z))

/-- A block read whole. -/
theorem ld_sq (x : Vec Ideal S128x128 .f32) (i) (r q : Fin 128) : View.ld x (Rect.unit (s := S128x128) ![0, 0] ![128, 128] i) (ix2 r q) = x (ix2 r q) := by
  show x _ = x _
  congr 1
  funext a
  refine Fin.ext ?_
  match a with
  | ⟨0, _⟩ => show 0 + 1 * r.val = r.val; omega
  | ⟨1, _⟩ => show 0 + 1 * q.val = q.val; omega

/-- The table of running sums read whole. -/
theorem ld_tri (x : Vec Ideal S128x128 .bf16) (i) (r q : Fin 128) : View.ld x (Rect.unit (s := S128x128) ![0, 0] ![128, 128] i) (ix2 r q) = x (ix2 r q) :=
  ld_sq x i r q

/-- A row of lanes read whole. -/
theorem ld_row (x : Vec Ideal S1x128 .f32) (i) (q : Fin 128) : View.ld x (Rect.unit (s := S1x128) ![0, 0] ![1, 128] i) (ix2 0 q) = x (ix2 0 q) := by
  show x _ = x _
  congr 1
  funext a
  refine Fin.ext ?_
  match a with
  | ⟨0, _⟩ => rfl
  | ⟨1, _⟩ => show 0 + 1 * q.val = q.val; omega

/-- The table that spreads heads over columns, read whole. -/
theorem ld_e2 (x : Vec Ideal S256x2048 .bf16) (i) (r : Fin 256) (q : Fin 2048) : View.ld x (Rect.unit (s := S256x2048) ![0, 0] ![256, 2048] i) (ix2 r q) = x (ix2 r q) := by
  show x _ = x _
  congr 1
  funext a
  refine Fin.ext ?_
  match a with
  | ⟨0, _⟩ => show 0 + 1 * r.val = r.val; omega
  | ⟨1, _⟩ => show 0 + 1 * q.val = q.val; omega

section

variable (x2 : Vec Ideal S128x128 .f32) (x5 x6 : Vec Ideal S1x128 .f32) (x9 : Vec Ideal S256x2048 .bf16) (x10 : Vec Ideal S128x128 .bf16)

/-- A step size. -/
theorem dtv_at (l h : Fin 128) : dtv x2 x5 (ix2 l h) = sp (x2 (ix2 l h) + x5 (ix2 0 h)) := by
  rw [← ld_sq x2 inb_S128x128_S128x128_0_0, ← ld_row x5 inb_S1x128_S1x128_0_0]
  unfold dtv
  generalize View.ld x2 _ = y2
  generalize View.ld x5 _ = y5
  unfold k0_pay30 k0_pay27 k0_pay28 k0_pay29 k0_pay26 sp
  pointwise [Cert.Attn.bits_zero]

/-- A difference of a real number with itself. -/
theorem sub_self_real {z : EReal} (h : ∃ r : ℝ, z = (r : EReal)) : z - z = 0 := by
  obtain ⟨r, rfl⟩ := h
  rw [← EReal.coe_sub, sub_self, EReal.coe_zero]

/-- A running sum, when the head's decays are real: its three parts are the number, zero and zero. -/
theorem acs_gen (a b c : FVec Ideal S128x128 .f32) (A : Vec Ideal S1x128 .f32) (t : Vec Ideal S128x128 .bf16) (l h : Fin 128)
    (hd : ∀ k, ∃ r : ℝ, k0_pay30 a b c (ix2 k h) * (0 - Ideal.exp (A (ix2 0 h))) = (r : EReal)) :
    k0_pay31 (F := Ideal) a b c A t (ix2 l h) = ∑ k : Fin 128, t (ix2 l k) * (k0_pay30 a b c (ix2 k h) * (0 - Ideal.exp (A (ix2 0 h)))) := by
  unfold k0_pay31
  pointwise [Cert.Attn.bits_zero]
  have e1 : ¬ (256 + h.val < 128) := by omega
  have e2 : ¬ (256 + h.val - 128 < 128) := by omega
  have e3 : (⟨256 + h.val - 128 - 128, by omega⟩ : Fin 128) = h := Fin.ext (by show 256 + h.val - 128 - 128 = h.val; omega)
  simp only [e1, e2, dif_neg, not_false_iff, e3, sub_self_real (hd _), sub_zero, mul_zero, Finset.sum_const_zero, add_zero]

/-- The columns of a head, from the table that spreads heads. -/
theorem spread (f d : Fin 128 → EReal) (e : Vec Ideal S256x2048 .bf16) (C : Fin 2048)
    (he : ∀ j : Fin 256, e (ix2 j C) = if j.val % 128 = C.val / 64 then 1 else 0) (hd : d ⟨C.val / 64, by omega⟩ = 0) :
    (∑ x : Fin 128, f x * e (ix2 ⟨x.val, by omega⟩ C)) + ∑ x : Fin 128, d x * e (ix2 ⟨128 + x.val, by omega⟩ C) = f ⟨C.val / 64, by omega⟩ := by
  have h1 : ∀ (g : Fin 128 → EReal), (∑ x : Fin 128, g x * (if x.val = C.val / 64 then (1 : EReal) else 0)) = g ⟨C.val / 64, by omega⟩ := by
    intro g
    rw [Finset.sum_eq_single (⟨C.val / 64, by omega⟩ : Fin 128) ?_ (fun h => absurd (Finset.mem_univ _) h)]
    · rw [if_pos rfl, mul_one]
    · intro x _ hx
      rw [if_neg (fun h => hx (Fin.ext h)), mul_zero]
  have e1 : ∀ x : Fin 128, e (ix2 ⟨x.val, by omega⟩ C) = if x.val = C.val / 64 then 1 else 0 := fun x => by
    rw [he]
    show (if x.val % 128 = _ then (1 : EReal) else 0) = _
    rw [Nat.mod_eq_of_lt x.isLt]
  have e2 : ∀ x : Fin 128, e (ix2 ⟨128 + x.val, by omega⟩ C) = if x.val = C.val / 64 then 1 else 0 := fun x => by
    rw [he]
    show (if (128 + x.val) % 128 = _ then (1 : EReal) else 0) = _
    rw [show (128 + x.val) % 128 = x.val by omega]
  simp only [e1, e2, h1, hd, add_zero]

/-- A position's weight, over the columns of its head. -/
theorem wst_gen (dt acs : FVec Ideal S128x128 .f32) (e : Vec Ideal S256x2048 .bf16) (l : Fin 128) (C : Fin 2048)
    (he : ∀ j : Fin 256, e (ix2 j C) = if j.val % 128 = C.val / 64 then 1 else 0)
    (hr : ∃ r : ℝ, Ideal.exp (acs (ix2 127 ⟨C.val / 64, by omega⟩) - acs (ix2 l ⟨C.val / 64, by omega⟩)) * dt (ix2 l ⟨C.val / 64, by omega⟩) = (r : EReal)) :
    k0_pay37 (F := Ideal) dt acs e (ix2 l C)
      = Ideal.exp (acs (ix2 127 ⟨C.val / 64, by omega⟩) - acs (ix2 l ⟨C.val / 64, by omega⟩)) * dt (ix2 l ⟨C.val / 64, by omega⟩) := by
  unfold k0_pay37
  pointwise [Cert.Attn.bits_zero]
  exact spread (fun x => Ideal.exp (acs (ix2 127 x) - acs (ix2 l x)) * dt (ix2 l x))
    (fun x => Ideal.exp (acs (ix2 127 x) - acs (ix2 l x)) * dt (ix2 l x) - Ideal.exp (acs (ix2 127 x) - acs (ix2 l x)) * dt (ix2 l x)) e C he (sub_self_real hr)

/-- The chunk's decay, over the columns of its head. -/
theorem dec_gen (a b c : FVec Ideal S128x128 .f32) (A : Vec Ideal S1x128 .f32) (t : Vec Ideal S128x128 .bf16) (e : Vec Ideal S256x2048 .bf16) (C : Fin 2048)
    (he : ∀ j : Fin 256, e (ix2 j C) = if j.val % 128 = C.val / 64 then 1 else 0)
    (hr : ∃ r : ℝ, Ideal.exp (k0_pay31 a b c A t (ix2 127 ⟨C.val / 64, by omega⟩)) = (r : EReal)) :
    k0_pay38 (F := Ideal) (k0_pay35 a b c A t) e (ix2 0 C) = Ideal.exp (k0_pay31 a b c A t (ix2 127 ⟨C.val / 64, by omega⟩)) := by
  unfold k0_pay38 k0_pay36 k0_pay35
  pointwise [Cert.Attn.bits_zero]
  exact spread (fun x => Ideal.exp (k0_pay31 a b c A t (ix2 127 x))) (fun x => Ideal.exp (k0_pay31 a b c A t (ix2 127 x)) - Ideal.exp (k0_pay31 a b c A t (ix2 127 x))) e C he (sub_self_real hr)

end

end Cert.Ssd

end
-- ==== Proof.SsdScan.lean ====
module

public import proofs.«01_k».proof.Proof.SsdDt
public import proofs.«01_k».proof.Proof.Gen.Reference4Ideal.Read
public import Idealize.ShloMosaic.Lib.WritesUnit
public import Idealize.ShloMosaic.Lib.Pointwise

@[expose] public section

set_option maxRecDepth 16384

noncomputable section

namespace Cert.Ssd

open Cert.Kernel4Ideal Cert.Kernel4Ideal.Gen Idealize.ShloMosaic Idealize.SL.Sem

/-- A state carried through the chunks: decayed, then added to. -/
def st (tot add : ℕ → EReal) : ℕ → EReal
  | 0 => 0
  | n + 1 => st tot add n * Ideal.exp (tot n) + add n

theorem exp_add_real {a b : EReal} (ha : ∃ r : ℝ, a = (r : EReal)) (hb : ∃ r : ℝ, b = (r : EReal)) :
    Ideal.exp (a + b) = Ideal.exp a * Ideal.exp b := by
  obtain ⟨r, rfl⟩ := ha
  obtain ⟨s, rfl⟩ := hb
  rw [← EReal.coe_add]
  show ((Real.exp (r + s) : ℝ) : EReal) = ((Real.exp r : ℝ) : EReal) * ((Real.exp s : ℝ) : EReal)
  rw [← EReal.coe_mul, Real.exp_add]

/-- The state is the sum of what each chunk adds, decayed by the later chunks. -/
theorem st_sum (tot add : ℕ → EReal) (ht : ∀ n, ∃ r : ℝ, tot n = (r : EReal)) (n : ℕ) :
    st tot add n = ∑ z ∈ Finset.range n, Ideal.exp (∑ k ∈ Finset.range n, if z < k then tot k else 0) * add z := by
  induction n with
  | zero => simp [st]
  | succ n ih =>
    obtain ⟨r, hr⟩ := ht n
    have he : Ideal.exp (tot n) = ((Real.exp r : ℝ) : EReal) := by rw [hr]; rfl
    rw [st, ih, he, ← Cert.Attn.sum_mul_out _ _ _ (EReal.coe_nonneg.mpr (Real.exp_pos r).le) (EReal.coe_ne_top _), Finset.sum_range_succ]
    congr 1
    · refine Finset.sum_congr rfl fun z hz => ?_
      rw [Finset.sum_range_succ, if_pos (Finset.mem_range.mp hz), exp_add_real (Cert.Attn.sum_real _ _ fun k => ?_) (ht n), he, mul_right_comm]
      split
      · exact ht k
      · exact ⟨0, rfl⟩
    · rw [Finset.sum_eq_zero fun k hk => ?_]
      · show _ = ((Real.exp 0 : ℝ) : EReal) * _
        rw [Real.exp_zero, EReal.coe_one, one_mul]
      · rw [if_neg]
        have := Finset.mem_range.mp hk
        omega

/-- The carried state over sixteen chunks. -/
theorem st_16 (tot add : ℕ → EReal) (ht : ∀ n, ∃ r : ℝ, tot n = (r : EReal)) :
    st tot add 16 = ∑ z : Fin 16, Ideal.exp (∑ k : Fin 16, if z.val < k.val then tot k.val else 0) * add z.val := by
  rw [st_sum tot add ht, Finset.sum_range (fun z => Ideal.exp (∑ k ∈ Finset.range 16, if z < k then tot k else 0) * add z)]
  refine Finset.sum_congr rfl fun z _ => ?_
  rw [Finset.sum_range (fun k => if z.val < k then tot k else 0)]

/-- The softplus of a real number is real. -/
theorem sp_real {z : EReal} (h : ∃ r : ℝ, z = (r : EReal)) : ∃ r : ℝ, sp z = (r : EReal) := by
  obtain ⟨r, rfl⟩ := h
  unfold sp
  have h1 : max ((r : ℝ) : EReal) 0 = ((max r 0 : ℝ) : EReal) := by
    rcases le_total r 0 with h | h
    · rw [max_eq_right h, max_eq_right (EReal.coe_nonpos.mpr h), EReal.coe_zero]
    · rw [max_eq_left h, max_eq_left (EReal.coe_nonneg.mpr h)]
  have h2 : ∃ u : ℝ, (0 : EReal) - FloatOps.absf (F := Ideal) (φ := .f32) ((r : ℝ) : EReal) = (u : EReal) := by
    refine ⟨-max r (-r), ?_⟩
    show (0 : EReal) - max ((r : ℝ) : EReal) (-((r : ℝ) : EReal)) = _
    rw [← EReal.coe_neg, zero_sub, EReal.coe_neg]
    congr 1
  obtain ⟨u, hu⟩ := h2
  rw [h1, hu]
  have h3 : ∃ w : ℝ, Ideal.log1p (Ideal.exp (u : EReal)) = (w : EReal) := by
    show ∃ w : ℝ, Ideal.log1p ((Real.exp u : ℝ) : EReal) = (w : EReal)
    refine ⟨Real.log (1 + Real.exp u), ?_⟩
    unfold Ideal.log1p
    rw [← EReal.coe_one, ← EReal.coe_add]
    show (if (1 + Real.exp u) ≤ 0 then _ else _) = _
    rw [if_neg (not_le.mpr (by positivity))]
  obtain ⟨w, hw⟩ := h3
  exact ⟨max r 0 + w, by rw [hw, EReal.coe_add]⟩

end Cert.Ssd
end
-- ==== Proof.SsdRefConv.lean ====
/- The reference of the state-space program: its convolution. -/
module

public import proofs.«01_k».proof.Proof.Gen.Reference4Ideal.Read
public import Idealize.ShloMosaic.Lib.Pointwise
public import Idealize.ShloMosaic.Lib.ValueIdx
public import proofs.«01_k».proof.Proof.SsdDt

@[expose] public section

set_option maxRecDepth 16384

noncomputable section

namespace Cert.Ssd.Ref

open Cert.Reference4Ideal Cert.Reference4Ideal.Read Idealize.ShloMosaic Idealize.SL.Sem

/-- The convolution's input `j` rows after the third row before row `L` of sequence `b`; nothing comes before the sequence. -/
def xr (x0 : Vec Ideal S32768x9728 .bf16) (b : Fin 16) (R : Fin 2051) (C : Fin 3072) : EReal :=
  if h : 3 ≤ R.val then x0 (ix2 ⟨b.val * 2048 + (R.val - 3), by omega⟩ ⟨6144 + C.val, by omega⟩) else 0

/-- A cell of the convolution. -/
def rcell (x0 : Vec Ideal S32768x9728 .bf16) (x2 : Vec Ideal S1x4x3072 .f32) (x3 : Vec Ideal S1x3072 .f32) (b : Fin 16) (L : Fin 2048) (C : Fin 3072) : EReal :=
  act (x3 (ix2 0 C)) (x2 (ix3 0 0 C)) (xr x0 b ⟨L.val, by omega⟩ C) (x2 (ix3 0 1 C)) (xr x0 b ⟨1 + L.val, by omega⟩ C)
    (x2 (ix3 0 2 C)) (xr x0 b ⟨2 + L.val, by omega⟩ C) (x2 (ix3 0 3 C)) (xr x0 b ⟨3 + L.val, by omega⟩ C)

/-- A step size. -/
def rdt (x1 : Vec Ideal S32768x128 .f32) (x4 : Vec Ideal S1x32 .f32) (b z : Fin 16) (l : Fin 128) (h : Fin 32) : EReal :=
  sp (x1 (ix2 ⟨b.val * 2048 + z.val * 128 + l.val, by omega⟩ ⟨h.val, by omega⟩) + x4 (ix2 0 h))

/-- The running sum of a chunk's decays. -/
def racs (x1 : Vec Ideal S32768x128 .f32) (x4 x5 : Vec Ideal S1x32 .f32) (b z : Fin 16) (l : Fin 128) (h : Fin 32) : EReal :=
  ∑ k : Fin 128, if k.val ≤ l.val then rdt x1 x4 b z k h * (0 - Ideal.exp (x5 (ix2 0 h))) else 0

/-- What a chunk adds to a state. -/
def radd (x0 : Vec Ideal S32768x9728 .bf16) (x1 : Vec Ideal S32768x128 .f32) (x2 : Vec Ideal S1x4x3072 .f32) (x3 : Vec Ideal S1x3072 .f32) (x4 x5 : Vec Ideal S1x32 .f32)
    (b z : Fin 16) (C : Fin 2048) (n : Fin 128) : EReal :=
  ∑ l : Fin 128, rcell x0 x2 x3 b ⟨z.val * 128 + l.val, by omega⟩ ⟨2048 + (C.val / 512 * 128 + n.val), by omega⟩
    * (rcell x0 x2 x3 b ⟨z.val * 128 + l.val, by omega⟩ ⟨C.val, by omega⟩
      * (Ideal.exp (racs x1 x4 x5 b z 127 ⟨C.val / 64, by omega⟩ - racs x1 x4 x5 b z l ⟨C.val / 64, by omega⟩) * rdt x1 x4 b z l ⟨C.val / 64, by omega⟩))

/-- The projected columns the convolution reads. -/
theorem cols_at (x0 : Vec Ideal S32768x9728 .bf16) (b : Fin 16) (L : Fin 2048) (C : Fin 3072) :
    val_main_v2 (F := Ideal) x0 (ix3 b L C) = x0 (ix2 ⟨b.val * 2048 + L.val, by omega⟩ ⟨6144 + C.val, by omega⟩) := by
  unfold val_main_v2 val_main_v1 val_main_v0
  pointwise []

/-- The same, with three rows of zeros before each sequence. -/
theorem padded_at (x0 : Vec Ideal S32768x9728 .bf16) (b : Fin 16) (R : Fin 2051) (C : Fin 3072) :
    val_main_v3 (F := Ideal) x0 (ix3 b R C) = xr x0 b R C := by
  unfold val_main_v3 val_main_call0_v0 val_main_c xr
  generalize hy : val_main_v2 (F := Ideal) x0 = y
  pointwise []
  subst hy
  have hz : (FloatOps.sitofp (F := Ideal) FTy.f32 0#32 : EReal) = 0 := by
    show (((0#32 : BitVec 32).toInt : ℝ) : EReal) = 0
    norm_num
  have e : (3 ≤ R.val ∧ R.val - 3 < 2048) ↔ 3 ≤ R.val := by omega
  split_ifs with h1 h2 h2
  · rw [cols_at]
  · omega
  · omega
  · exact hz

/-- A row of the convolution's weights. -/
theorem w0_at (x2 : Vec Ideal S1x4x3072 .f32) (b : Fin 16) (L : Fin 2048) (C : Fin 3072) : val_main_v8 (F := Ideal) x2 (ix3 b L C) = x2 (ix3 0 0 C) := by
  unfold val_main_v8 val_main_v7 val_main_v6 val_main_v5
  pointwise []

theorem w1_at (x2 : Vec Ideal S1x4x3072 .f32) (b : Fin 16) (L : Fin 2048) (C : Fin 3072) : val_main_v16 (F := Ideal) x2 (ix3 b L C) = x2 (ix3 0 1 C) := by
  unfold val_main_v16 val_main_v15 val_main_v14 val_main_v13
  pointwise []

theorem w2_at (x2 : Vec Ideal S1x4x3072 .f32) (b : Fin 16) (L : Fin 2048) (C : Fin 3072) : val_main_v23 (F := Ideal) x2 (ix3 b L C) = x2 (ix3 0 2 C) := by
  unfold val_main_v23 val_main_v22 val_main_v21 val_main_v20
  pointwise []

theorem w3_at (x2 : Vec Ideal S1x4x3072 .f32) (b : Fin 16) (L : Fin 2048) (C : Fin 3072) : val_main_v30 (F := Ideal) x2 (ix3 b L C) = x2 (ix3 0 3 C) := by
  unfold val_main_v30 val_main_v29 val_main_v28 val_main_v27
  pointwise []

/-- The convolution's sum. -/
theorem sum_at (x0 : Vec Ideal S32768x9728 .bf16) (x2 : Vec Ideal S1x4x3072 .f32) (x3 : Vec Ideal S1x3072 .f32) (b : Fin 16) (L : Fin 2048) (C : Fin 3072) :
    val_main_v36 (F := Ideal) x0 x2 x3 (ix3 b L C) = x3 (ix2 0 C) + x2 (ix3 0 0 C) * xr x0 b ⟨L.val, by omega⟩ C + x2 (ix3 0 1 C) * xr x0 b ⟨1 + L.val, by omega⟩ C
      + x2 (ix3 0 2 C) * xr x0 b ⟨2 + L.val, by omega⟩ C + x2 (ix3 0 3 C) * xr x0 b ⟨3 + L.val, by omega⟩ C := by
  unfold val_main_v36 val_main_v35 val_main_v34 val_main_v33 val_main_v32 val_main_v31 val_main_v26 val_main_v25 val_main_v24 val_main_v19 val_main_v18 val_main_v17 val_main_v12
    val_main_v11 val_main_v10 val_main_cst val_main_v9 val_main_v4
  pointwise [Cert.Attn.bits_zero, w0_at, w1_at, w2_at, w3_at, padded_at]
  rw [mul_comm (xr x0 b ⟨L.val, _⟩ C), mul_comm (xr x0 b ⟨1 + L.val, _⟩ C), mul_comm (xr x0 b ⟨2 + L.val, _⟩ C), mul_comm (xr x0 b ⟨3 + L.val, _⟩ C),
    add_comm _ (x3 (ix2 0 C)), ← add_assoc, ← add_assoc, ← add_assoc]

/-- The convolution, through the logistic unit. -/
theorem u_at (x0 : Vec Ideal S32768x9728 .bf16) (x2 : Vec Ideal S1x4x3072 .f32) (x3 : Vec Ideal S1x3072 .f32) (b : Fin 16) (L : Fin 2048) (C : Fin 3072) :
    val_main_v37 (F := Ideal) x0 x2 x3 (ix3 b L C) = rcell x0 x2 x3 b L C := by
  unfold rcell act
  rw [← sum_at]
  unfold val_main_v37 val_main_call1_v5 val_main_call1_v4 val_main_call1_v3 val_main_call1_v2 val_main_call1_v1 val_main_call1_v0 val_main_call1_cst val_main_call1_cst_0 sil
  generalize val_main_v36 (F := Ideal) x0 x2 x3 = y
  pointwise [Cert.Attn.bits_zero, Cert.Attn.bits_one]
  rw [zero_sub]

end Cert.Ssd.Ref

end
-- ==== Proof.SsdRefDt.lean ====
/- The reference of the state-space program: its step sizes and decays. -/
module

public import proofs.«01_k».proof.Proof.Gen.Reference4Ideal.Read
public import Idealize.ShloMosaic.Lib.Pointwise
public import Idealize.ShloMosaic.Lib.ValueIdx
public import proofs.«01_k».proof.Proof.SsdRefConv

@[expose] public section

set_option maxRecDepth 16384

noncomputable section

namespace Cert.Ssd.Ref

open Cert.Reference4Ideal Cert.Reference4Ideal.Read Idealize.ShloMosaic Idealize.SL.Sem

/-- The step sizes. -/
theorem dt_at (x1 : Vec Ideal S32768x128 .f32) (x4 : Vec Ideal S1x32 .f32) (b z : Fin 16) (l : Fin 128) (h : Fin 32) :
    val_main_v48 (F := Ideal) x1 x4 (ix4 b z l h) = rdt x1 x4 b z l h := by
  unfold val_main_v48 val_main_v47 val_main_call2_v4 val_main_call2_v6 val_main_call2_v11 val_main_call2_v10 val_main_call2_v9 val_main_call2_v8 val_main_call2_v7 val_main_call2_v5
    val_main_call2_v3 val_main_call2_v2 val_main_call2_v1 val_main_call2_v0 val_main_call2_cst val_main_v46 val_main_v45 val_main_v44 val_main_v43 val_main_v42 rdt sp
  pointwise [Cert.Attn.bits_zero]
  rw [if_neg (not_not.mpr rfl), zero_sub]

/-- The decays' logarithms. -/
theorem a_at (x1 : Vec Ideal S32768x128 .f32) (x4 x5 : Vec Ideal S1x32 .f32) (b z : Fin 16) (l : Fin 128) (h : Fin 32) :
    val_main_v54 (F := Ideal) x1 x4 x5 (ix4 b z l h) = rdt x1 x4 b z l h * (0 - Ideal.exp (x5 (ix2 0 h))) := by
  rw [← dt_at]
  unfold val_main_v54 val_main_v53 val_main_v52 val_main_v51 val_main_v50 val_main_v49
  generalize val_main_v48 (F := Ideal) x1 x4 = y
  pointwise []
  rw [zero_sub]

theorem toInt_small (n : ℕ) (h : n < 128) : (BitVec.ofNat 32 n).toInt = n := by
  rw [BitVec.toInt_eq_toNat_cond, BitVec.toNat_ofNat, Nat.mod_eq_of_lt (by omega), if_pos (by omega)]

/-- Small numbers compare as words. -/
theorem ge_word (l k : Fin 128) : IntOp.cmpi CmpIPredicate.sge (BitVec.ofNat 32 l.val) (BitVec.ofNat 32 k.val) = if k.val ≤ l.val then 1#1 else 0#1 := by
  unfold IntOp.cmpi
  show BitVec.ofBool ((BitVec.ofNat 32 k.val).sle (BitVec.ofNat 32 l.val)) = _
  rw [BitVec.sle_eq_decide, toInt_small _ k.isLt, toInt_small _ l.isLt]
  split_ifs with h
  · rw [decide_eq_true (by exact_mod_cast h)]; rfl
  · rw [decide_eq_false (by exact_mod_cast h)]; rfl

/-- Small numbers compare as words. -/
theorem lt_word (k j : Fin 16) : IntOp.cmpi CmpIPredicate.slt (BitVec.ofNat 32 k.val) (BitVec.ofNat 32 j.val) = if k.val < j.val then 1#1 else 0#1 := by
  revert k j
  decide

/-- Positions not after. -/
theorem le_at (l k : Fin 128) : val_main_v61 (F := Ideal) (ix3 l k 0) = if k.val ≤ l.val then 1#1 else 0#1 := by
  unfold val_main_v61 val_main_v60 val_main_v59 val_main_v58 val_main_v57 val_main_v56 val_main_v55
  pointwise []
  exact ge_word l k

/-- The running sums. -/
theorem acs_at (x1 : Vec Ideal S32768x128 .f32) (x4 x5 : Vec Ideal S1x32 .f32) (b z : Fin 16) (l : Fin 128) (h : Fin 32) :
    val_main_v64 (F := Ideal) x1 x4 x5 (ix4 b z l h) = racs x1 x4 x5 b z l h := by
  unfold val_main_v64 val_main_v63 val_main_call3_v1 val_main_call3_v2 val_main_call3_v3 val_main_call3_v0 val_main_cst_0 val_main_cst_1 val_main_v62 racs
  pointwise [Cert.Attn.bits_zero, le_at, a_at]
  refine Finset.sum_congr rfl fun k _ => ?_
  split_ifs
  · rfl
  · exact Cert.Attn.bits_zero

/-- The sum over a chunk. -/
theorem tot_at (x1 : Vec Ideal S32768x128 .f32) (x4 x5 : Vec Ideal S1x32 .f32) (b z : Fin 16) (h : Fin 32) :
    val_main_v66 (F := Ideal) x1 x4 x5 (ix3 b z h) = racs x1 x4 x5 b z 127 h := by
  unfold val_main_v66 val_main_v65
  pointwise [acs_at]

/-- Chunks that follow. -/
theorem lt_at (k j : Fin 16) : val_main_v84 (F := Ideal) (ix3 k j 0) = if k.val < j.val then 1#1 else 0#1 := by
  unfold val_main_v84 val_main_v83 val_main_v82 val_main_v81 val_main_v80 val_main_v79 val_main_v78
  pointwise []
  exact lt_word k j

/-- The decay of the chunks that follow. -/
theorem later_at (x1 : Vec Ideal S32768x128 .f32) (x4 x5 : Vec Ideal S1x32 .f32) (b z : Fin 16) (h : Fin 32) :
    val_main_v87 (F := Ideal) x1 x4 x5 (ix3 b z h) = ∑ k : Fin 16, if z.val < k.val then racs x1 x4 x5 b k 127 h else 0 := by
  unfold val_main_v87 val_main_v86 val_main_call4_v1 val_main_call4_v2 val_main_call4_v3 val_main_call4_v0 val_main_cst_2 val_main_cst_3 val_main_v85
  pointwise [Cert.Attn.bits_zero, lt_at, tot_at]
  refine Finset.sum_congr rfl fun k _ => ?_
  split_ifs
  · rfl
  · exact Cert.Attn.bits_zero

end Cert.Ssd.Ref

end
-- ==== Proof.SsdChunk.lean ====
module

public import proofs.«01_k».proof.Proof.SsdScan
public import proofs.«01_k».proof.Proof.SsdRefDt
public import proofs.«01_k».proof.Proof.Gen.Reference4Ideal.Read
public import Idealize.ShloMosaic.Lib.WritesUnit
public import Idealize.ShloMosaic.Lib.Pointwise

@[expose] public section

set_option maxRecDepth 16384

noncomputable section

namespace Cert.Ssd

open Cert.Kernel4Ideal Cert.Kernel4Ideal.Gen Idealize.ShloMosaic Idealize.SL.Sem

variable (a0 : Vec Ideal S32768x9728 .bf16) (a1 : Vec Ideal S32768x128 .f32) (a2 : Vec Ideal S1x4x3072 .f32) (a3 : Vec Ideal S1x3072 .f32) (a4 a5 : Vec Ideal S1x32 .f32)
variable (b z : Fin 16)
variable (x0 : Vec Ideal S128x3072 .bf16) (x2 : Vec Ideal S128x128 .f32) (x3 : Vec Ideal S4x3072 .f32) (x4 : Vec Ideal S1x3072 .f32) (x5 x6 : Vec Ideal S1x128 .f32) (x9 : Vec Ideal S256x2048 .bf16) (x10 : Vec Ideal S128x128 .bf16)

/-- The arguments the decays come from are real. -/
structure Fin4 : Prop where
  r1 : ∀ (L : Fin 32768) (h : Fin 32), ∃ r : ℝ, a1 (ix2 L ⟨h.val, by omega⟩) = (r : EReal)
  r4 : ∀ h : Fin 32, ∃ r : ℝ, a4 (ix2 0 h) = (r : EReal)
  r5 : ∀ h : Fin 32, ∃ r : ℝ, a5 (ix2 0 h) = (r : EReal)

theorem rdt_real (hf : Fin4 a1 a4 a5) (l : Fin 128) (h : Fin 32) : ∃ r : ℝ, Ref.rdt a1 a4 b z l h = (r : EReal) := by
  obtain ⟨r, hr⟩ := hf.r1 ⟨b.val * 2048 + z.val * 128 + l.val, by omega⟩ h
  obtain ⟨s, hs⟩ := hf.r4 h
  unfold Ref.rdt
  refine sp_real ⟨r + s, ?_⟩
  rw [hr, hs, EReal.coe_add]

theorem step_real (hf : Fin4 a1 a4 a5) (l : Fin 128) (h : Fin 32) : ∃ r : ℝ, Ref.rdt a1 a4 b z l h * (0 - Ideal.exp (a5 (ix2 0 h))) = (r : EReal) := by
  obtain ⟨r, hr⟩ := rdt_real a1 a4 a5 b z hf l h
  obtain ⟨s, hs⟩ := hf.r5 h
  refine ⟨r * (0 - Real.exp s), ?_⟩
  rw [hr, hs, EReal.coe_mul, EReal.coe_sub, EReal.coe_zero]
  rfl

theorem racs_real (hf : Fin4 a1 a4 a5) (l : Fin 128) (h : Fin 32) : ∃ r : ℝ, Ref.racs a1 a4 a5 b z l h = (r : EReal) := by
  unfold Ref.racs
  refine Cert.Attn.sum_real _ _ fun k => ?_
  split
  · exact step_real a1 a4 a5 b z hf k h
  · exact ⟨0, rfl⟩

/-- The blocks of a point are those of chunk `z` of sequence `b`. -/
structure Blocks : Prop where
  h2 : ∀ (l h : Fin 128), x2 (ix2 l h) = a1 (ix2 ⟨b.val * 2048 + z.val * 128 + l.val, by omega⟩ h)
  h3 : ∀ (j : Fin 4) (C : Fin 3072), x3 (ix2 j C) = a2 (ix3 0 j C)
  h4 : ∀ C : Fin 3072, x4 (ix2 0 C) = a3 (ix2 0 C)
  h5 : ∀ h : Fin 32, x5 (ix2 0 ⟨h.val, by omega⟩) = a4 (ix2 0 h)
  h6 : ∀ h : Fin 32, x6 (ix2 0 ⟨h.val, by omega⟩) = a5 (ix2 0 h)
  h9 : ∀ (j : Fin 256) (C : Fin 2048), x9 (ix2 j C) = if j.val % 128 = C.val / 64 then 1 else 0
  h10 : ∀ l k : Fin 128, x10 (ix2 l k) = if k.val ≤ l.val then 1 else 0

variable {a1 a2 a3 a4 a5 b z x2 x3 x4 x5 x6 x9 x10}

theorem dtv_ref (hb : Blocks a1 a2 a3 a4 a5 b z x2 x3 x4 x5 x6 x9 x10) (l : Fin 128) (h : Fin 32) :
    dtv x2 x5 (ix2 l ⟨h.val, by omega⟩) = Ref.rdt a1 a4 b z l h := by
  rw [dtv_at, hb.h2, hb.h5]
  rfl

theorem acsv_ref (hb : Blocks a1 a2 a3 a4 a5 b z x2 x3 x4 x5 x6 x9 x10) (hf : Fin4 a1 a4 a5) (l : Fin 128) (h : Fin 32) :
    acsv x2 x5 x6 x10 (ix2 l ⟨h.val, by omega⟩) = Ref.racs a1 a4 a5 b z l h := by
  have hd := fun k => dtv_ref hb k h
  unfold dtv at hd
  unfold acsv
  refine (acs_gen _ _ _ _ _ l _ fun k => ?_).trans ?_
  · rw [hd k, ld_row, hb.h6]
    exact step_real a1 a4 a5 b z hf k h
  · unfold Ref.racs
    refine Finset.sum_congr rfl fun k _ => ?_
    rw [hd k, ld_row, hb.h6, ld_tri, hb.h10, ite_mul, one_mul, zero_mul]

theorem wst_ref (hb : Blocks a1 a2 a3 a4 a5 b z x2 x3 x4 x5 x6 x9 x10) (hf : Fin4 a1 a4 a5) (l : Fin 128) (C : Fin 2048) :
    wst x2 x5 x6 x9 x10 (ix2 l C)
      = Ideal.exp (Ref.racs a1 a4 a5 b z 127 ⟨C.val / 64, by omega⟩ - Ref.racs a1 a4 a5 b z l ⟨C.val / 64, by omega⟩) * Ref.rdt a1 a4 b z l ⟨C.val / 64, by omega⟩ := by
  have e : Ideal.exp (acsv x2 x5 x6 x10 (ix2 127 ⟨C.val / 64, by omega⟩) - acsv x2 x5 x6 x10 (ix2 l ⟨C.val / 64, by omega⟩)) * dtv x2 x5 (ix2 l ⟨C.val / 64, by omega⟩)
      = Ideal.exp (Ref.racs a1 a4 a5 b z 127 ⟨C.val / 64, by omega⟩ - Ref.racs a1 a4 a5 b z l ⟨C.val / 64, by omega⟩) * Ref.rdt a1 a4 b z l ⟨C.val / 64, by omega⟩ := by
    rw [acsv_ref hb hf 127 ⟨C.val / 64, by omega⟩, acsv_ref hb hf l ⟨C.val / 64, by omega⟩, dtv_ref hb l ⟨C.val / 64, by omega⟩]
  unfold wst
  refine (wst_gen _ _ _ l C (fun j => (ld_e2 _ _ _ _).trans (hb.h9 j C)) ?_).trans e
  rw [e]
  obtain ⟨r, hr⟩ := racs_real a1 a4 a5 b z hf 127 ⟨C.val / 64, by omega⟩
  obtain ⟨s, hs⟩ := racs_real a1 a4 a5 b z hf l ⟨C.val / 64, by omega⟩
  obtain ⟨u, hu⟩ := rdt_real a1 a4 a5 b z hf l ⟨C.val / 64, by omega⟩
  refine ⟨Real.exp (r - s) * u, ?_⟩
  rw [hr, hs, hu, ← EReal.coe_sub, EReal.coe_mul]
  rfl

theorem dec_ref (hb : Blocks a1 a2 a3 a4 a5 b z x2 x3 x4 x5 x6 x9 x10) (hf : Fin4 a1 a4 a5) (C : Fin 2048) :
    dec x2 x5 x6 x9 x10 (ix2 0 C) = Ideal.exp (Ref.racs a1 a4 a5 b z 127 ⟨C.val / 64, by omega⟩) := by
  have e := congrArg Ideal.exp (acsv_ref hb hf 127 ⟨C.val / 64, by omega⟩)
  unfold acsv at e
  unfold dec
  refine (dec_gen _ _ _ _ _ _ C (fun j => (ld_e2 _ _ _ _).trans (hb.h9 j C)) ?_).trans e
  obtain ⟨r, hr⟩ := racs_real a1 a4 a5 b z hf 127 ⟨C.val / 64, by omega⟩
  exact ⟨Real.exp r, e.trans (by rw [hr]; rfl)⟩

variable {a0 x0}

theorem cell_ref (hb : Blocks a1 a2 a3 a4 a5 b z x2 x3 x4 x5 x6 x9 x10) (T : Vec Ideal S136x3072 .f32)
    (hx : ∀ (R : Fin 136) (C : Fin 3072) (hR : 5 ≤ R.val), xrow T x0 R C = Ref.xr a0 b ⟨z.val * 128 + (R.val - 5), by omega⟩ C) (l : Fin 128) (C : Fin 3072) :
    cell T x0 x3 x4 l C = Ref.rcell a0 a2 a3 b ⟨z.val * 128 + l.val, by omega⟩ C := by
  have hj : ∀ (j : ℕ) (h1 : j < 4) , xrow T x0 ⟨5 + j + l.val, by omega⟩ C = Ref.xr a0 b ⟨j + (z.val * 128 + l.val), by omega⟩ C := fun j h1 =>
    (hx _ _ (by show 5 ≤ 5 + j + l.val; omega)).trans (congrArg (fun r => Ref.xr a0 b r C) (Fin.ext (by show z.val * 128 + (5 + j + l.val - 5) = j + (z.val * 128 + l.val); omega)))
  have h0 := hj 0 (by omega)
  have h1 := hj 1 (by omega)
  have h2 := hj 2 (by omega)
  have h3 := hj 3 (by omega)
  simp only [Nat.add_zero, Nat.reduceAdd, Nat.zero_add] at h0 h1 h2 h3
  unfold cell Ref.rcell
  rw [hb.h3, hb.h3, hb.h3, hb.h3, hb.h4, h0, h1, h2, h3]

/-- A chunk's step of the state, in the reference's terms. -/
theorem upd_ref (hb : Blocks a1 a2 a3 a4 a5 b z x2 x3 x4 x5 x6 x9 x10) (hf : Fin4 a1 a4 a5) (T : Vec Ideal S136x3072 .f32)
    (hx : ∀ (R : Fin 136) (C : Fin 3072) (hR : 5 ≤ R.val), xrow T x0 R C = Ref.xr a0 b ⟨z.val * 128 + (R.val - 5), by omega⟩ C)
    (s : EReal) (g : Fin 4) (n : Fin 128) (q : Fin 512) :
    upd x2 x5 x6 x9 x10 T x0 x3 x4 s g n q
      = s * Ideal.exp (Ref.racs a1 a4 a5 b z 127 ⟨(512 * g.val + q.val) / 64, by omega⟩) + Ref.radd a0 a1 a2 a3 a4 a5 b z ⟨512 * g.val + q.val, by omega⟩ n := by
  unfold upd Ref.radd
  rw [dec_ref hb hf]
  refine congrArg₂ (fun u v : EReal => u + v) rfl (Finset.sum_congr rfl fun l _ => ?_)
  rw [cell_ref hb T hx, cell_ref hb T hx, wst_ref hb hf]
  refine congrArg₂ (fun u v : EReal => u * v) (congrArg (Ref.rcell a0 a2 a3 b _) (Fin.ext ?_)) rfl
  show 2048 + (128 * g.val + n.val) = 2048 + ((512 * g.val + q.val) / 512 * 128 + n.val)
  omega

end Cert.Ssd
end
-- ==== Proof.SsdTab.lean ====
module

public import proofs.«01_k».proof.Proof.SsdDt
public import proofs.«01_k».proof.Proof.SsdRefDt
public import Idealize.ShloMosaic.Lib.StableHlo.RunRead
public import proofs.«01_k».proof.Proof.Gen.Reference4Ideal.Read
public import Idealize.ShloMosaic.Lib.WritesUnit
public import Idealize.ShloMosaic.Lib.Pointwise

@[expose] public section

set_option maxRecDepth 16384

noncomputable section

namespace Cert.Ssd

open Idealize.ShloMosaic.TcCoe Cert.Kernel4Ideal Cert.Kernel4Ideal.Gen Idealize.ShloMosaic Idealize.SL.Sem

/-- The same rows written twice, one below the other. -/
def twice (a b : FVec Ideal S128x2048 .bf16) : FVec Ideal S256x2048 .bf16 :=
  concatenate S256x2048 0 [⟨S128x2048, a⟩, ⟨S128x2048, b⟩] concatenates_S128x2048_S128x2048_S256x2048_d0

theorem twice_congr (a b a' b' : FVec Ideal S128x2048 .bf16) (ha : a = a') (hb : b = b') :
    concatenate S256x2048 0 [⟨S128x2048, a⟩, ⟨S128x2048, b⟩] concatenates_S128x2048_S128x2048_S256x2048_d0 = twice a' b' := by
  subst ha hb; rfl

/-- Quotient by 64, rounded down, of a vector of whole numbers. -/
def quotient (x : IVec S2048 32) : IVec S2048 32 :=
  select (andi (cmpi CmpIPredicate.ne (signi x) (broadcastInDim S2048 ![] bcast_S_S2048 (signi (constantI S_ 32 64#32))))
      (cmpi CmpIPredicate.ne (Host.remsi x (broadcastInDim S2048 ![] bcast_S_S2048 (constantI S_ 32 64#32))) (broadcastInDim S2048 ![] bcast_S_S2048 (constantI S_ 32 0#32))))
    (subi (Host.divsi x (broadcastInDim S2048 ![] bcast_S_S2048 (constantI S_ 32 64#32))) (broadcastInDim S2048 ![] bcast_S_S2048 (constantI S_ 32 1#32)))
    (Host.divsi x (broadcastInDim S2048 ![] bcast_S_S2048 (constantI S_ 32 64#32)))

/-- Which head each column belongs to. -/
def headOf : FVec Ideal S128x2048 .bf16 :=
  uitofp FTy.bf16 (cmpi CmpIPredicate.eq
    (broadcastInDim S128x2048 ![0, 1] bcast_S128x1_S128x2048_0_1 (broadcastInDim S128x1 ![0] bcast_S128_S128x1_0 (iotaInDim S128 32 0)))
    (broadcastInDim S128x2048 ![0, 1] bcast_S1x2048_S128x2048_0_1 (broadcastInDim S1x2048 ![1] bcast_S2048_S1x2048_1 (quotient (iotaInDim S2048 32 0)))))

/-- Which positions come no later than a position. -/
def upTo : FVec Ideal S128x128 .bf16 :=
  uitofp FTy.bf16 (cmpi CmpIPredicate.sge
    (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0))))

/-- A row of 32 numbers, widened to 128 lanes. -/
def lanes (x : FVec Ideal S1x32 .f32) : FVec Ideal S1x128 .f32 :=
  pad S1x128 ![0, 0] ![0, 96] ![0, 0] (shapeCast S1x32 (shapeCast S32 x shapeCasts_S1x32_S32) shapeCasts_S32_S1x32)
    (sitofp FTy.f32 (constantI S_ 32 0#32)) pads_S1x32_S1x128_000_0960 h_S_

variable (m : (ℓ : Loc nD τ sig) → Buf (Elt Ideal) ℓ)

theorem V9 (c : Dev nD) : (V m c main_v9 : FVec Ideal S256x2048 .bf16) = twice headOf headOf := by
  unfold V hostOps0
  simp only [List.flatten_cons, List.flatten_nil, List.append_nil, List.cons_append, List.nil_append, hostOps0_1, hostOps0_2, hostOps0_3, hostOps0_4, hostOps0_5, hostOps0_6]
  after_reads_simp
  refine twice_congr _ _ _ _ ?_ ?_
  all_goals
    after_reads_simp
    rfl

theorem V15 (c : Dev nD) : (V m c main_v15 : FVec Ideal S128x128 .bf16) = upTo := by
  unfold V hostOps0
  simp only [List.flatten_cons, List.flatten_nil, List.append_nil, List.cons_append, List.nil_append, hostOps0_1, hostOps0_2, hostOps0_3, hostOps0_4, hostOps0_5, hostOps0_6]
  after_reads_simp
  rfl

theorem V16 (c : Dev nD) : (V m c main_v16 : FVec Ideal S4x3072 .f32)
    = shapeCast S4x3072 (m ((c : Thread nD τ).loc main_arg2) : FVec Ideal S1x4x3072 .f32) shapeCasts_S1x4x3072_S4x3072 := by
  unfold V hostOps0
  simp only [List.flatten_cons, List.flatten_nil, List.append_nil, List.cons_append, List.nil_append, hostOps0_1, hostOps0_2, hostOps0_3, hostOps0_4, hostOps0_5, hostOps0_6]
  after_reads_simp
  rfl

theorem V18 (c : Dev nD) : (V m c main_v18 : FVec Ideal S1x3072 .f32)
    = shapeCast S1x3072 (shapeCast S3072 (m ((c : Thread nD τ).loc main_arg3) : FVec Ideal S1x3072 .f32) shapeCasts_S1x3072_S3072) shapeCasts_S3072_S1x3072 := by
  unfold V hostOps0
  simp only [List.flatten_cons, List.flatten_nil, List.append_nil, List.cons_append, List.nil_append, hostOps0_1, hostOps0_2, hostOps0_3, hostOps0_4, hostOps0_5, hostOps0_6]
  after_reads_simp
  rfl

theorem V21 (c : Dev nD) : (V m c main_v21 : FVec Ideal S1x128 .f32) = lanes (m ((c : Thread nD τ).loc main_arg4)) := by
  unfold V hostOps0
  simp only [List.flatten_cons, List.flatten_nil, List.append_nil, List.cons_append, List.nil_append, hostOps0_1, hostOps0_2, hostOps0_3, hostOps0_4, hostOps0_5, hostOps0_6]
  after_reads_simp
  rfl

theorem V24 (c : Dev nD) : (V m c main_v24 : FVec Ideal S1x128 .f32) = lanes (m ((c : Thread nD τ).loc main_arg5)) := by
  unfold V hostOps0
  simp only [List.flatten_cons, List.flatten_nil, List.append_nil, List.cons_append, List.nil_append, hostOps0_1, hostOps0_2, hostOps0_3, hostOps0_4, hostOps0_5, hostOps0_6]
  after_reads_simp
  rfl

theorem lanes_at (x : FVec Ideal S1x32 .f32) (h : Fin 128) (hh : h.val < 32) : lanes x (ix2 0 h) = x (ix2 0 ⟨h.val, hh⟩) := by
  unfold lanes
  pointwise
  exact dif_pos hh

theorem quotient_eq : ∀ C : Fin 2048, Cert.Attn.quot1 (BitVec.ofNat 32 C.val) = BitVec.ofNat 32 (C.val / 64) := by decide +kernel

theorem eq_word (a b : Fin 128) : IntOp.cmpi CmpIPredicate.eq (BitVec.ofNat 32 a.val) (BitVec.ofNat 32 b.val) = if a.val = b.val then 1#1 else 0#1 := by
  unfold IntOp.cmpi
  show BitVec.ofBool (BitVec.ofNat 32 a.val == BitVec.ofNat 32 b.val) = _
  by_cases h : a.val = b.val
  · rw [h, if_pos rfl, beq_self_eq_true]; rfl
  · rw [if_neg h, beq_eq_false_iff_ne.mpr]
    · rfl
    · intro e
      have := congrArg BitVec.toInt e
      rw [Ref.toInt_small _ a.isLt, Ref.toInt_small _ b.isLt] at this
      exact h (by exact_mod_cast this)

/-- A truth value as a number. -/
theorem number (p : Prop) [Decidable p] : FloatOps.uitofp (F := Ideal) FTy.bf16 (if p then 1#1 else 0#1) = if p then 1 else 0 := by
  split
  · show (((1#1).toNat : ℝ) : EReal) = 1
    norm_num
  · show (((0#1).toNat : ℝ) : EReal) = 0
    norm_num

theorem headOf_at (j : Fin 128) (C : Fin 2048) : headOf (ix2 j C) = if j.val = C.val / 64 then 1 else 0 := by
  have h : headOf (ix2 j C) = FloatOps.uitofp (F := Ideal) FTy.bf16 (IntOp.cmpi CmpIPredicate.eq (BitVec.ofNat 32 j.val) (Cert.Attn.quot1 (BitVec.ofNat 32 C.val))) := by
    unfold headOf quotient
    pointwise
    rfl
  rw [h, quotient_eq]
  rw [eq_word j ⟨C.val / 64, by omega⟩, number]

theorem twice_at (a b : FVec Ideal S128x2048 .bf16) (j : Fin 256) (C : Fin 2048) :
    twice a b (ix2 j C) = if h : j.val < 128 then a (ix2 ⟨j.val, h⟩ C) else b (ix2 ⟨j.val - 128, by omega⟩ C) := by
  unfold twice
  pointwise

theorem heads_at (j : Fin 256) (C : Fin 2048) : twice headOf headOf (ix2 j C) = if j.val % 128 = C.val / 64 then 1 else 0 := by
  rw [twice_at]
  split
  · rw [headOf_at]
    show (if j.val = _ then _ else _) = _
    rw [show j.val % 128 = j.val by omega]
  · rw [headOf_at]
    show (if j.val - 128 = _ then _ else _) = _
    rw [show j.val % 128 = j.val - 128 by omega]

theorem upTo_at (l k : Fin 128) : upTo (ix2 l k) = if k.val ≤ l.val then 1 else 0 := by
  have h : upTo (ix2 l k) = FloatOps.uitofp (F := Ideal) FTy.bf16 (IntOp.cmpi CmpIPredicate.sge (BitVec.ofNat 32 l.val) (BitVec.ofNat 32 k.val)) := by
    unfold upTo
    pointwise
  rw [h, Ref.ge_word, number]

theorem taps_at (x : FVec Ideal S1x4x3072 .f32) (j : Fin 4) (C : Fin 3072) : shapeCast S4x3072 x shapeCasts_S1x4x3072_S4x3072 (ix2 j C) = x (ix3 0 j C) := by
  pointwise

theorem bias_at (x : FVec Ideal S1x3072 .f32) (C : Fin 3072) : shapeCast S1x3072 (shapeCast S3072 x shapeCasts_S1x3072_S3072) shapeCasts_S3072_S1x3072 (ix2 0 C) = x (ix2 0 C) := by
  pointwise

end Cert.Ssd
end
-- ==== Proof.SsdBlk.lean ====
module

public import proofs.«01_k».proof.Proof.SsdTab
public import proofs.«01_k».proof.Proof.Gen.Reference4Ideal.Read
public import Idealize.ShloMosaic.Lib.WritesUnit
public import Idealize.ShloMosaic.Lib.Pointwise

@[expose] public section

set_option maxRecDepth 16384

noncomputable section

namespace Cert.Ssd

open Idealize.ShloMosaic.TcCoe Cert.Kernel4Ideal Cert.Kernel4Ideal.Gen Idealize.ShloMosaic Idealize.SL.Sem

variable (m : (ℓ : Loc nD τ sig) → Buf (Elt Ideal) ℓ)

/-- The block indices of the windows read and written, at a point. -/
theorem idx_state : ∀ t : Fin cfg0.N, win0_2.index t = ![t.val, 0] ∧ win0_3.index t = ![0, 0] ∧ win0_4.index t = ![0, 0] ∧ win0_5.index t = ![0, 0]
    ∧ win0_6.index t = ![0, 0] ∧ win0_9.index t = ![0, 0] ∧ win0_10.index t = ![0, 0] ∧ win0_13.index t = ![t.val / 16, 0, 0] :=
  (by decide +kernel : ∀ t : Fin grid0.N, _)

/-- The block of the steps. -/
theorem blk2 (c : Dev nD) (t : Fin cfg0.N) (p q : Fin 128) :
    iblk m c 2 t (ix2 p q) = m ((c : Thread nD τ).loc main_arg1) (ix2 (⟨t.val * 128 + p.val, by have := lt_of_lt_of_eq t.isLt N_0; omega⟩ : Fin 32768) q) := by
  show V m c main_arg1 (((cfg0.win 2).blk t).view.emb (ix2 p q)) = _
  rw [V_main_arg1]
  congr 1
  have h := (idx_state t).1
  funext a
  refine Fin.ext ?_
  fin_cases a
  · show win0_2.index t (0 : Fin 2) * 128 + 1 * p.val = t.val * 128 + p.val
    rw [h]; simp
  · show win0_2.index t (1 : Fin 2) * 128 + 1 * q.val = q.val
    rw [h]; simp

/-- The taps. -/
theorem blk3 (c : Dev nD) (t : Fin cfg0.N) (p : Fin 4) (q : Fin 3072) :
    iblk m c 3 t (ix2 p q) = m ((c : Thread nD τ).loc main_arg2) (ix3 0 p q) := by
  have e : ((cfg0.win 3).blk t).view.emb (ix2 p q) = ix2 p q := by
    have h := (idx_state t).2.1
    funext a
    refine Fin.ext ?_
    fin_cases a
    · show win0_3.index t (0 : Fin 2) * 4 + 1 * p.val = p.val
      rw [h]; simp
    · show win0_3.index t (1 : Fin 2) * 3072 + 1 * q.val = q.val
      rw [h]; simp
  show (V m c main_v16 : FVec Ideal S4x3072 .f32) (((cfg0.win 3).blk t).view.emb (ix2 p q)) = _
  rw [e, V16]
  exact taps_at _ p q

/-- The bias. -/
theorem blk4 (c : Dev nD) (t : Fin cfg0.N) (q : Fin 3072) :
    iblk m c 4 t (ix2 0 q) = m ((c : Thread nD τ).loc main_arg3) (ix2 0 q) := by
  have e : ((cfg0.win 4).blk t).view.emb (ix2 0 q) = ix2 0 q := by
    have h := (idx_state t).2.2.1
    funext a
    refine Fin.ext ?_
    fin_cases a
    · show win0_4.index t (0 : Fin 2) * 1 + 1 * 0 = 0
      rw [h]; simp
    · show win0_4.index t (1 : Fin 2) * 3072 + 1 * q.val = q.val
      rw [h]; simp
  show (V m c main_v18 : FVec Ideal S1x3072 .f32) (((cfg0.win 4).blk t).view.emb (ix2 0 q)) = _
  rw [e, V18]
  exact bias_at _ q

/-- The bias of the steps. -/
theorem blk5 (c : Dev nD) (t : Fin cfg0.N) (q : Fin 128) (hq : q.val < 32) :
    iblk m c 5 t (ix2 0 q) = m ((c : Thread nD τ).loc main_arg4) (ix2 0 ⟨q.val, hq⟩) := by
  have e : ((cfg0.win 5).blk t).view.emb (ix2 0 q) = ix2 0 q := by
    have h := (idx_state t).2.2.2.1
    funext a
    refine Fin.ext ?_
    fin_cases a
    · show win0_5.index t (0 : Fin 2) * 1 + 1 * 0 = 0
      rw [h]; simp
    · show win0_5.index t (1 : Fin 2) * 128 + 1 * q.val = q.val
      rw [h]; simp
  show (V m c main_v21 : FVec Ideal S1x128 .f32) (((cfg0.win 5).blk t).view.emb (ix2 0 q)) = _
  rw [e, V21]
  exact lanes_at _ q hq

/-- The logarithms of the rates. -/
theorem blk6 (c : Dev nD) (t : Fin cfg0.N) (q : Fin 128) (hq : q.val < 32) :
    iblk m c 6 t (ix2 0 q) = m ((c : Thread nD τ).loc main_arg5) (ix2 0 ⟨q.val, hq⟩) := by
  have e : ((cfg0.win 6).blk t).view.emb (ix2 0 q) = ix2 0 q := by
    have h := (idx_state t).2.2.2.2.1
    funext a
    refine Fin.ext ?_
    fin_cases a
    · show win0_6.index t (0 : Fin 2) * 1 + 1 * 0 = 0
      rw [h]; simp
    · show win0_6.index t (1 : Fin 2) * 128 + 1 * q.val = q.val
      rw [h]; simp
  show (V m c main_v24 : FVec Ideal S1x128 .f32) (((cfg0.win 6).blk t).view.emb (ix2 0 q)) = _
  rw [e, V24]
  exact lanes_at _ q hq

/-- The heads of the columns. -/
theorem blk9 (c : Dev nD) (t : Fin cfg0.N) (p : Fin 256) (q : Fin 2048) :
    iblk m c 9 t (ix2 p q) = (if p.val % 128 = q.val / 64 then 1 else 0 : EReal) := by
  have e : ((cfg0.win 9).blk t).view.emb (ix2 p q) = ix2 p q := by
    have h := (idx_state t).2.2.2.2.2.1
    funext a
    refine Fin.ext ?_
    fin_cases a
    · show win0_9.index t (0 : Fin 2) * 256 + 1 * p.val = p.val
      rw [h]; simp
    · show win0_9.index t (1 : Fin 2) * 2048 + 1 * q.val = q.val
      rw [h]; simp
  show (V m c main_v9 : FVec Ideal S256x2048 .bf16) (((cfg0.win 9).blk t).view.emb (ix2 p q)) = _
  rw [e, V9]
  exact heads_at p q

/-- The positions not after. -/
theorem blk10 (c : Dev nD) (t : Fin cfg0.N) (p : Fin 128) (q : Fin 128) :
    iblk m c 10 t (ix2 p q) = (if q.val ≤ p.val then 1 else 0 : EReal) := by
  have e : ((cfg0.win 10).blk t).view.emb (ix2 p q) = ix2 p q := by
    have h := (idx_state t).2.2.2.2.2.2.1
    funext a
    refine Fin.ext ?_
    fin_cases a
    · show win0_10.index t (0 : Fin 2) * 128 + 1 * p.val = p.val
      rw [h]; simp
    · show win0_10.index t (1 : Fin 2) * 128 + 1 * q.val = q.val
      rw [h]; simp
  show (V m c main_v15 : FVec Ideal S128x128 .bf16) (((cfg0.win 10).blk t).view.emb (ix2 p q)) = _
  rw [e, V15]
  exact upTo_at p q

end Cert.Ssd
end
-- ==== Proof.SsdOut.lean ====
/- One chunk of the state-space kernel: the states the last chunk writes. -/
module

public import proofs.«01_k».proof.Proof.SsdStep
public import proofs.«01_k».proof.Proof.Gen.Reference4Ideal.Read
public import Idealize.ShloMosaic.Lib.WritesUnit
public import Idealize.ShloMosaic.Lib.Pointwise

@[expose] public section

set_option maxHeartbeats 2000000
set_option maxRecDepth 16384

noncomputable section

namespace Cert.Ssd

open Cert.Kernel4Ideal Cert.Kernel4Ideal.Gen Idealize.ShloMosaic Idealize.SL.Sem

/-- A head group's written state, read back. -/
theorem out_hit {sig : RefSig} {κ : Kind} {sp : Space} (v : View sig κ sp S1x2048x128 .f32) (f) (o : ℕ) (i) (w : Vec Ideal S1x512x128 .f32) (L : List (View.Piece (Elt Ideal) S1x2048x128 .f32))
    (C : Fin 2048) (q : Fin 512) (n : Fin 128) (hq : C.val = o + q.val) :
    v.read (Elt Ideal) (v.writes (Elt Ideal) f (⟨Rect.unit (s := S1x2048x128) ![0, o, 0] ![1, 512, 128] i, w⟩ :: L)) (ix3 0 C n) = w (ix3 0 q n) :=
  View.read_writes_cons_unit_of_mem v f i w _ _ (ix3 0 q n) rfl (by
    intro a
    match a with
    | ⟨0, _⟩ => rfl
    | ⟨1, _⟩ => exact hq
    | ⟨2, _⟩ => show n.val = 0 + n.val; omega)

/-- A later head group's store leaves this one. -/
theorem out_miss {sig : RefSig} {κ : Kind} {sp : Space} (v : View sig κ sp S1x2048x128 .f32) (f) (o : ℕ) (i) (w : Vec Ideal S1x512x128 .f32) (L : List (View.Piece (Elt Ideal) S1x2048x128 .f32))
    (C : Fin 2048) (n : Fin 128) (hq : C.val < o) :
    v.read (Elt Ideal) (v.writes (Elt Ideal) f (⟨Rect.unit (s := S1x2048x128) ![0, o, 0] ![1, 512, 128] i, w⟩ :: L)) (ix3 0 C n)
      = v.read (Elt Ideal) (v.writes (Elt Ideal) f L) (ix3 0 C n) :=
  View.read_writes_cons_unit_of_not_mem v f i w _ _ rfl 1 (Or.inl hq)

/-- The state turned round. -/
theorem back0 (w : Vec Ideal S1x128x512 .f32) (q : Fin 512) (n : Fin 128) : k0_pay1 (F := Ideal) w (ix3 0 q n) = w (ix3 0 n q) := by
  unfold k0_pay1
  pointwise

theorem back1 (w : Vec Ideal S1x128x512 .f32) (q : Fin 512) (n : Fin 128) : k0_pay2 (F := Ideal) w (ix3 0 q n) = w (ix3 0 n q) := back0 w q n
theorem back2 (w : Vec Ideal S1x128x512 .f32) (q : Fin 512) (n : Fin 128) : k0_pay3 (F := Ideal) w (ix3 0 q n) = w (ix3 0 n q) := back0 w q n
theorem back3 (w : Vec Ideal S1x128x512 .f32) (q : Fin 512) (n : Fin 128) : k0_pay4 (F := Ideal) w (ix3 0 q n) = w (ix3 0 n q) := back0 w q n

/-- The last chunk of a sequence: the states it writes. -/
theorem stepC (c : Dev nD) (i : grid0.Coords) (arg2 : Memref sig .tc .vmem S128x3072 .bf16) (harg2 : arg2.IsWhole) (arg3 : Memref sig .tc .vmem S128x2048 .bf16) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S128x128 .bf16) (harg12 : arg12.IsWhole) (arg13 : Memref sig .tc .vmem S128x2048 .bf16) (harg13 : arg13.IsWhole) (arg14 : Memref sig .tc .vmem S1x3x3072 .f32) (harg14 : arg14.IsWhole) (arg15 : Memref sig .tc .vmem S1x2048x128 .f32) (harg15 : arg15.IsWhole) (arg16 : Memref sig .tc .vmem S136x3072 .f32) (harg16 : arg16.IsWhole) (arg17 : Memref sig .tc .vmem S128x2048 .f32) (harg17 : arg17.IsWhole) (arg18 : Memref sig .tc .vmem S128x1024 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S4x128x512 .f32) (harg22 : arg22.IsWhole) (arg23 : Memref sig .tc .vmem S128x2048 .f32) (harg23 : arg23.IsWhole) (hc0 : ¬cond0_0 i) (hc1 : cond0_1 i) (hc2 : cond0_2 i)
    (x0 : Vec Ideal S128x3072 .bf16) (x1 : Vec Ideal S128x2048 .bf16) (x2 : Vec Ideal S128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (x9 : Vec Ideal S256x2048 .bf16) (x10 : Vec Ideal S128x128 .bf16) (xs0 : Vec Ideal S136x3072 .f32) (xs6 : Vec Ideal S4x128x512 .f32)
    (g : Fin 4) (n : Fin 128) (q : Fin 512) :
    out0_C_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 xs0 xs6 (ix3 0 ⟨512 * g.val + q.val, by omega⟩ n) = upd x2 x5 x6 x9 x10 xs0 x0 x3 x4 (xs6 (ix3 g n q)) g n q := by
  have hK : ∀ R C, View.read (Elt Ideal) arg16.view (arg16.view.writes (Elt Ideal) (harg16.unread xs0)
      [⟨Rect.unit (s := S136x3072) ![8, 0] ![128, 3072] inb_S136x3072_S128x3072_8_0, k0_pay7 (View.ld x0 (Rect.unit ![0, 0] ![128, 3072] inb_S128x3072_S128x3072_0_0))⟩]) (ix2 R C) = xrow xs0 x0 R C :=
    fun R C => xp_at _ _ _ _ _ (block_at x0 _) _ _ _ _ (fun _ => congrFun (harg16.read_unread xs0) _)
  have h8 : ∀ (R : Fin 136) C, 8 ≤ R.val → View.read (Elt Ideal) arg16.view (arg16.view.writes (Elt Ideal) arg16.view.junk
      [⟨Rect.unit (s := S136x3072) ![8, 0] ![128, 3072] inb_S136x3072_S128x3072_8_0, k0_pay7 (View.ld x0 (Rect.unit ![0, 0] ![128, 3072] inb_S128x3072_S128x3072_0_0))⟩]) (ix2 R C) = xrow xs0 x0 R C :=
    fun R C h => xp_at _ _ _ _ _ (block_at x0 _) _ _ _ _ (fun h' => absurd h (by omega))
  unfold out0_C_13 kernelRun0_C
  dsimp only
  sl_unfold_words
  simp only [View.readCov, View.readAt_eq_ld, harg2.read_unread, harg4.read_unread, harg5.read_unread, harg6.read_unread, harg7.read_unread, harg8.read_unread, harg11.read_unread, harg12.read_unread, harg22.read_unread]
  rcases g with ⟨_ | _ | _ | _ | _, hg⟩
  · refine (out_miss _ _ 1536 _ _ _ _ _ (by show 512 * 0 + q.val < 1536; omega)).trans ?_
    refine (out_miss _ _ 1024 _ _ _ _ _ (by show 512 * 0 + q.val < 1024; omega)).trans ?_
    refine (out_miss _ _ 512 _ _ _ _ _ (by show 512 * 0 + q.val < 512; omega)).trans ?_
    refine (out_hit _ _ 0 _ _ _ _ q n (by show 512 * 0 + q.val = 0 + q.val; omega)).trans ((back0 _ q n).trans ((((((ld_ht _ 0 _ ⟨0, by decide⟩ rfl n q).trans (ht_miss _ _ _ _ _ _ _ (by show 0 ≠ 3; decide) _ _)).trans (ht_miss _ _ _ _ _ _ _ (by show 0 ≠ 2; decide) _ _)).trans (ht_miss _ _ _ _ _ _ _ (by show 0 ≠ 1; decide) _ _)).trans (ht_hit _ _ 0 _ _ _ _ (by rfl) _ _)).trans ?_))
    refine upd0 _ _ _ _ _ _ _ _ _ _ _ _ _ _ rfl _ _ ?_ (fun l => ?_) (fun l => ?_)
    · exact (ld_ht xs6 0 _ ⟨0, by decide⟩ rfl n q)
    · refine (ld_bc _ 0 0 _ l n l ⟨0 + n.val, by omega⟩ (by omega) rfl).trans ?_
      refine (bc_miss _ _ _ _ _ _ _ _ (by show 0 + n.val < 512; omega)).trans ?_
      refine (bc_hit _ _ _ _ _ _ _ _ ⟨0 + n.val, by omega⟩ (by show 0 + n.val = 0 + (0 + n.val); omega)).trans ?_
      refine (slab4 ..).trans ?_
      exact cell_ld _ _ _ _ _ _ hK h8 _ _ _ _ _ _ _ _ _ _ _ _ _ rfl
    · refine (ld_xs _ 0 0 _ l q l ⟨0 + q.val, by omega⟩ (by omega) rfl).trans ?_
      refine (xs_miss _ _ _ _ _ _ _ _ (by show 0 + q.val < 1536; omega)).trans ?_
      refine (xs_miss _ _ _ _ _ _ _ _ (by show 0 + q.val < 1024; omega)).trans ?_
      refine (xs_miss _ _ _ _ _ _ _ _ (by show 0 + q.val < 512; omega)).trans ?_
      refine (xs_hit _ _ _ _ _ _ _ _ q rfl).trans ?_
      refine (slab0 ..).trans ?_
      exact cell_ld _ _ _ _ _ _ hK h8 _ _ _ _ _ _ _ _ _ _ _ _ _ rfl
  · refine (out_miss _ _ 1536 _ _ _ _ _ (by show 512 * 1 + q.val < 1536; omega)).trans ?_
    refine (out_miss _ _ 1024 _ _ _ _ _ (by show 512 * 1 + q.val < 1024; omega)).trans ?_
    refine (out_hit _ _ 512 _ _ _ _ q n (by show 512 * 1 + q.val = 512 + q.val; omega)).trans ((back1 _ q n).trans (((((ld_ht _ 1 _ ⟨1, by decide⟩ rfl n q).trans (ht_miss _ _ _ _ _ _ _ (by show 1 ≠ 3; decide) _ _)).trans (ht_miss _ _ _ _ _ _ _ (by show 1 ≠ 2; decide) _ _)).trans (ht_hit _ _ 1 _ _ _ _ (by rfl) _ _)).trans ?_))
    refine upd1 _ _ _ _ _ _ _ _ _ _ _ _ _ _ rfl _ _ ?_ (fun l => ?_) (fun l => ?_)
    · exact (ld_ht xs6 1 _ ⟨1, by decide⟩ rfl n q)
    · refine (ld_bc _ 0 128 _ l n l ⟨128 + n.val, by omega⟩ (by omega) rfl).trans ?_
      refine (bc_miss _ _ _ _ _ _ _ _ (by show 128 + n.val < 512; omega)).trans ?_
      refine (bc_hit _ _ _ _ _ _ _ _ ⟨128 + n.val, by omega⟩ (by show 128 + n.val = 0 + (128 + n.val); omega)).trans ?_
      refine (slab4 ..).trans ?_
      exact cell_ld _ _ _ _ _ _ hK h8 _ _ _ _ _ _ _ _ _ _ _ _ _ rfl
    · refine (ld_xs _ 0 512 _ l q l ⟨512 + q.val, by omega⟩ (by omega) rfl).trans ?_
      refine (xs_miss _ _ _ _ _ _ _ _ (by show 512 + q.val < 1536; omega)).trans ?_
      refine (xs_miss _ _ _ _ _ _ _ _ (by show 512 + q.val < 1024; omega)).trans ?_
      refine (xs_hit _ _ _ _ _ _ _ _ q rfl).trans ?_
      refine (slab1 ..).trans ?_
      exact cell_ld _ _ _ _ _ _ hK h8 _ _ _ _ _ _ _ _ _ _ _ _ _ rfl
  · refine (out_miss _ _ 1536 _ _ _ _ _ (by show 512 * 2 + q.val < 1536; omega)).trans ?_
    refine (out_hit _ _ 1024 _ _ _ _ q n (by show 512 * 2 + q.val = 1024 + q.val; omega)).trans ((back2 _ q n).trans ((((ld_ht _ 2 _ ⟨2, by decide⟩ rfl n q).trans (ht_miss _ _ _ _ _ _ _ (by show 2 ≠ 3; decide) _ _)).trans (ht_hit _ _ 2 _ _ _ _ (by rfl) _ _)).trans ?_))
    refine upd2 _ _ _ _ _ _ _ _ _ _ _ _ _ _ rfl _ _ ?_ (fun l => ?_) (fun l => ?_)
    · exact (ld_ht xs6 2 _ ⟨2, by decide⟩ rfl n q)
    · refine (ld_bc _ 0 256 _ l n l ⟨256 + n.val, by omega⟩ (by omega) rfl).trans ?_
      refine (bc_miss _ _ _ _ _ _ _ _ (by show 256 + n.val < 512; omega)).trans ?_
      refine (bc_hit _ _ _ _ _ _ _ _ ⟨256 + n.val, by omega⟩ (by show 256 + n.val = 0 + (256 + n.val); omega)).trans ?_
      refine (slab4 ..).trans ?_
      exact cell_ld _ _ _ _ _ _ hK h8 _ _ _ _ _ _ _ _ _ _ _ _ _ rfl
    · refine (ld_xs _ 0 1024 _ l q l ⟨1024 + q.val, by omega⟩ (by omega) rfl).trans ?_
      refine (xs_miss _ _ _ _ _ _ _ _ (by show 1024 + q.val < 1536; omega)).trans ?_
      refine (xs_hit _ _ _ _ _ _ _ _ q rfl).trans ?_
      refine (slab2 ..).trans ?_
      exact cell_ld _ _ _ _ _ _ hK h8 _ _ _ _ _ _ _ _ _ _ _ _ _ rfl
  · refine (out_hit _ _ 1536 _ _ _ _ q n (by show 512 * 3 + q.val = 1536 + q.val; omega)).trans ((back3 _ q n).trans (((ld_ht _ 3 _ ⟨3, by decide⟩ rfl n q).trans (ht_hit _ _ 3 _ _ _ _ (by rfl) _ _)).trans ?_))
    refine upd3 _ _ _ _ _ _ _ _ _ _ _ _ _ _ rfl _ _ ?_ (fun l => ?_) (fun l => ?_)
    · exact (ld_ht xs6 3 _ ⟨3, by decide⟩ rfl n q)
    · refine (ld_bc _ 0 384 _ l n l ⟨384 + n.val, by omega⟩ (by omega) rfl).trans ?_
      refine (bc_miss _ _ _ _ _ _ _ _ (by show 384 + n.val < 512; omega)).trans ?_
      refine (bc_hit _ _ _ _ _ _ _ _ ⟨384 + n.val, by omega⟩ (by show 384 + n.val = 0 + (384 + n.val); omega)).trans ?_
      refine (slab4 ..).trans ?_
      exact cell_ld _ _ _ _ _ _ hK h8 _ _ _ _ _ _ _ _ _ _ _ _ _ rfl
    · refine (ld_xs _ 0 1536 _ l q l ⟨1536 + q.val, by omega⟩ (by omega) rfl).trans ?_
      refine (xs_hit _ _ _ _ _ _ _ _ q rfl).trans ?_
      refine (slab3 ..).trans ?_
      exact cell_ld _ _ _ _ _ _ hK h8 _ _ _ _ _ _ _ _ _ _ _ _ _ rfl
  · omega

end Cert.Ssd

end
-- ==== Proof.SsdCarry.lean ====
/- The rows of the convolution one chunk of the state-space kernel hands to the next. -/
module

public import proofs.«01_k».proof.Proof.SsdStep
public import proofs.«01_k».proof.Proof.Gen.Reference4Ideal.Read
public import Idealize.ShloMosaic.Lib.WritesUnit
public import Idealize.ShloMosaic.Lib.Pointwise

@[expose] public section

set_option maxHeartbeats 2000000
set_option maxRecDepth 16384

noncomputable section

namespace Cert.Ssd

open Cert.Kernel4Ideal Cert.Kernel4Ideal.Gen Idealize.ShloMosaic Idealize.SL.Sem

/-- The carried rows, read back where they were stored. -/
theorem tail_hit {sig : RefSig} {κ : Kind} {sp : Space} (v : View sig κ sp S136x3072 .f32) (f) (i) (w : Vec Ideal S3x3072 .f32)
    (L : List (View.Piece (Elt Ideal) S136x3072 .f32)) (R : Fin 136) (p : Fin 3) (hR : R.val = 5 + p.val) (q : Fin 3072) :
    v.read (Elt Ideal) (v.writes (Elt Ideal) f (⟨Rect.unit (s := S136x3072) ![5, 0] ![3, 3072] i, w⟩ :: L)) (ix2 R q) = w (ix2 p q) :=
  View.read_writes_cons_unit_of_mem v f i w _ _ (ix2 p q) rfl (by
    intro a
    match a with
    | ⟨0, _⟩ => exact hR
    | ⟨1, _⟩ => show q.val = 0 + q.val; omega)

/-- The rows carried on are stored as they are. -/
theorem pay25_at (v : Vec Ideal S3x3072 .f32) (p : Fin 3) (q : Fin 3072) : k0_pay25 (F := Ideal) v (ix2 p q) = v (ix2 p q) := by
  unfold k0_pay25
  pointwise []

/-- The first chunk hands on its last three rows. -/
theorem carryA (c : Dev nD) (i : grid0.Coords) (arg2 : Memref sig .tc .vmem S128x3072 .bf16) (harg2 : arg2.IsWhole) (arg3 : Memref sig .tc .vmem S128x2048 .bf16) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S128x128 .bf16) (harg12 : arg12.IsWhole) (arg13 : Memref sig .tc .vmem S128x2048 .bf16) (harg13 : arg13.IsWhole) (arg14 : Memref sig .tc .vmem S1x3x3072 .f32) (harg14 : arg14.IsWhole) (arg15 : Memref sig .tc .vmem S1x2048x128 .f32) (harg15 : arg15.IsWhole) (arg16 : Memref sig .tc .vmem S136x3072 .f32) (harg16 : arg16.IsWhole) (arg17 : Memref sig .tc .vmem S128x2048 .f32) (harg17 : arg17.IsWhole) (arg18 : Memref sig .tc .vmem S128x1024 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S4x128x512 .f32) (harg22 : arg22.IsWhole) (arg23 : Memref sig .tc .vmem S128x2048 .f32) (harg23 : arg23.IsWhole) (hc0 : cond0_0 i) (hc1 : ¬cond0_1 i) (hc2 : ¬cond0_2 i)
    (x0 : Vec Ideal S128x3072 .bf16) (x1 : Vec Ideal S128x2048 .bf16) (x2 : Vec Ideal S128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (x9 : Vec Ideal S256x2048 .bf16) (x10 : Vec Ideal S128x128 .bf16)
    (p : Fin 3) (q : Fin 3072) (R : Fin 136) (hR : R.val = 5 + p.val) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 (ix2 R q) = x0 (ix2 (⟨125 + p.val, by omega⟩ : Fin 128) q) := by
  unfold sout0_A_0 kernelRun0_A
  dsimp only
  sl_unfold_words
  simp only [View.readCov, View.readAt_eq_ld, harg2.read_unread]
  refine (tail_hit _ _ _ _ _ R p hR q).trans ?_
  rw [pay25_at, ld_last, rows_at _ _ _ _ _ _ ⟨125 + p.val, by omega⟩ (by show 133 + p.val = 8 + (125 + p.val); omega), block_at]

/-- A middle chunk hands on its last three rows. -/
theorem carryB (c : Dev nD) (i : grid0.Coords) (arg2 : Memref sig .tc .vmem S128x3072 .bf16) (harg2 : arg2.IsWhole) (arg3 : Memref sig .tc .vmem S128x2048 .bf16) (harg3 : arg3.IsWhole) (arg4 : Memref sig .tc .vmem S128x128 .f32) (harg4 : arg4.IsWhole) (arg5 : Memref sig .tc .vmem S4x3072 .f32) (harg5 : arg5.IsWhole) (arg6 : Memref sig .tc .vmem S1x3072 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S128x128 .bf16) (harg12 : arg12.IsWhole) (arg13 : Memref sig .tc .vmem S128x2048 .bf16) (harg13 : arg13.IsWhole) (arg14 : Memref sig .tc .vmem S1x3x3072 .f32) (harg14 : arg14.IsWhole) (arg15 : Memref sig .tc .vmem S1x2048x128 .f32) (harg15 : arg15.IsWhole) (arg16 : Memref sig .tc .vmem S136x3072 .f32) (harg16 : arg16.IsWhole) (arg17 : Memref sig .tc .vmem S128x2048 .f32) (harg17 : arg17.IsWhole) (arg18 : Memref sig .tc .vmem S128x1024 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S4x128x512 .f32) (harg22 : arg22.IsWhole) (arg23 : Memref sig .tc .vmem S128x2048 .f32) (harg23 : arg23.IsWhole) (hc0 : ¬cond0_0 i) (hc1 : ¬cond0_1 i) (hc2 : ¬cond0_2 i)
    (x0 : Vec Ideal S128x3072 .bf16) (x1 : Vec Ideal S128x2048 .bf16) (x2 : Vec Ideal S128x128 .f32) (x3 : Vec Ideal S4x3072 .f32) (x4 : Vec Ideal S1x3072 .f32) (x5 : Vec Ideal S1x128 .f32) (x6 : Vec Ideal S1x128 .f32) (x7 : Vec Ideal S1x2048 .f32) (x8 : Vec Ideal S1x2048 .f32) (x9 : Vec Ideal S256x2048 .bf16) (x10 : Vec Ideal S128x128 .bf16) (xs0 : Vec Ideal S136x3072 .f32) (xs6 : Vec Ideal S4x128x512 .f32)
    (p : Fin 3) (q : Fin 3072) (R : Fin 136) (hR : R.val = 5 + p.val) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 x0 x1 x2 x3 x4 x5 x6 x7 x8 x9 x10 xs0 xs6 (ix2 R q) = x0 (ix2 (⟨125 + p.val, by omega⟩ : Fin 128) q) := by
  unfold sout0_B_0 kernelRun0_B
  dsimp only
  sl_unfold_words
  simp only [View.readCov, View.readAt_eq_ld, harg2.read_unread]
  refine (tail_hit _ _ _ _ _ R p hR q).trans ?_
  rw [pay25_at, ld_last, rows_at _ _ _ _ _ _ ⟨125 + p.val, by omega⟩ (by show 133 + p.val = 8 + (125 + p.val); omega), block_at]

end Cert.Ssd

end
-- ==== Proof.SsdState.lean ====
module

public import proofs.«01_k».proof.Proof.SsdChunk
public import proofs.«01_k».proof.Proof.SsdBlk
public import proofs.«01_k».proof.Proof.SsdOut
public import proofs.«01_k».proof.Proof.SsdCarry
public import proofs.«01_k».proof.Proof.Gen.Reference4Ideal.Read
public import Idealize.ShloMosaic.Lib.WritesUnit
public import Idealize.ShloMosaic.Lib.Pointwise

@[expose] public section

set_option maxRecDepth 16384

noncomputable section

namespace Cert.Ssd

open Idealize.ShloMosaic.TcCoe Cert.Kernel4Ideal Cert.Kernel4Ideal.Gen Idealize.ShloMosaic Idealize.SL.Sem

variable (m : (ℓ : Loc nD τ sig) → Buf (Elt Ideal) ℓ)

/-- The block of the convolution's columns. -/
theorem blk0 (c : Dev nD) (t : Fin cfg0.N) (p : Fin 128) (q : Fin 3072) :
    X0_0 m c t (ix2 p q) = m ((c : Thread nD τ).loc main_arg0) (ix2 (⟨t.val * 128 + p.val, by have := lt_of_lt_of_eq t.isLt N_0; omega⟩ : Fin 32768) (⟨6144 + q.val, by omega⟩ : Fin 9728)) := by
  unfold X0_0 Pipeline.Window.fill
  rw [dif_pos (moved0_0 t (ix2 p q))]
  show V m c main_arg0 _ = _
  rw [V_main_arg0]
  congr 1
  have h : win0_0.index t = ![t.val, 2] := (by decide +kernel : ∀ t : Fin grid0.N, win0_0.index t = ![t.val, 2]) t
  funext a
  refine Fin.ext ?_
  fin_cases a
  · show win0_0.index t (0 : Fin 2) * 128 + 1 * p.val = t.val * 128 + p.val
    rw [h]; simp
  · show win0_0.index t (1 : Fin 2) * 3072 + 1 * q.val = 6144 + q.val
    rw [h]; simp

/-- The blocks of point `16 b + z` are those of chunk `z` of sequence `b`. -/
theorem blocks_at (c : Dev nD) (t : Fin cfg0.N) (b z : Fin 16) (ht : t.val = 16 * b.val + z.val) :
    Blocks (m ((c : Thread nD τ).loc main_arg1)) (m ((c : Thread nD τ).loc main_arg2)) (m ((c : Thread nD τ).loc main_arg3)) (m ((c : Thread nD τ).loc main_arg4)) (m ((c : Thread nD τ).loc main_arg5)) b z
      (iblk m c 2 t) (iblk m c 3 t) (iblk m c 4 t) (iblk m c 5 t) (iblk m c 6 t) (iblk m c 9 t) (iblk m c 10 t) where
  h2 := fun l h => (blk2 m c t l h).trans (congrArg (fun r : Fin 32768 => m ((c : Thread nD τ).loc main_arg1) (ix2 r h)) (Fin.ext (by show t.val * 128 + l.val = b.val * 2048 + z.val * 128 + l.val; omega)))
  h3 := fun j C => blk3 m c t j C
  h4 := fun C => blk4 m c t C
  h5 := fun h => blk5 m c t ⟨h.val, by omega⟩ h.isLt
  h6 := fun h => blk6 m c t ⟨h.val, by omega⟩ h.isLt
  h9 := fun j C => blk9 m c t j C
  h10 := fun l k => blk10 m c t l k

/-- What a point keeps of the convolution's rows: its last three. -/
theorem kept_rows (c : Dev nD) (t : Fin cfg0.N) (h1 : ¬t.val % 16 = 15) (R : Fin 136) (p : Fin 3) (hR : R.val = 5 + p.val) (C : Fin 3072) :
    (outsAt0 m c t.val t.isLt).2.2.2.1 (ix2 R C) = X0_0 m c t (ix2 (⟨125 + p.val, by omega⟩ : Fin 128) C) := by
  by_cases h0 : t.val % 16 = 0
  · rw [outsAt0_A m c t h0 h1 h1]
    dsimp only
    exact carryA _ _ _ _ _ _ _ _ _ _ _ _ _ _ _ _ _ _ _ _ _ _ _ _ _ _ _ _ _ _ _ _ _ _ _ _ _ _ _ _ _ _ _ _ _ _ _ _ _ _ _ _ _ _ _ _ _ _ _ _ p C R hR
  · rw [outsAt0_B m c t h0 h1 h1]
    dsimp only
    exact carryB _ _ _ _ _ _ _ _ _ _ _ _ _ _ _ _ _ _ _ _ _ _ _ _ _ _ _ _ _ _ _ _ _ _ _ _ _ _ _ _ _ _ _ _ _ _ _ _ _ _ _ _ _ _ _ _ _ _ _ _ _ _ p C R hR

/-- The rows a sequence's first point reads. -/
theorem rows_first (c : Dev nD) (t : Fin cfg0.N) (b z : Fin 16) (ht : t.val = 16 * b.val + z.val) (hz : z.val = 0) (R : Fin 136) (C : Fin 3072) (hR : 5 ≤ R.val) :
    xrow (fun _ => 0) (X0_0 m c t) R C = Ref.xr (m ((c : Thread nD τ).loc main_arg0)) b ⟨z.val * 128 + (R.val - 5), by omega⟩ C := by
  unfold xrow Ref.xr
  by_cases h : 8 ≤ R.val
  · rw [dif_pos h, dif_pos (by show 3 ≤ z.val * 128 + (R.val - 5); omega), blk0]
    exact congrArg (fun r : Fin 32768 => m ((c : Thread nD τ).loc main_arg0) (ix2 r (⟨6144 + C.val, by omega⟩ : Fin 9728))) (Fin.ext (by
      show t.val * 128 + (R.val - 8) = b.val * 2048 + (z.val * 128 + (R.val - 5) - 3); omega))
  · rw [dif_neg h, dif_neg (by show ¬ 3 ≤ z.val * 128 + (R.val - 5); omega)]

/-- The rows a later point reads. -/
theorem rows_later (c : Dev nD) (t : Fin cfg0.N) (b z : Fin 16) (ht : t.val = 16 * b.val + z.val) (hz : ¬ z.val = 0) (R : Fin 136) (C : Fin 3072) (hR : 5 ≤ R.val) :
    xrow (outsAt0 m c (t.val - 1) (Nat.lt_of_le_of_lt (Nat.sub_le _ _) t.isLt)).2.2.2.1 (X0_0 m c t) R C
      = Ref.xr (m ((c : Thread nD τ).loc main_arg0)) b ⟨z.val * 128 + (R.val - 5), by omega⟩ C := by
  unfold xrow Ref.xr
  rw [dif_pos (show 3 ≤ z.val * 128 + (R.val - 5) by omega)]
  by_cases h : 8 ≤ R.val
  · rw [dif_pos h, blk0]
    exact congrArg (fun r : Fin 32768 => m ((c : Thread nD τ).loc main_arg0) (ix2 r (⟨6144 + C.val, by omega⟩ : Fin 9728))) (Fin.ext (by
      show t.val * 128 + (R.val - 8) = b.val * 2048 + (z.val * 128 + (R.val - 5) - 3); omega))
  · rw [dif_neg h]
    refine (kept_rows m c ⟨t.val - 1, Nat.lt_of_le_of_lt (Nat.sub_le _ _) t.isLt⟩ (by show ¬ (t.val - 1) % 16 = 15; omega) R ⟨R.val - 5, by omega⟩ (by show R.val = 5 + (R.val - 5); omega) C).trans ?_
    rw [blk0]
    exact congrArg (fun r : Fin 32768 => m ((c : Thread nD τ).loc main_arg0) (ix2 r (⟨6144 + C.val, by omega⟩ : Fin 9728))) (Fin.ext (by
      show (t.val - 1) * 128 + (125 + (R.val - 5)) = b.val * 2048 + (z.val * 128 + (R.val - 5) - 3); omega))

/-- The arguments the decays come from are real. -/
abbrev Fine (c : Dev nD) : Prop := Fin4 (m ((c : Thread nD τ).loc main_arg1)) (m ((c : Thread nD τ).loc main_arg4)) (m ((c : Thread nD τ).loc main_arg5))

/-- A chunk's whole decay, as the exponent's logarithm. -/
def totOf (c : Dev nD) (b : Fin 16) (C : Fin 2048) (z : ℕ) : EReal :=
  if h : z < 16 then Ref.racs (m ((c : Thread nD τ).loc main_arg1)) (m ((c : Thread nD τ).loc main_arg4)) (m ((c : Thread nD τ).loc main_arg5)) b ⟨z, h⟩ 127 ⟨C.val / 64, by omega⟩ else 0

/-- A chunk's part of the state. -/
def addOf (c : Dev nD) (b : Fin 16) (C : Fin 2048) (n : Fin 128) (z : ℕ) : EReal :=
  if h : z < 16 then Ref.radd (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b ⟨z, h⟩ C n else 0

/-- The step of a point, from any carried state. -/
theorem upd_point (c : Dev nD) (hf : Fine m c) (t : Fin cfg0.N) (b z : Fin 16) (ht : t.val = 16 * b.val + z.val) (T : Vec Ideal S136x3072 .f32)
    (hx : ∀ (R : Fin 136) (C : Fin 3072) (hR : 5 ≤ R.val), xrow T (X0_0 m c t) R C = Ref.xr (m ((c : Thread nD τ).loc main_arg0)) b ⟨z.val * 128 + (R.val - 5), by omega⟩ C)
    (tot add : ℕ → EReal) (g : Fin 4) (n : Fin 128) (q : Fin 512)
    (htot : tot = totOf m c b ⟨512 * g.val + q.val, by omega⟩) (hadd : add = addOf m c b ⟨512 * g.val + q.val, by omega⟩ n) :
    upd (iblk m c 2 t) (iblk m c 5 t) (iblk m c 6 t) (iblk m c 9 t) (iblk m c 10 t) T (X0_0 m c t) (iblk m c 3 t) (iblk m c 4 t) (st tot add z.val) g n q = st tot add (z.val + 1) := by
  refine (upd_ref (blocks_at m c t b z ht) hf T hx _ g n q).trans ?_
  rw [st, htot, hadd]
  unfold totOf addOf
  rw [dif_pos z.isLt, dif_pos z.isLt]

/-- The state kept after chunk `z` of sequence `b`. -/
theorem kept_state (c : Dev nD) (hf : Fine m c) (b : Fin 16) (g : Fin 4) (n : Fin 128) (q : Fin 512) (z : ℕ) : ∀ (_ : z < 15) (t : Fin cfg0.N) (_ : t.val = 16 * b.val + z),
    (outsAt0 m c t.val t.isLt).2.2.2.2 (ix3 g n q) = st (totOf m c b ⟨512 * g.val + q.val, by omega⟩) (addOf m c b ⟨512 * g.val + q.val, by omega⟩ n) (z + 1) := by
  induction z with
  | zero =>
    intro hz t ht
    rw [outsAt0_A m c t (by omega) (by omega) (by omega)]
    dsimp only
    refine (stepA _ _ _ _ _ _ _ _ _ _ _ _ _ _ _ _ _ _ _ _ _ _ _ _ _ _ _ _ _ _ _ _ _ _ _ _ _ _ _ _ _ _ _ _ _ _ _ _ _ _ _ _ _ _ _ _ _ _ _ _ g n q).trans ?_
    exact upd_point m c hf t b 0 ht (fun _ => 0) (fun R C hR => rows_first m c t b 0 ht rfl R C hR) _ _ g n q rfl rfl
  | succ z ih =>
    intro hz t ht
    rw [outsAt0_B m c t (by omega) (by omega) (by omega)]
    dsimp only
    refine (stepB _ _ _ _ _ _ _ _ _ _ _ _ _ _ _ _ _ _ _ _ _ _ _ _ _ _ _ _ _ _ _ _ _ _ _ _ _ _ _ _ _ _ _ _ _ _ _ _ _ _ _ _ _ _ _ _ _ _ _ _ _ _ g n q).trans ?_
    have e := ih (by omega) ⟨t.val - 1, Nat.lt_of_le_of_lt (Nat.sub_le _ _) t.isLt⟩ (by show t.val - 1 = _; omega)
    refine (congrArg (fun s => upd _ _ _ _ _ _ _ _ _ s g n q) e).trans ?_
    exact upd_point m c hf t b ⟨z + 1, by omega⟩ ht _ (fun R C hR => rows_later m c t b ⟨z + 1, by omega⟩ ht (by show ¬ z + 1 = 0; omega) R C hR) _ _ g n q rfl rfl

/-- The state written by a sequence's last point. -/
theorem last_state (c : Dev nD) (hf : Fine m c) (b : Fin 16) (t : Fin cfg0.N) (ht : t.val = 16 * b.val + 15) (g : Fin 4) (n : Fin 128) (q : Fin 512) :
    (outsAt0 m c t.val t.isLt).2.2.1 (ix3 0 (⟨512 * g.val + q.val, by omega⟩ : Fin 2048) n) = st (totOf m c b ⟨512 * g.val + q.val, by omega⟩) (addOf m c b ⟨512 * g.val + q.val, by omega⟩ n) 16 := by
  rw [outsAt0_C m c t (by omega) (by omega) (by omega)]
  dsimp only
  refine (stepC _ _ _ _ _ _ _ _ _ _ _ _ _ _ _ _ _ _ _ _ _ _ _ _ _ _ _ _ _ _ _ _ _ _ _ _ _ _ _ _ _ _ _ _ _ _ _ _ _ _ _ _ _ _ _ _ _ _ _ _ _ _ g n q).trans ?_
  have e := kept_state m c hf b g n q 14 (by omega) ⟨t.val - 1, Nat.lt_of_le_of_lt (Nat.sub_le _ _) t.isLt⟩ (by show t.val - 1 = _; omega)
  refine (congrArg (fun s => upd _ _ _ _ _ _ _ _ _ s g n q) e).trans ?_
  exact upd_point m c hf t b 15 ht _ (fun R C hR => rows_later m c t b 15 ht (by decide) R C hR) _ _ g n q rfl rfl

end Cert.Ssd
end
-- ==== Proof.SsdRefState.lean ====
/- The reference of the state-space program: its last states. -/
module

public import proofs.«01_k».proof.Proof.Gen.Reference4Ideal.Read
public import Idealize.ShloMosaic.Lib.Pointwise
public import Idealize.ShloMosaic.Lib.ValueIdx
public import proofs.«01_k».proof.Proof.SsdRefDt

@[expose] public section

set_option maxRecDepth 16384

noncomputable section

namespace Cert.Ssd.Ref

open Cert.Reference4Ideal Cert.Reference4Ideal.Read Idealize.ShloMosaic Idealize.SL.Sem

/-- A position's values. -/
theorem x_at (x0 : Vec Ideal S32768x9728 .bf16) (x2 : Vec Ideal S1x4x3072 .f32) (x3 : Vec Ideal S1x3072 .f32) (b z : Fin 16) (l : Fin 128) (h : Fin 32) (p : Fin 64) :
    val_main_v39 (F := Ideal) x0 x2 x3 (ix5 b z l h p) = rcell x0 x2 x3 b ⟨z.val * 128 + l.val, by omega⟩ ⟨h.val * 64 + p.val, by omega⟩ := by
  unfold val_main_v39 val_main_v38
  pointwise [u_at]

/-- A position's weight, before it meets the values. -/
theorem wt_at (x1 : Vec Ideal S32768x128 .f32) (x4 x5 : Vec Ideal S1x32 .f32) (b z : Fin 16) (l : Fin 128) (h : Fin 32) :
    val_main_v71 (F := Ideal) x1 x4 x5 (ix4 b z l h) = Ideal.exp (racs x1 x4 x5 b z 127 h - racs x1 x4 x5 b z l h) * rdt x1 x4 b z l h := by
  unfold val_main_v71 val_main_v70 val_main_v69 val_main_v68 val_main_v67
  pointwise [tot_at, acs_at, dt_at]

/-- A position's weight over its head's columns. -/
theorem wide_at (x1 : Vec Ideal S32768x128 .f32) (x4 x5 : Vec Ideal S1x32 .f32) (b z : Fin 16) (l : Fin 128) (h : Fin 32) (p : Fin 64) :
    val_main_v73 (F := Ideal) x1 x4 x5 (ix5 b z l h p) = Ideal.exp (racs x1 x4 x5 b z 127 h - racs x1 x4 x5 b z l h) * rdt x1 x4 b z l h := by
  rw [← wt_at]
  unfold val_main_v73 val_main_v72
  generalize val_main_v71 (F := Ideal) x1 x4 x5 = y
  pointwise []

/-- A position's values, weighted. -/
theorem xw_at (x0 : Vec Ideal S32768x9728 .bf16) (x1 : Vec Ideal S32768x128 .f32) (x2 : Vec Ideal S1x4x3072 .f32) (x3 : Vec Ideal S1x3072 .f32) (x4 x5 : Vec Ideal S1x32 .f32)
    (b z : Fin 16) (l : Fin 128) (h : Fin 32) (p : Fin 64) :
    val_main_v74 (F := Ideal) x0 x1 x2 x3 x4 x5 (ix5 b z l h p) = rcell x0 x2 x3 b ⟨z.val * 128 + l.val, by omega⟩ ⟨h.val * 64 + p.val, by omega⟩
      * (Ideal.exp (racs x1 x4 x5 b z 127 h - racs x1 x4 x5 b z l h) * rdt x1 x4 b z l h) := by
  rw [val_main_v74_apply, x_at, wide_at]
  rfl

/-- A position's keys. -/
theorem B_at (x0 : Vec Ideal S32768x9728 .bf16) (x2 : Vec Ideal S1x4x3072 .f32) (x3 : Vec Ideal S1x3072 .f32) (b z : Fin 16) (l : Fin 128) (g : Fin 4) (n : Fin 128) :
    val_main_v41 (F := Ideal) x0 x2 x3 (ix5 b z l g n) = rcell x0 x2 x3 b ⟨z.val * 128 + l.val, by omega⟩ ⟨2048 + (g.val * 128 + n.val), by omega⟩ := by
  unfold val_main_v41 val_main_v40
  pointwise [u_at]

/-- What a chunk adds, in head groups. -/
theorem add6 (x0 : Vec Ideal S32768x9728 .bf16) (x1 : Vec Ideal S32768x128 .f32) (x2 : Vec Ideal S1x4x3072 .f32) (x3 : Vec Ideal S1x3072 .f32) (x4 x5 : Vec Ideal S1x32 .f32)
    (b z : Fin 16) (h : Fin 32) (p : Fin 64) (n : Fin 128) :
    val_main_v77 (F := Ideal) x0 x1 x2 x3 x4 x5 (ix5 b z h p n) = ∑ l : Fin 128, val_main_v74 (F := Ideal) x0 x1 x2 x3 x4 x5 (ix5 b z l h p) * val_main_v41 (F := Ideal) x0 x2 x3 (ix5 b z l ⟨h.val / 8, by omega⟩ n) := by
  unfold val_main_v77 val_main_v76 val_main_v75
  generalize val_main_v74 (F := Ideal) x0 x1 x2 x3 x4 x5 = y
  generalize val_main_v41 (F := Ideal) x0 x2 x3 = w
  pointwise []

/-- The last state, as a sum over chunks. -/
theorem st4 (x0 : Vec Ideal S32768x9728 .bf16) (x1 : Vec Ideal S32768x128 .f32) (x2 : Vec Ideal S1x4x3072 .f32) (x3 : Vec Ideal S1x3072 .f32) (x4 x5 : Vec Ideal S1x32 .f32)
    (b : Fin 16) (C : Fin 2048) (n : Fin 128) :
    val_main_v91 (F := Ideal) x0 x1 x2 x3 x4 x5 (ix3 b C n) = ∑ z : Fin 16, Ideal.exp (val_main_v87 (F := Ideal) x1 x4 x5 (ix3 b z ⟨C.val / 64, by omega⟩))
      * val_main_v77 (F := Ideal) x0 x1 x2 x3 x4 x5 (ix5 b z ⟨C.val / 64, by omega⟩ ⟨C.val % 64, by omega⟩ n) := by
  unfold val_main_v91 val_main_v89 val_main_v88
  generalize val_main_v87 (F := Ideal) x1 x4 x5 = y
  generalize val_main_v77 (F := Ideal) x0 x1 x2 x3 x4 x5 = w
  pointwise []

/-- The last state. -/
theorem state_at (x0 : Vec Ideal S32768x9728 .bf16) (x1 : Vec Ideal S32768x128 .f32) (x2 : Vec Ideal S1x4x3072 .f32) (x3 : Vec Ideal S1x3072 .f32) (x4 x5 : Vec Ideal S1x32 .f32)
    (b : Fin 16) (C : Fin 2048) (n : Fin 128) :
    val_main_v91 (F := Ideal) x0 x1 x2 x3 x4 x5 (ix3 b C n)
      = ∑ z : Fin 16, Ideal.exp (∑ k : Fin 16, if z.val < k.val then racs x1 x4 x5 b k 127 ⟨C.val / 64, by omega⟩ else 0) * radd x0 x1 x2 x3 x4 x5 b z C n := by
  rw [st4]
  refine Finset.sum_congr rfl fun z _ => ?_
  rw [later_at, add6]
  refine congrArg₂ (fun u v : EReal => u * v) rfl (Finset.sum_congr rfl fun l _ => ?_)
  rw [xw_at, B_at, mul_comm]
  refine congrArg₂ (fun u v : EReal => u * v) (congrArg (rcell x0 x2 x3 b _) (Fin.ext ?_)) (congrArg (fun u : EReal => u * _) (congrArg (rcell x0 x2 x3 b _) (Fin.ext ?_)))
  · show 2048 + (C.val / 64 / 8 * 128 + n.val) = 2048 + (C.val / 512 * 128 + n.val)
    omega
  · show C.val / 64 * 64 + C.val % 64 = C.val
    omega

end Cert.Ssd.Ref

end
-- ==== Proof.SsdRef.lean ====
/- The reference's convolution state, at an entry. -/
module

public import proofs.«01_k».proof.Proof.Gen.Reference4Ideal.Read
public import Idealize.ShloMosaic.Lib.Pointwise
public import Idealize.ShloMosaic.Lib.ValueIdx

@[expose] public section

set_option maxRecDepth 16384

noncomputable section

namespace Cert.Ssd.Ref

open Cert.Reference4Ideal Cert.Reference4Ideal.Read Idealize.ShloMosaic Idealize.SL.Sem

/-- A sequence's last three rows of the convolution's columns. -/
theorem last_at (x0 : Vec Ideal S32768x9728 .bf16) (b : Fin 16) (p : Fin 3) (q : Fin 3072) :
    val_main_v90 (F := Ideal) x0 (ix3 b p q) = x0 (ix2 (⟨b.val * 2048 + 2045 + p.val, by omega⟩ : Fin 32768) (⟨6144 + q.val, by omega⟩ : Fin 9728)) := by
  rw [val_main_v90_apply, val_main_v2_apply, val_main_v1_apply, val_main_v0_apply]
  show x0 _ = x0 _
  congr 1
  funext a
  refine Fin.ext ?_
  fin_cases a
  · show ((b.val * 2048 + (2045 + p.val)) * 3072 + q.val) / 3072 = b.val * 2048 + 2045 + p.val
    omega
  · show 6144 + ((b.val * 2048 + (2045 + p.val)) * 3072 + q.val) % 3072 = 6144 + q.val
    omega

end Cert.Ssd.Ref

end
-- ==== Proof.SsdClaim.lean ====
/- The state-space program's value claim: its convolution state and its last states are the reference's. -/
module

public import proofs.«01_k».proof.Defs
public import proofs.«01_k».proof.Proof.SsdConv
public import proofs.«01_k».proof.Proof.SsdState
public import proofs.«01_k».proof.Proof.SsdRefState
public import proofs.«01_k».proof.Proof.AttnClaim
public import proofs.«01_k».proof.Proof.Gen.Pre_finite4
public import proofs.«01_k».proof.Proof.SsdRef
public import proofs.«01_k».proof.Proof.Gen.Reference4Ideal.Run

@[expose] public section

set_option maxRecDepth 16384

noncomputable section

namespace Cert.Ssd

open Cert.Kernel4Ideal Cert.Kernel4Ideal.Gen Cert.Kernel4Ideal.Value Idealize.ShloMosaic Idealize.ShloMosaic.TcCoe Idealize.SL.Sem

variable (m : (ℓ : Loc nD τ sig) → Buf (Elt Ideal) ℓ)

/-- The block index of the window written, at a point. -/
theorem idx_all : ∀ t : Fin cfg0.N, win0_12.index t = ![t.val / 16, 0, 0] :=
  (by decide +kernel : ∀ t : Fin grid0.N, _)

/-- The reference's convolution state of the arguments. -/
def refConv (c : Dev nD) : Vec Ideal S16x3x3072 .f32 :=
  Cert.Reference4Ideal.Read.val_main_v90 (F := Ideal) (m ((c : Thread nD τ).loc main_arg0))

/-- What a sequence's last point leaves. -/
theorem last_point (c : Dev nD) (t : Fin cfg0.N) (h1 : t.val % 16 = 15) (p : Fin 3) (q : Fin 3072) (b : Fin 16) (hb : b.val = t.val / 16) :
    (outsAt0 m c t.val t.isLt).2.1 (ix3 0 p q) = refConv m c (ix3 b p q) := by
  rw [outsAt0_C m c t (by omega) h1 h1]
  dsimp only
  refine (out_C_12 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ p q).trans ?_
  rw [blk0, refConv, Ref.last_at]
  refine congrArg (m _) (congrArg (fun z : Fin 32768 => ix2 z (⟨6144 + q.val, by omega⟩ : Fin 9728)) (Fin.ext ?_))
  show t.val * 128 + (125 + p.val) = b.val * 2048 + 2045 + p.val
  omega

/-- The whole result. -/
theorem arr (c : Dev nD) : (dats m 0 c).arrAt 12 cfg0.N = refConv m c :=
  (dats m 0 c).arrAt_eq_of_cover 12 _ (fun t hf => by
    funext y
    obtain ⟨u, p, q, rfl⟩ : ∃ (u : Fin 1) (p : Fin 3) (q : Fin 3072), y = ix3 u p q := ⟨y 0, y 1, y 2, by funext a; fin_cases a <;> rfl⟩
    obtain rfl : u = 0 := Subsingleton.elim _ _
    rw [flushed12]
    have hN := lt_of_lt_of_eq t.isLt N_0
    refine (last_point m c t ((flush0_12 t).mp hf) p q ⟨t.val / 16, by omega⟩ rfl).trans ?_
    show _ = refConv m c (((cfg0.win 12).blk t).view.emb (ix3 0 p q))
    have hx := idx_all t
    congr 1
    funext a
    refine Fin.ext ?_
    fin_cases a
    · show t.val / 16 = win0_12.index t (0 : Fin 3) * 1 + 1 * 0
      rw [hx]; simp
    · show p.val = win0_12.index t (1 : Fin 3) * 3 + 1 * p.val
      rw [hx]; simp
    · show q.val = win0_12.index t (2 : Fin 3) * 3072 + 1 * q.val
      rw [hx]; simp) (fun i => (covered_iff12 i).2 (by
    have h0 : (i 0).val < 16 := (i 0).isLt; have h1 : (i 1).val < 3 := (i 1).isLt; have h2 : (i 2).val < 3072 := (i 2).isLt; omega))

/-- The reference's last states of the arguments. -/
def refState (c : Dev nD) : Vec Ideal S16x2048x128 .f32 :=
  Cert.Reference4Ideal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What a sequence's last point leaves of its states. -/
theorem last_states (c : Dev nD) (hf : Fine m c) (t : Fin cfg0.N) (h1 : t.val % 16 = 15) (C : Fin 2048) (n : Fin 128) (b : Fin 16) (hb : b.val = t.val / 16) :
    (outsAt0 m c t.val t.isLt).2.2.1 (ix3 0 C n) = refState m c (ix3 b C n) := by
  have hC : (⟨512 * (C.val / 512) + C.val % 512, by omega⟩ : Fin 2048) = C := Fin.ext (by show 512 * (C.val / 512) + C.val % 512 = C.val; omega)
  have h := last_state m c hf b t (by omega) ⟨C.val / 512, by omega⟩ n ⟨C.val % 512, by omega⟩
  dsimp only at h
  rw [hC] at h
  refine h.trans ((st_16 _ _ fun k => ?_).trans (Eq.trans ?_ (Ref.state_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b C n).symm))
  · unfold totOf
    split
    · exact racs_real _ _ _ _ _ hf _ _
    · exact ⟨0, rfl⟩
  · refine Finset.sum_congr rfl fun z _ => ?_
    unfold totOf addOf
    rw [dif_pos z.isLt]
    refine congrArg (fun u : EReal => Ideal.exp u * _) (Finset.sum_congr rfl fun k _ => ?_)
    rw [dif_pos k.isLt]

/-- The whole result of the states. -/
theorem arrState (c : Dev nD) (hf : Fine m c) : (dats m 0 c).arrAt 13 cfg0.N = refState m c :=
  (dats m 0 c).arrAt_eq_of_cover 13 _ (fun t ht => by
    funext y
    obtain ⟨u, C, n, rfl⟩ : ∃ (u : Fin 1) (C : Fin 2048) (n : Fin 128), y = ix3 u C n := ⟨y 0, y 1, y 2, by funext a; fin_cases a <;> rfl⟩
    obtain rfl : u = 0 := Subsingleton.elim _ _
    rw [flushed13]
    have hN := lt_of_lt_of_eq t.isLt N_0
    refine (last_states m c hf t ((flush0_13 t).mp ht) C n ⟨t.val / 16, by omega⟩ rfl).trans ?_
    show _ = refState m c (((cfg0.win 13).blk t).view.emb (ix3 0 C n))
    have hx := (idx_state t).2.2.2.2.2.2.2
    congr 1
    funext a
    refine Fin.ext ?_
    fin_cases a
    · show t.val / 16 = win0_13.index t (0 : Fin 3) * 1 + 1 * 0
      rw [hx]; simp
    · show C.val = win0_13.index t (1 : Fin 3) * 2048 + 1 * C.val
      rw [hx]; simp
    · show n.val = win0_13.index t (2 : Fin 3) * 128 + 1 * n.val
      rw [hx]; simp) (fun i => (covered_iff13 i).2 (by
    have h0 : (i 0).val < 16 := (i 0).isLt; have h1 : (i 1).val < 2048 := (i 1).isLt; have h2 : (i 2).val < 128 := (i 2).isLt; omega))

/-- The precondition says that the arguments the decays come from hold real numbers. -/
theorem fine_of_pre (h : Cert.Pre_Kernel4Ideal_finite4 (hPre_finite4 := Cert.Pre_finite4.Gen.facts) m) (c : Dev nD) : Fine m c where
  r1 := fun L h' => by
    have hs : extractStridedSlice Cert.Pre_finite4.S32768x32 ![0, 0] (m ((c : Thread nD τ).loc main_arg1) : FVec Ideal S32768x128 .f32)
        Cert.Pre_finite4.Gen.slices_S32768x128_S32768x32_0_0 (ix2 L h') = m ((c : Thread nD τ).loc main_arg1) (ix2 L ⟨h'.val, by omega⟩) := by
      pointwise
    rw [← hs]
    exact Cert.Attn.real_of_cmp _ (congrFun (h c).1 (ix2 L h'))
  r4 := fun h' => Cert.Attn.real_of_cmp _ (congrFun (h c).2.1 (ix2 0 h'))
  r5 := fun h' => Cert.Attn.real_of_cmp _ (congrFun (h c).2.2 (ix2 0 h'))

/-- Both runs end with the reference's stages of the arguments. -/
theorem algebraic : algebraic_Kernel4Ideal_Reference4Ideal_pre_finite4 (hKernel4Ideal := Cert.Kernel4Ideal.Gen.facts) (hReference4Ideal := Cert.Reference4Ideal.Gen.facts) (hPre_finite4 := Cert.Pre_finite4.Gen.facts) := by
  intro m ρ m' ρ' hp hag
  refine ⟨fun c => refConv m c, fun c => refState m c,
    (θ_run _ _ _).mono (fun r h c => ⟨(h c).2.1.trans (arr m c), (h c).2.2.1.trans (arrState m c (fine_of_pre m hp c)), (h c).2.2.2⟩) (Cert.Kernel4Ideal.Value.run_blocks (F := Ideal) m ρ),
    (θ_run _ _ _).mono (fun r h c => ⟨(h c).1.trans ?_, (h c).2.1.trans ?_, (h c).2.2⟩) (Cert.Reference4Ideal.Value.run (F := Ideal) m' ρ')⟩
  · obtain ⟨h0, -⟩ := hag c
    rw [h0]
    exact Cert.Reference4Ideal.Read.val_main_v90_eq (F := Ideal) _
  · obtain ⟨h0, h1, h2, h3, h4, h5, -⟩ := hag c
    exact (Cert.Reference4Ideal.Read.val_main_v91_eq (F := Ideal) m' c).trans
      (congr (congr (congr (congr (congr (congrArg (Cert.Reference4Ideal.Read.val_main_v91 (F := Ideal)) h0) h1) h2) h3) h4) h5)

end Cert.Ssd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference3Ideal.Run
public import proofs.«01_k».proof.Proof.Gen.Reference3Ideal.Read
public import proofs.«01_k».proof.Proof.Gen.Pre_finite
public import proofs.«01_k».proof.Proof.Gen.Pre_finite4
public import Idealize.ShloMosaic.Adequacy
public import Idealize.ShloMosaic.Init

public import proofs.«01_k».proof.Proof.AttnClaim
public import proofs.«01_k».proof.Proof.InClaim
public import proofs.«01_k».proof.Proof.OutClaim
public import proofs.«01_k».proof.Proof.SsdClaim
public import Idealize.ShloMosaic.Lib.Quiescent

@[expose] public section

noncomputable section

namespace Cert.Proof

open Idealize.ShloMosaic Idealize.SL.Sem Cert.Kernel

/-- The frame of the plain statement ReferenceIdeal: its run leaves the arguments, and it declares no semaphore. -/
theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

/-- The frame of the plain statement Reference2Ideal: its run leaves the arguments, and it declares no semaphore. -/
theorem frame_Reference2Ideal : Cert.quiescent_Reference2Ideal (hReference2Ideal := Cert.Reference2Ideal.Gen.facts) := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

/-- The frame of the plain statement Reference3Ideal: its run leaves the arguments, and it declares no semaphore. -/
theorem frame_Reference3Ideal : Cert.quiescent_Reference3Ideal (hReference3Ideal := Cert.Reference3Ideal.Gen.facts) := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The frame of the plain statement Reference4Ideal: its run leaves the arguments, and it declares no semaphore. -/
theorem frame_Reference4Ideal : Cert.quiescent_Reference4Ideal (hReference4Ideal := Cert.Reference4Ideal.Gen.facts) := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite.Gen.facts, Cert.Pre_finite4.Gen.facts, fun m ρ _ => Cert.Kernel.Gen.frame m ρ,
  fun m ρ _ => Cert.KernelIdeal.Gen.frame m ρ,
  fun m ρ _ => Cert.KernelIdeal.Gen.frame m ρ,
  frame_ReferenceIdeal,
  fun m ρ _ => frame_ReferenceIdeal m ρ trivial,
  fun m ρ _ => Cert.Kernel2.Gen.frame m ρ,
  fun m ρ _ => Cert.Kernel2Ideal.Gen.frame m ρ,
  frame_Reference2Ideal,
  fun m ρ _ => Cert.Kernel3.Gen.frame m ρ,
  fun m ρ _ => Cert.Kernel3Ideal.Gen.frame m ρ,
  frame_Reference3Ideal,
  fun m ρ _ => Cert.Kernel4.Gen.frame m ρ,
  fun m ρ _ => Cert.Kernel4Ideal.Gen.frame m ρ,
  fun m ρ _ => Cert.Kernel4Ideal.Gen.frame m ρ,
  frame_Reference4Ideal,
  fun m ρ _ => frame_Reference4Ideal m ρ trivial,
  IdealRules.named_const.statement Cert.KernelIdeal.κ "mask" .f32 0xF149F2CA#32 ⊥ rfl,
  Cert.Attn.algebraic,
  trivial,
  Cert.InProj.algebraic,
  trivial,
  Cert.OutProj.algebraic,
  trivial,
  Cert.Ssd.algebraic⟩

end Cert.Proof

end
